-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S8x64x256 : Shape := ⟨3, ![8, 64, 256]⟩
abbrev S64x256 : Shape := ⟨2, ![64, 256]⟩
abbrev S2x8 : Shape := ⟨2, ![2, 8]⟩
abbrev S8 : Shape := ⟨1, ![8]⟩
abbrev S3x2 : Shape := ⟨2, ![3, 2]⟩
abbrev S1x1 : Shape := ⟨2, ![1, 1]⟩
abbrev S_ : Shape := ⟨0, ![]⟩
abbrev S1x1024x2048 : Shape := ⟨3, ![1, 1024, 2048]⟩
abbrev S1x2048x1024 : Shape := ⟨3, ![1, 2048, 1024]⟩
abbrev S1024x256 : Shape := ⟨2, ![1024, 256]⟩
abbrev S1x64x256 : Shape := ⟨3, ![1, 64, 256]⟩
abbrev S1 : Shape := ⟨1, ![1]⟩
abbrev S256x1024 : Shape := ⟨2, ![256, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S2x1024x2048, .bf16⟩
  | .local _ .vmem, ⟨5, _⟩ => ⟨S2x2048x1024, .bf16⟩
  | .local _ .vmem, ⟨6, _⟩ => ⟨S8x64x256, .bf16⟩
  | .local _ .vmem, ⟨7, _⟩ => ⟨S8x64x256, .bf16⟩
  | .local _ .vmem, ⟨8, _⟩ => ⟨S8x64x256, .bf16⟩
  | .local _ .vmem, ⟨9, _⟩ => ⟨S64x256, .bf16⟩
  | .local _ .vmem, ⟨10, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v20 : BitVec 1 := Scalar.cmpi .ne v2 c0_i32_19
  let v21 : BitVec 32 := Scalar.extui v20
  let c0_i32_20 : BitVec 32 := 0#32
  let v22 : BitVec 1 := Scalar.cmpi .ne v21 c0_i32_20
  v22

def k0_dev1 : Nat :=
  let c0_i32_1260 : BitVec 32 := 0#32
  let c0_i32_1258 : BitVec 32 := 0#32
  let c1_i32_1259 : BitVec 32 := 1#32
  let v1145 : BitVec 32 := Scalar.muli c0_i32_1258 c1_i32_1259
  let v1146 : BitVec 32 := Scalar.addi c0_i32_1260 v1145
  v1146.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v23 : BitVec 1 := Scalar.cmpi .ne v2 c1_i32_21
  let v24 : BitVec 32 := Scalar.extui v23
  let c0_i32_22 : BitVec 32 := 0#32
  let v25 : BitVec 1 := Scalar.cmpi .ne v24 c0_i32_22
  v25

def k0_dev2 : Nat :=
  let c0_i32_1260 : BitVec 32 := 0#32
  let c1_i32_1258 : BitVec 32 := 1#32
  let c1_i32_1259 : BitVec 32 := 1#32
  let v1145 : BitVec 32 := Scalar.muli c1_i32_1258 c1_i32_1259
  let v1146 : BitVec 32 := Scalar.addi c0_i32_1260 v1145
  v1146.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v26 : BitVec 1 := Scalar.cmpi .ne v2 c2_i32
  let v27 : BitVec 32 := Scalar.extui v26
  let c0_i32_23 : BitVec 32 := 0#32
  let v28 : BitVec 1 := Scalar.cmpi .ne v27 c0_i32_23
  v28

def k0_dev3 : Nat :=
  let c0_i32_1260 : BitVec 32 := 0#32
  let c2_i32_1258 : BitVec 32 := 2#32
  let c1_i32_1259 : BitVec 32 := 1#32
  let v1145 : BitVec 32 := Scalar.muli c2_i32_1258 c1_i32_1259
  let v1146 : BitVec 32 := Scalar.addi c0_i32_1260 v1145
  v1146.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v29 : BitVec 1 := Scalar.cmpi .ne v2 c3_i32
  let v30 : BitVec 32 := Scalar.extui v29
  let c0_i32_24 : BitVec 32 := 0#32
  let v31 : BitVec 1 := Scalar.cmpi .ne v30 c0_i32_24
  v31

def k0_dev4 : Nat :=
  let c0_i32_1260 : BitVec 32 := 0#32
  let c3_i32_1258 : BitVec 32 := 3#32
  let c1_i32_1259 : BitVec 32 := 1#32
  let v1145 : BitVec 32 := Scalar.muli c3_i32_1258 c1_i32_1259
  let v1146 : BitVec 32 := Scalar.addi c0_i32_1260 v1145
  v1146.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v32 : BitVec 1 := Scalar.cmpi .ne v2 c4_i32
  let v33 : BitVec 32 := Scalar.extui v32
  let c0_i32_25 : BitVec 32 := 0#32
  let v34 : BitVec 1 := Scalar.cmpi .ne v33 c0_i32_25
  v34

def k0_dev5 : Nat :=
  let c0_i32_1260 : BitVec 32 := 0#32
  let c4_i32_1258 : BitVec 32 := 4#32
  let c1_i32_1259 : BitVec 32 := 1#32
  let v1145 : BitVec 32 := Scalar.muli c4_i32_1258 c1_i32_1259
  let v1146 : BitVec 32 := Scalar.addi c0_i32_1260 v1145
  v1146.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v35 : BitVec 1 := Scalar.cmpi .ne v2 c5_i32
  let v36 : BitVec 32 := Scalar.extui v35
  let c0_i32_26 : BitVec 32 := 0#32
  let v37 : BitVec 1 := Scalar.cmpi .ne v36 c0_i32_26
  v37

def k0_dev6 : Nat :=
  let c0_i32_1260 : BitVec 32 := 0#32
  let c5_i32_1258 : BitVec 32 := 5#32
  let c1_i32_1259 : BitVec 32 := 1#32
  let v1145 : BitVec 32 := Scalar.muli c5_i32_1258 c1_i32_1259
  let v1146 : BitVec 32 := Scalar.addi c0_i32_1260 v1145
  v1146.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v38 : BitVec 1 := Scalar.cmpi .ne v2 c6_i32
  let v39 : BitVec 32 := Scalar.extui v38
  let c0_i32_27 : BitVec 32 := 0#32
  let v40 : BitVec 1 := Scalar.cmpi .ne v39 c0_i32_27
  v40

def k0_dev7 : Nat :=
  let c0_i32_1260 : BitVec 32 := 0#32
  let c6_i32_1258 : BitVec 32 := 6#32
  let c1_i32_1259 : BitVec 32 := 1#32
  let v1145 : BitVec 32 := Scalar.muli c6_i32_1258 c1_i32_1259
  let v1146 : BitVec 32 := Scalar.addi c0_i32_1260 v1145
  v1146.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v41 : BitVec 1 := Scalar.cmpi .ne v2 c7_i32
  let v42 : BitVec 32 := Scalar.extui v41
  let c0_i32_28 : BitVec 32 := 0#32
  let v43 : BitVec 1 := Scalar.cmpi .ne v42 c0_i32_28
  v43

def k0_dev8 : Nat :=
  let c0_i32_1260 : BitVec 32 := 0#32
  let c7_i32_1258 : BitVec 32 := 7#32
  let c1_i32_1259 : BitVec 32 := 1#32
  let v1145 : BitVec 32 := Scalar.muli c7_i32_1258 c1_i32_1259
  let v1146 : BitVec 32 := Scalar.addi c0_i32_1260 v1145
  v1146.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_111 : BitVec 32 := 0#32
  let v125 : BitVec 1 := Scalar.cmpi .ne v2 c0_i32_111
  let v126 : BitVec 32 := Scalar.extui v125
  let c0_i32_115 : BitVec 32 := 0#32
  let v127 : BitVec 1 := Scalar.cmpi .ne v126 c0_i32_115
  v127

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev9 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_116 : BitVec 32 := 1#32
  let v128 : BitVec 1 := Scalar.cmpi .ne v2 c1_i32_116
  let v129 : BitVec 32 := Scalar.extui v128
  let c0_i32_120 : BitVec 32 := 0#32
  let v130 : BitVec 1 := Scalar.cmpi .ne v129 c0_i32_120
  v130

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev10 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v131 : BitVec 1 := Scalar.cmpi .ne v2 c2_i32_121
  let v132 : BitVec 32 := Scalar.extui v131
  let c0_i32_125 : BitVec 32 := 0#32
  let v133 : BitVec 1 := Scalar.cmpi .ne v132 c0_i32_125
  v133

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev11 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v134 : BitVec 1 := Scalar.cmpi .ne v2 c3_i32_126
  let v135 : BitVec 32 := Scalar.extui v134
  let c0_i32_130 : BitVec 32 := 0#32
  let v136 : BitVec 1 := Scalar.cmpi .ne v135 c0_i32_130
  v136

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev12 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v137 : BitVec 1 := Scalar.cmpi .ne v2 c4_i32_131
  let v138 : BitVec 32 := Scalar.extui v137
  let c0_i32_135 : BitVec 32 := 0#32
  let v139 : BitVec 1 := Scalar.cmpi .ne v138 c0_i32_135
  v139

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev13 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v140 : BitVec 1 := Scalar.cmpi .ne v2 c5_i32_136
  let v141 : BitVec 32 := Scalar.extui v140
  let c0_i32_140 : BitVec 32 := 0#32
  let v142 : BitVec 1 := Scalar.cmpi .ne v141 c0_i32_140
  v142

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev14 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_141 : BitVec 32 := 6#32
  let v143 : BitVec 1 := Scalar.cmpi .ne v2 c6_i32_141
  let v144 : BitVec 32 := Scalar.extui v143
  let c0_i32_145 : BitVec 32 := 0#32
  let v145 : BitVec 1 := Scalar.cmpi .ne v144 c0_i32_145
  v145

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev15 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_146 : BitVec 32 := 7#32
  let v146 : BitVec 1 := Scalar.cmpi .ne v2 c7_i32_146
  let v147 : BitVec 32 := Scalar.extui v146
  let c0_i32_150 : BitVec 32 := 0#32
  let v148 : BitVec 1 := Scalar.cmpi .ne v147 c0_i32_150
  v148

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev16 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v173 : Index := Scalar.indexCast v2
  let c0_167 : Index := 0#32
  let c0_168 : Index := 0#32
  ![v173.toNat, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_198 : BitVec 32 := 0#32
  let v217 : BitVec 1 := Scalar.cmpi .ne v2 c0_i32_198
  let v218 : BitVec 32 := Scalar.extui v217
  let c0_i32_201 : BitVec 32 := 0#32
  let v219 : BitVec 1 := Scalar.cmpi .ne v218 c0_i32_201
  v219

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev17 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_202 : BitVec 32 := 1#32
  let v220 : BitVec 1 := Scalar.cmpi .ne v2 c1_i32_202
  let v221 : BitVec 32 := Scalar.extui v220
  let c0_i32_205 : BitVec 32 := 0#32
  let v222 : BitVec 1 := Scalar.cmpi .ne v221 c0_i32_205
  v222

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev18 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_206 : BitVec 32 := 2#32
  let v223 : BitVec 1 := Scalar.cmpi .ne v2 c2_i32_206
  let v224 : BitVec 32 := Scalar.extui v223
  let c0_i32_209 : BitVec 32 := 0#32
  let v225 : BitVec 1 := Scalar.cmpi .ne v224 c0_i32_209
  v225

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev19 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_210 : BitVec 32 := 3#32
  let v226 : BitVec 1 := Scalar.cmpi .ne v2 c3_i32_210
  let v227 : BitVec 32 := Scalar.extui v226
  let c0_i32_213 : BitVec 32 := 0#32
  let v228 : BitVec 1 := Scalar.cmpi .ne v227 c0_i32_213
  v228

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev20 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v229 : BitVec 1 := Scalar.cmpi .ne v2 c4_i32_214
  let v230 : BitVec 32 := Scalar.extui v229
  let c0_i32_217 : BitVec 32 := 0#32
  let v231 : BitVec 1 := Scalar.cmpi .ne v230 c0_i32_217
  v231

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev21 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_218 : BitVec 32 := 5#32
  let v232 : BitVec 1 := Scalar.cmpi .ne v2 c5_i32_218
  let v233 : BitVec 32 := Scalar.extui v232
  let c0_i32_221 : BitVec 32 := 0#32
  let v234 : BitVec 1 := Scalar.cmpi .ne v233 c0_i32_221
  v234

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev22 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_222 : BitVec 32 := 6#32
  let v235 : BitVec 1 := Scalar.cmpi .ne v2 c6_i32_222
  let v236 : BitVec 32 := Scalar.extui v235
  let c0_i32_225 : BitVec 32 := 0#32
  let v237 : BitVec 1 := Scalar.cmpi .ne v236 c0_i32_225
  v237

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev23 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_226 : BitVec 32 := 7#32
  let v238 : BitVec 1 := Scalar.cmpi .ne v2 c7_i32_226
  let v239 : BitVec 32 := Scalar.extui v238
  let c0_i32_229 : BitVec 32 := 0#32
  let v240 : BitVec 1 := Scalar.cmpi .ne v239 c0_i32_229
  v240

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev24 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_230 : BitVec 32 := 0#32
  let v241 : BitVec 1 := Scalar.cmpi .ne v2 c0_i32_230
  let v242 : BitVec 32 := Scalar.extui v241
  let c0_i32_234 : BitVec 32 := 0#32
  let v243 : BitVec 1 := Scalar.cmpi .ne v242 c0_i32_234
  v243

def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v244 : BitVec 1 := Scalar.cmpi .ne v2 c1_i32_235
  let v245 : BitVec 32 := Scalar.extui v244
  let c0_i32_239 : BitVec 32 := 0#32
  let v246 : BitVec 1 := Scalar.cmpi .ne v245 c0_i32_239
  v246

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_240 : BitVec 32 := 2#32
  let v247 : BitVec 1 := Scalar.cmpi .ne v2 c2_i32_240
  let v248 : BitVec 32 := Scalar.extui v247
  let c0_i32_244 : BitVec 32 := 0#32
  let v249 : BitVec 1 := Scalar.cmpi .ne v248 c0_i32_244
  v249

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_245 : BitVec 32 := 3#32
  let v250 : BitVec 1 := Scalar.cmpi .ne v2 c3_i32_245
  let v251 : BitVec 32 := Scalar.extui v250
  let c0_i32_249 : BitVec 32 := 0#32
  let v252 : BitVec 1 := Scalar.cmpi .ne v251 c0_i32_249
  v252

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_250 : BitVec 32 := 4#32
  let v253 : BitVec 1 := Scalar.cmpi .ne v2 c4_i32_250
  let v254 : BitVec 32 := Scalar.extui v253
  let c0_i32_254 : BitVec 32 := 0#32
  let v255 : BitVec 1 := Scalar.cmpi .ne v254 c0_i32_254
  v255

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_255 : BitVec 32 := 5#32
  let v256 : BitVec 1 := Scalar.cmpi .ne v2 c5_i32_255
  let v257 : BitVec 32 := Scalar.extui v256
  let c0_i32_259 : BitVec 32 := 0#32
  let v258 : BitVec 1 := Scalar.cmpi .ne v257 c0_i32_259
  v258

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_260 : BitVec 32 := 6#32
  let v259 : BitVec 1 := Scalar.cmpi .ne v2 c6_i32_260
  let v260 : BitVec 32 := Scalar.extui v259
  let c0_i32_264 : BitVec 32 := 0#32
  let v261 : BitVec 1 := Scalar.cmpi .ne v260 c0_i32_264
  v261

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_265 : BitVec 32 := 7#32
  let v262 : BitVec 1 := Scalar.cmpi .ne v2 c7_i32_265
  let v263 : BitVec 32 := Scalar.extui v262
  let c0_i32_269 : BitVec 32 := 0#32
  let v264 : BitVec 1 := Scalar.cmpi .ne v263 c0_i32_269
  v264

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let v412 : BitVec 1 := Scalar.cmpi .ne v2 c0_i32_419
  let v413 : BitVec 32 := Scalar.extui v412
  let c0_i32_422 : BitVec 32 := 0#32
  let v414 : BitVec 1 := Scalar.cmpi .ne v413 c0_i32_422
  v414

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_423 : BitVec 32 := 1#32
  let v415 : BitVec 1 := Scalar.cmpi .ne v2 c1_i32_423
  let v416 : BitVec 32 := Scalar.extui v415
  let c0_i32_426 : BitVec 32 := 0#32
  let v417 : BitVec 1 := Scalar.cmpi .ne v416 c0_i32_426
  v417

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_427 : BitVec 32 := 2#32
  let v418 : BitVec 1 := Scalar.cmpi .ne v2 c2_i32_427
  let v419 : BitVec 32 := Scalar.extui v418
  let c0_i32_430 : BitVec 32 := 0#32
  let v420 : BitVec 1 := Scalar.cmpi .ne v419 c0_i32_430
  v420

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_431 : BitVec 32 := 3#32
  let v421 : BitVec 1 := Scalar.cmpi .ne v2 c3_i32_431
  let v422 : BitVec 32 := Scalar.extui v421
  let c0_i32_434 : BitVec 32 := 0#32
  let v423 : BitVec 1 := Scalar.cmpi .ne v422 c0_i32_434
  v423

def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_435 : BitVec 32 := 4#32
  let v424 : BitVec 1 := Scalar.cmpi .ne v2 c4_i32_435
  let v425 : BitVec 32 := Scalar.extui v424
  let c0_i32_438 : BitVec 32 := 0#32
  let v426 : BitVec 1 := Scalar.cmpi .ne v425 c0_i32_438
  v426

def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_439 : BitVec 32 := 5#32
  let v427 : BitVec 1 := Scalar.cmpi .ne v2 c5_i32_439
  let v428 : BitVec 32 := Scalar.extui v427
  let c0_i32_442 : BitVec 32 := 0#32
  let v429 : BitVec 1 := Scalar.cmpi .ne v428 c0_i32_442
  v429

def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_443 : BitVec 32 := 6#32
  let v430 : BitVec 1 := Scalar.cmpi .ne v2 c6_i32_443
  let v431 : BitVec 32 := Scalar.extui v430
  let c0_i32_446 : BitVec 32 := 0#32
  let v432 : BitVec 1 := Scalar.cmpi .ne v431 c0_i32_446
  v432

def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_447 : BitVec 32 := 7#32
  let v433 : BitVec 1 := Scalar.cmpi .ne v2 c7_i32_447
  let v434 : BitVec 32 := Scalar.extui v433
  let c0_i32_450 : BitVec 32 := 0#32
  let v435 : BitVec 1 := Scalar.cmpi .ne v434 c0_i32_450
  v435

def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_472 : BitVec 32 := 0#32
  let v454 : BitVec 1 := Scalar.cmpi .ne v2 c0_i32_472
  let v455 : BitVec 32 := Scalar.extui v454
  let c0_i32_476 : BitVec 32 := 0#32
  let v456 : BitVec 1 := Scalar.cmpi .ne v455 c0_i32_476
  v456

def k0_off50 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev25 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v465 : BitVec 1 := Scalar.cmpi .ne v2 c1_i32_486
  let v466 : BitVec 32 := Scalar.extui v465
  let c0_i32_490 : BitVec 32 := 0#32
  let v467 : BitVec 1 := Scalar.cmpi .ne v466 c0_i32_490
  v467

def k0_off52 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev26 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_500 : BitVec 32 := 2#32
  let v476 : BitVec 1 := Scalar.cmpi .ne v2 c2_i32_500
  let v477 : BitVec 32 := Scalar.extui v476
  let c0_i32_504 : BitVec 32 := 0#32
  let v478 : BitVec 1 := Scalar.cmpi .ne v477 c0_i32_504
  v478

def k0_off54 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev27 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_514 : BitVec 32 := 3#32
  let v487 : BitVec 1 := Scalar.cmpi .ne v2 c3_i32_514
  let v488 : BitVec 32 := Scalar.extui v487
  let c0_i32_518 : BitVec 32 := 0#32
  let v489 : BitVec 1 := Scalar.cmpi .ne v488 c0_i32_518
  v489

def k0_off56 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev28 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_528 : BitVec 32 := 4#32
  let v498 : BitVec 1 := Scalar.cmpi .ne v2 c4_i32_528
  let v499 : BitVec 32 := Scalar.extui v498
  let c0_i32_532 : BitVec 32 := 0#32
  let v500 : BitVec 1 := Scalar.cmpi .ne v499 c0_i32_532
  v500

def k0_off58 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev29 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_542 : BitVec 32 := 5#32
  let v509 : BitVec 1 := Scalar.cmpi .ne v2 c5_i32_542
  let v510 : BitVec 32 := Scalar.extui v509
  let c0_i32_546 : BitVec 32 := 0#32
  let v511 : BitVec 1 := Scalar.cmpi .ne v510 c0_i32_546
  v511

def k0_off60 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev30 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_556 : BitVec 32 := 6#32
  let v520 : BitVec 1 := Scalar.cmpi .ne v2 c6_i32_556
  let v521 : BitVec 32 := Scalar.extui v520
  let c0_i32_560 : BitVec 32 := 0#32
  let v522 : BitVec 1 := Scalar.cmpi .ne v521 c0_i32_560
  v522

def k0_off62 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev31 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_570 : BitVec 32 := 7#32
  let v531 : BitVec 1 := Scalar.cmpi .ne v2 c7_i32_570
  let v532 : BitVec 32 := Scalar.extui v531
  let c0_i32_574 : BitVec 32 := 0#32
  let v533 : BitVec 1 := Scalar.cmpi .ne v532 c0_i32_574
  v533

def k0_off64 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev32 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_cond73 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_622 : BitVec 32 := 0#32
  let v602 : BitVec 1 := Scalar.cmpi .ne v2 c0_i32_622
  let v603 : BitVec 32 := Scalar.extui v602
  let c0_i32_625 : BitVec 32 := 0#32
  let v604 : BitVec 1 := Scalar.cmpi .ne v603 c0_i32_625
  v604

def k0_off66 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev33 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond74 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_626 : BitVec 32 := 1#32
  let v605 : BitVec 1 := Scalar.cmpi .ne v2 c1_i32_626
  let v606 : BitVec 32 := Scalar.extui v605
  let c0_i32_629 : BitVec 32 := 0#32
  let v607 : BitVec 1 := Scalar.cmpi .ne v606 c0_i32_629
  v607

def k0_off68 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev34 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond75 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_630 : BitVec 32 := 2#32
  let v608 : BitVec 1 := Scalar.cmpi .ne v2 c2_i32_630
  let v609 : BitVec 32 := Scalar.extui v608
  let c0_i32_633 : BitVec 32 := 0#32
  let v610 : BitVec 1 := Scalar.cmpi .ne v609 c0_i32_633
  v610

def k0_off70 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev35 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond76 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_634 : BitVec 32 := 3#32
  let v611 : BitVec 1 := Scalar.cmpi .ne v2 c3_i32_634
  let v612 : BitVec 32 := Scalar.extui v611
  let c0_i32_637 : BitVec 32 := 0#32
  let v613 : BitVec 1 := Scalar.cmpi .ne v612 c0_i32_637
  v613

def k0_off72 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev36 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_638 : BitVec 32 := 4#32
  let v614 : BitVec 1 := Scalar.cmpi .ne v2 c4_i32_638
  let v615 : BitVec 32 := Scalar.extui v614
  let c0_i32_641 : BitVec 32 := 0#32
  let v616 : BitVec 1 := Scalar.cmpi .ne v615 c0_i32_641
  v616

def k0_off74 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev37 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond78 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_642 : BitVec 32 := 5#32
  let v617 : BitVec 1 := Scalar.cmpi .ne v2 c5_i32_642
  let v618 : BitVec 32 := Scalar.extui v617
  let c0_i32_645 : BitVec 32 := 0#32
  let v619 : BitVec 1 := Scalar.cmpi .ne v618 c0_i32_645
  v619

def k0_off76 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev38 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond79 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_646 : BitVec 32 := 6#32
  let v620 : BitVec 1 := Scalar.cmpi .ne v2 c6_i32_646
  let v621 : BitVec 32 := Scalar.extui v620
  let c0_i32_649 : BitVec 32 := 0#32
  let v622 : BitVec 1 := Scalar.cmpi .ne v621 c0_i32_649
  v622

def k0_off78 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev39 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond80 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_650 : BitVec 32 := 7#32
  let v623 : BitVec 1 := Scalar.cmpi .ne v2 c7_i32_650
  let v624 : BitVec 32 := Scalar.extui v623
  let c0_i32_653 : BitVec 32 := 0#32
  let v625 : BitVec 1 := Scalar.cmpi .ne v624 c0_i32_653
  v625

def k0_off80 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev40 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_cond81 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_654 : BitVec 32 := 0#32
  let v626 : BitVec 1 := Scalar.cmpi .ne v2 c0_i32_654
  let v627 : BitVec 32 := Scalar.extui v626
  let c0_i32_658 : BitVec 32 := 0#32
  let v628 : BitVec 1 := Scalar.cmpi .ne v627 c0_i32_658
  v628

def k0_off82 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_659 : BitVec 32 := 1#32
  let v629 : BitVec 1 := Scalar.cmpi .ne v2 c1_i32_659
  let v630 : BitVec 32 := Scalar.extui v629
  let c0_i32_663 : BitVec 32 := 0#32
  let v631 : BitVec 1 := Scalar.cmpi .ne v630 c0_i32_663
  v631

def k0_off83 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_664 : BitVec 32 := 2#32
  let v632 : BitVec 1 := Scalar.cmpi .ne v2 c2_i32_664
  let v633 : BitVec 32 := Scalar.extui v632
  let c0_i32_668 : BitVec 32 := 0#32
  let v634 : BitVec 1 := Scalar.cmpi .ne v633 c0_i32_668
  v634

def k0_off84 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_669 : BitVec 32 := 3#32
  let v635 : BitVec 1 := Scalar.cmpi .ne v2 c3_i32_669
  let v636 : BitVec 32 := Scalar.extui v635
  let c0_i32_673 : BitVec 32 := 0#32
  let v637 : BitVec 1 := Scalar.cmpi .ne v636 c0_i32_673
  v637

def k0_off85 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_674 : BitVec 32 := 4#32
  let v638 : BitVec 1 := Scalar.cmpi .ne v2 c4_i32_674
  let v639 : BitVec 32 := Scalar.extui v638
  let c0_i32_678 : BitVec 32 := 0#32
  let v640 : BitVec 1 := Scalar.cmpi .ne v639 c0_i32_678
  v640

def k0_off86 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_679 : BitVec 32 := 5#32
  let v641 : BitVec 1 := Scalar.cmpi .ne v2 c5_i32_679
  let v642 : BitVec 32 := Scalar.extui v641
  let c0_i32_683 : BitVec 32 := 0#32
  let v643 : BitVec 1 := Scalar.cmpi .ne v642 c0_i32_683
  v643

def k0_off87 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_684 : BitVec 32 := 6#32
  let v644 : BitVec 1 := Scalar.cmpi .ne v2 c6_i32_684
  let v645 : BitVec 32 := Scalar.extui v644
  let c0_i32_688 : BitVec 32 := 0#32
  let v646 : BitVec 1 := Scalar.cmpi .ne v645 c0_i32_688
  v646

def k0_off88 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_689 : BitVec 32 := 7#32
  let v647 : BitVec 1 := Scalar.cmpi .ne v2 c7_i32_689
  let v648 : BitVec 32 := Scalar.extui v647
  let c0_i32_693 : BitVec 32 := 0#32
  let v649 : BitVec 1 := Scalar.cmpi .ne v648 c0_i32_693
  v649

def k0_off89 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_838 : BitVec 32 := 0#32
  let v785 : BitVec 1 := Scalar.cmpi .ne v2 c0_i32_838
  let v786 : BitVec 32 := Scalar.extui v785
  let c0_i32_841 : BitVec 32 := 0#32
  let v787 : BitVec 1 := Scalar.cmpi .ne v786 c0_i32_841
  v787

def k0_off90 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_842 : BitVec 32 := 1#32
  let v788 : BitVec 1 := Scalar.cmpi .ne v2 c1_i32_842
  let v789 : BitVec 32 := Scalar.extui v788
  let c0_i32_845 : BitVec 32 := 0#32
  let v790 : BitVec 1 := Scalar.cmpi .ne v789 c0_i32_845
  v790

def k0_off91 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_846 : BitVec 32 := 2#32
  let v791 : BitVec 1 := Scalar.cmpi .ne v2 c2_i32_846
  let v792 : BitVec 32 := Scalar.extui v791
  let c0_i32_849 : BitVec 32 := 0#32
  let v793 : BitVec 1 := Scalar.cmpi .ne v792 c0_i32_849
  v793

def k0_off92 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_850 : BitVec 32 := 3#32
  let v794 : BitVec 1 := Scalar.cmpi .ne v2 c3_i32_850
  let v795 : BitVec 32 := Scalar.extui v794
  let c0_i32_853 : BitVec 32 := 0#32
  let v796 : BitVec 1 := Scalar.cmpi .ne v795 c0_i32_853
  v796

def k0_off93 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_854 : BitVec 32 := 4#32
  let v797 : BitVec 1 := Scalar.cmpi .ne v2 c4_i32_854
  let v798 : BitVec 32 := Scalar.extui v797
  let c0_i32_857 : BitVec 32 := 0#32
  let v799 : BitVec 1 := Scalar.cmpi .ne v798 c0_i32_857
  v799

def k0_off94 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_858 : BitVec 32 := 5#32
  let v800 : BitVec 1 := Scalar.cmpi .ne v2 c5_i32_858
  let v801 : BitVec 32 := Scalar.extui v800
  let c0_i32_861 : BitVec 32 := 0#32
  let v802 : BitVec 1 := Scalar.cmpi .ne v801 c0_i32_861
  v802

def k0_off95 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_862 : BitVec 32 := 6#32
  let v803 : BitVec 1 := Scalar.cmpi .ne v2 c6_i32_862
  let v804 : BitVec 32 := Scalar.extui v803
  let c0_i32_865 : BitVec 32 := 0#32
  let v805 : BitVec 1 := Scalar.cmpi .ne v804 c0_i32_865
  v805

def k0_off96 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_866 : BitVec 32 := 7#32
  let v806 : BitVec 1 := Scalar.cmpi .ne v2 c7_i32_866
  let v807 : BitVec 32 := Scalar.extui v806
  let c0_i32_869 : BitVec 32 := 0#32
  let v808 : BitVec 1 := Scalar.cmpi .ne v807 c0_i32_869
  v808

def k0_off97 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_881 : BitVec 32 := 0#32
  let v819 : BitVec 1 := Scalar.cmpi .ne v2 c0_i32_881
  let v820 : BitVec 32 := Scalar.extui v819
  let c0_i32_885 : BitVec 32 := 0#32
  let v821 : BitVec 1 := Scalar.cmpi .ne v820 c0_i32_885
  v821

def k0_off98 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev41 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond106 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_895 : BitVec 32 := 1#32
  let v830 : BitVec 1 := Scalar.cmpi .ne v2 c1_i32_895
  let v831 : BitVec 32 := Scalar.extui v830
  let c0_i32_899 : BitVec 32 := 0#32
  let v832 : BitVec 1 := Scalar.cmpi .ne v831 c0_i32_899
  v832

def k0_off100 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev42 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond107 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_909 : BitVec 32 := 2#32
  let v841 : BitVec 1 := Scalar.cmpi .ne v2 c2_i32_909
  let v842 : BitVec 32 := Scalar.extui v841
  let c0_i32_913 : BitVec 32 := 0#32
  let v843 : BitVec 1 := Scalar.cmpi .ne v842 c0_i32_913
  v843

def k0_off102 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off103 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev43 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond108 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_923 : BitVec 32 := 3#32
  let v852 : BitVec 1 := Scalar.cmpi .ne v2 c3_i32_923
  let v853 : BitVec 32 := Scalar.extui v852
  let c0_i32_927 : BitVec 32 := 0#32
  let v854 : BitVec 1 := Scalar.cmpi .ne v853 c0_i32_927
  v854

def k0_off104 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off105 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev44 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond109 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_937 : BitVec 32 := 4#32
  let v863 : BitVec 1 := Scalar.cmpi .ne v2 c4_i32_937
  let v864 : BitVec 32 := Scalar.extui v863
  let c0_i32_941 : BitVec 32 := 0#32
  let v865 : BitVec 1 := Scalar.cmpi .ne v864 c0_i32_941
  v865

def k0_off106 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off107 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev45 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond110 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_951 : BitVec 32 := 5#32
  let v874 : BitVec 1 := Scalar.cmpi .ne v2 c5_i32_951
  let v875 : BitVec 32 := Scalar.extui v874
  let c0_i32_955 : BitVec 32 := 0#32
  let v876 : BitVec 1 := Scalar.cmpi .ne v875 c0_i32_955
  v876

def k0_off108 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off109 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev46 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond111 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_965 : BitVec 32 := 6#32
  let v885 : BitVec 1 := Scalar.cmpi .ne v2 c6_i32_965
  let v886 : BitVec 32 := Scalar.extui v885
  let c0_i32_969 : BitVec 32 := 0#32
  let v887 : BitVec 1 := Scalar.cmpi .ne v886 c0_i32_969
  v887

def k0_off110 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off111 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev47 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond112 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_979 : BitVec 32 := 7#32
  let v896 : BitVec 1 := Scalar.cmpi .ne v2 c7_i32_979
  let v897 : BitVec 32 := Scalar.extui v896
  let c0_i32_983 : BitVec 32 := 0#32
  let v898 : BitVec 1 := Scalar.cmpi .ne v897 c0_i32_983
  v898

def k0_off112 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off113 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev48 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_cond121 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1031 : BitVec 32 := 0#32
  let v967 : BitVec 1 := Scalar.cmpi .ne v2 c0_i32_1031
  let v968 : BitVec 32 := Scalar.extui v967
  let c0_i32_1034 : BitVec 32 := 0#32
  let v969 : BitVec 1 := Scalar.cmpi .ne v968 c0_i32_1034
  v969

def k0_off114 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off115 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev49 : Nat :=
  let c0_i32_1259 : BitVec 32 := 0#32
  let c0_i32_1257 : BitVec 32 := 0#32
  let c1_i32_1258 : BitVec 32 := 1#32
  let v1145 : BitVec 32 := Scalar.muli c0_i32_1257 c1_i32_1258
  let v1146 : BitVec 32 := Scalar.addi c0_i32_1259 v1145
  v1146.toNat
def k0_cond122 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1035 : BitVec 32 := 1#32
  let v970 : BitVec 1 := Scalar.cmpi .ne v2 c1_i32_1035
  let v971 : BitVec 32 := Scalar.extui v970
  let c0_i32_1038 : BitVec 32 := 0#32
  let v972 : BitVec 1 := Scalar.cmpi .ne v971 c0_i32_1038
  v972

def k0_off116 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off117 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev50 : Nat :=
  let c0_i32_1259 : BitVec 32 := 0#32
  let c1_i32_1257 : BitVec 32 := 1#32
  let c1_i32_1258 : BitVec 32 := 1#32
  let v1145 : BitVec 32 := Scalar.muli c1_i32_1257 c1_i32_1258
  let v1146 : BitVec 32 := Scalar.addi c0_i32_1259 v1145
  v1146.toNat
def k0_cond123 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1039 : BitVec 32 := 2#32
  let v973 : BitVec 1 := Scalar.cmpi .ne v2 c2_i32_1039
  let v974 : BitVec 32 := Scalar.extui v973
  let c0_i32_1042 : BitVec 32 := 0#32
  let v975 : BitVec 1 := Scalar.cmpi .ne v974 c0_i32_1042
  v975

def k0_off118 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off119 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev51 : Nat :=
  let c0_i32_1259 : BitVec 32 := 0#32
  let c2_i32_1257 : BitVec 32 := 2#32
  let c1_i32_1258 : BitVec 32 := 1#32
  let v1145 : BitVec 32 := Scalar.muli c2_i32_1257 c1_i32_1258
  let v1146 : BitVec 32 := Scalar.addi c0_i32_1259 v1145
  v1146.toNat
def k0_cond124 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1043 : BitVec 32 := 3#32
  let v976 : BitVec 1 := Scalar.cmpi .ne v2 c3_i32_1043
  let v977 : BitVec 32 := Scalar.extui v976
  let c0_i32_1046 : BitVec 32 := 0#32
  let v978 : BitVec 1 := Scalar.cmpi .ne v977 c0_i32_1046
  v978

def k0_off120 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off121 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev52 : Nat :=
  let c0_i32_1259 : BitVec 32 := 0#32
  let c3_i32_1257 : BitVec 32 := 3#32
  let c1_i32_1258 : BitVec 32 := 1#32
  let v1145 : BitVec 32 := Scalar.muli c3_i32_1257 c1_i32_1258
  let v1146 : BitVec 32 := Scalar.addi c0_i32_1259 v1145
  v1146.toNat
def k0_cond125 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1047 : BitVec 32 := 4#32
  let v979 : BitVec 1 := Scalar.cmpi .ne v2 c4_i32_1047
  let v980 : BitVec 32 := Scalar.extui v979
  let c0_i32_1050 : BitVec 32 := 0#32
  let v981 : BitVec 1 := Scalar.cmpi .ne v980 c0_i32_1050
  v981

def k0_off122 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev53 : Nat :=
  let c0_i32_1259 : BitVec 32 := 0#32
  let c4_i32_1257 : BitVec 32 := 4#32
  let c1_i32_1258 : BitVec 32 := 1#32
  let v1145 : BitVec 32 := Scalar.muli c4_i32_1257 c1_i32_1258
  let v1146 : BitVec 32 := Scalar.addi c0_i32_1259 v1145
  v1146.toNat
def k0_cond126 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1051 : BitVec 32 := 5#32
  let v982 : BitVec 1 := Scalar.cmpi .ne v2 c5_i32_1051
  let v983 : BitVec 32 := Scalar.extui v982
  let c0_i32_1054 : BitVec 32 := 0#32
  let v984 : BitVec 1 := Scalar.cmpi .ne v983 c0_i32_1054
  v984

def k0_off124 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off125 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev54 : Nat :=
  let c0_i32_1259 : BitVec 32 := 0#32
  let c5_i32_1257 : BitVec 32 := 5#32
  let c1_i32_1258 : BitVec 32 := 1#32
  let v1145 : BitVec 32 := Scalar.muli c5_i32_1257 c1_i32_1258
  let v1146 : BitVec 32 := Scalar.addi c0_i32_1259 v1145
  v1146.toNat
def k0_cond127 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1055 : BitVec 32 := 6#32
  let v985 : BitVec 1 := Scalar.cmpi .ne v2 c6_i32_1055
  let v986 : BitVec 32 := Scalar.extui v985
  let c0_i32_1058 : BitVec 32 := 0#32
  let v987 : BitVec 1 := Scalar.cmpi .ne v986 c0_i32_1058
  v987

def k0_off126 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off127 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev55 : Nat :=
  let c0_i32_1259 : BitVec 32 := 0#32
  let c6_i32_1257 : BitVec 32 := 6#32
  let c1_i32_1258 : BitVec 32 := 1#32
  let v1145 : BitVec 32 := Scalar.muli c6_i32_1257 c1_i32_1258
  let v1146 : BitVec 32 := Scalar.addi c0_i32_1259 v1145
  v1146.toNat
def k0_cond128 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1059 : BitVec 32 := 7#32
  let v988 : BitVec 1 := Scalar.cmpi .ne v2 c7_i32_1059
  let v989 : BitVec 32 := Scalar.extui v988
  let c0_i32_1062 : BitVec 32 := 0#32
  let v990 : BitVec 1 := Scalar.cmpi .ne v989 c0_i32_1062
  v990

def k0_off128 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off129 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1260 : BitVec 32 := 0#32
  let c0_i32_1261 : BitVec 32 := 0#32
  ![v2.toNat, 0, 0]
def k0_dev56 : Nat :=
  let c0_i32_1259 : BitVec 32 := 0#32
  let c7_i32_1257 : BitVec 32 := 7#32
  let c1_i32_1258 : BitVec 32 := 1#32
  let v1145 : BitVec 32 := Scalar.muli c7_i32_1257 c1_i32_1258
  let v1146 : BitVec 32 := Scalar.addi c0_i32_1259 v1145
  v1146.toNat
def k0_cond129 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1063 : BitVec 32 := 0#32
  let v991 : BitVec 1 := Scalar.cmpi .ne v2 c0_i32_1063
  let v992 : BitVec 32 := Scalar.extui v991
  let c0_i32_1067 : BitVec 32 := 0#32
  let v993 : BitVec 1 := Scalar.cmpi .ne v992 c0_i32_1067
  v993

def k0_off130 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1068 : BitVec 32 := 1#32
  let v994 : BitVec 1 := Scalar.cmpi .ne v2 c1_i32_1068
  let v995 : BitVec 32 := Scalar.extui v994
  let c0_i32_1072 : BitVec 32 := 0#32
  let v996 : BitVec 1 := Scalar.cmpi .ne v995 c0_i32_1072
  v996

def k0_off131 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1073 : BitVec 32 := 2#32
  let v997 : BitVec 1 := Scalar.cmpi .ne v2 c2_i32_1073
  let v998 : BitVec 32 := Scalar.extui v997
  let c0_i32_1077 : BitVec 32 := 0#32
  let v999 : BitVec 1 := Scalar.cmpi .ne v998 c0_i32_1077
  v999

def k0_off132 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1078 : BitVec 32 := 3#32
  let v1000 : BitVec 1 := Scalar.cmpi .ne v2 c3_i32_1078
  let v1001 : BitVec 32 := Scalar.extui v1000
  let c0_i32_1082 : BitVec 32 := 0#32
  let v1002 : BitVec 1 := Scalar.cmpi .ne v1001 c0_i32_1082
  v1002

def k0_off133 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1083 : BitVec 32 := 4#32
  let v1003 : BitVec 1 := Scalar.cmpi .ne v2 c4_i32_1083
  let v1004 : BitVec 32 := Scalar.extui v1003
  let c0_i32_1087 : BitVec 32 := 0#32
  let v1005 : BitVec 1 := Scalar.cmpi .ne v1004 c0_i32_1087
  v1005

def k0_off134 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1088 : BitVec 32 := 5#32
  let v1006 : BitVec 1 := Scalar.cmpi .ne v2 c5_i32_1088
  let v1007 : BitVec 32 := Scalar.extui v1006
  let c0_i32_1092 : BitVec 32 := 0#32
  let v1008 : BitVec 1 := Scalar.cmpi .ne v1007 c0_i32_1092
  v1008

def k0_off135 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1093 : BitVec 32 := 6#32
  let v1009 : BitVec 1 := Scalar.cmpi .ne v2 c6_i32_1093
  let v1010 : BitVec 32 := Scalar.extui v1009
  let c0_i32_1097 : BitVec 32 := 0#32
  let v1011 : BitVec 1 := Scalar.cmpi .ne v1010 c0_i32_1097
  v1011

def k0_off136 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1098 : BitVec 32 := 7#32
  let v1012 : BitVec 1 := Scalar.cmpi .ne v2 c7_i32_1098
  let v1013 : BitVec 32 := Scalar.extui v1012
  let c0_i32_1102 : BitVec 32 := 0#32
  let v1014 : BitVec 1 := Scalar.cmpi .ne v1013 c0_i32_1102
  v1014

def k0_off137 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1261 : BitVec 32 := 0#32
  let c0_i32_1262 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1225 : BitVec 32 := 0#32
  let v1121 : BitVec 1 := Scalar.cmpi .ne v2 c0_i32_1225
  let v1122 : BitVec 32 := Scalar.extui v1121
  let c0_i32_1228 : BitVec 32 := 0#32
  let v1123 : BitVec 1 := Scalar.cmpi .ne v1122 c0_i32_1228
  v1123

def k0_off138 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1229 : BitVec 32 := 1#32
  let v1124 : BitVec 1 := Scalar.cmpi .ne v2 c1_i32_1229
  let v1125 : BitVec 32 := Scalar.extui v1124
  let c0_i32_1232 : BitVec 32 := 0#32
  let v1126 : BitVec 1 := Scalar.cmpi .ne v1125 c0_i32_1232
  v1126

def k0_off139 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1233 : BitVec 32 := 2#32
  let v1127 : BitVec 1 := Scalar.cmpi .ne v2 c2_i32_1233
  let v1128 : BitVec 32 := Scalar.extui v1127
  let c0_i32_1236 : BitVec 32 := 0#32
  let v1129 : BitVec 1 := Scalar.cmpi .ne v1128 c0_i32_1236
  v1129

def k0_off140 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1237 : BitVec 32 := 3#32
  let v1130 : BitVec 1 := Scalar.cmpi .ne v2 c3_i32_1237
  let v1131 : BitVec 32 := Scalar.extui v1130
  let c0_i32_1240 : BitVec 32 := 0#32
  let v1132 : BitVec 1 := Scalar.cmpi .ne v1131 c0_i32_1240
  v1132

def k0_off141 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1241 : BitVec 32 := 4#32
  let v1133 : BitVec 1 := Scalar.cmpi .ne v2 c4_i32_1241
  let v1134 : BitVec 32 := Scalar.extui v1133
  let c0_i32_1244 : BitVec 32 := 0#32
  let v1135 : BitVec 1 := Scalar.cmpi .ne v1134 c0_i32_1244
  v1135

def k0_off142 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1245 : BitVec 32 := 5#32
  let v1136 : BitVec 1 := Scalar.cmpi .ne v2 c5_i32_1245
  let v1137 : BitVec 32 := Scalar.extui v1136
  let c0_i32_1248 : BitVec 32 := 0#32
  let v1138 : BitVec 1 := Scalar.cmpi .ne v1137 c0_i32_1248
  v1138

def k0_off143 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1249 : BitVec 32 := 6#32
  let v1139 : BitVec 1 := Scalar.cmpi .ne v2 c6_i32_1249
  let v1140 : BitVec 32 := Scalar.extui v1139
  let c0_i32_1252 : BitVec 32 := 0#32
  let v1141 : BitVec 1 := Scalar.cmpi .ne v1140 c0_i32_1252
  v1141

def k0_off144 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1253 : BitVec 32 := 7#32
  let v1142 : BitVec 1 := Scalar.cmpi .ne v2 c7_i32_1253
  let v1143 : BitVec 32 := Scalar.extui v1142
  let c0_i32_1256 : BitVec 32 := 0#32
  let v1144 : BitVec 1 := Scalar.cmpi .ne v1143 c0_i32_1256
  v1144

def k0_off145 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1259 : BitVec 32 := 0#32
  let c0_i32_1260 : BitVec 32 := 0#32
  ![v2.toNat, 0, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x8192 : Shape := ⟨2, ![64, 8192]⟩
abbrev S8192x2048 : Shape := ⟨2, ![8192, 2048]⟩
abbrev S2048x8192 : Shape := ⟨2, ![2048, 8192]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x8192, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x8192, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KI.Common.lean ====
/-
# The kernel's memrefs, semaphores and slots

The names every later module uses: the scratch buffers as memrefs, the semaphore of each cell, and the
slots of the stacked buffers as points-to assertions — with a known content, or with any content — and how
a load, a store or a copy acts on one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the kernel's own rounds -/

abbrev UB : Type := URounds (GSem nD τ sig) (Fin 8)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## Memrefs -/

abbrev xM : Memref sig .tc .vmem S64x1024 .f32 := Memref.whole cc0_stg0_0
abbrev oM : Memref sig .tc .vmem S64x1024 .f32 := Memref.whole cc0_stg1_0
abbrev wvM : Memref sig .tc .vmem S2x1024x2048 .f32 := Memref.whole cc0_scratch0
abbrev woM : Memref sig .tc .vmem S2x2048x1024 .f32 := Memref.whole cc0_scratch1
abbrev wibM : Memref sig .tc .vmem S2x1024x2048 .bf16 := Memref.whole cc0_scratch2
abbrev wobM : Memref sig .tc .vmem S2x2048x1024 .bf16 := Memref.whole cc0_scratch3
abbrev pbM : Memref sig .tc .vmem S8x64x256 .bf16 := Memref.whole cc0_scratch4
abbrev rsM : Memref sig .tc .vmem S8x64x256 .bf16 := Memref.whole cc0_scratch5
abbrev agM : Memref sig .tc .vmem S8x64x256 .bf16 := Memref.whole cc0_scratch6
abbrev chM : Memref sig .tc .vmem S64x256 .bf16 := Memref.whole cc0_scratch7
abbrev xlM : Memref sig .tc .vmem S64x1024 .f32 := Memref.whole cc0_scratch8
abbrev sendS : DmaSems sig S2x8 := cc0_scratch9
abbrev rsS : DmaSems sig S8 := cc0_scratch10
abbrev agS : DmaSems sig S8 := cc0_scratch11
abbrev wS : DmaSems sig S3x2 := cc0_scratch12

/-! ## Semaphores -/

abbrev barS : Sem sig := (SemArray.scalar (sig.barrier 0 rfl) : Sems sig S_).sem

/-- The send semaphore of the copies to device `t`, of the first (`0`) and second (`1`) exchange. -/
def s0S (t : Fin 8) : DmaSem sig := (⟨2 + t.val, by have := t.isLt; show 2 + t.val < 40; omega⟩ : Fin 40)
def s1S (t : Fin 8) : DmaSem sig := (⟨10 + t.val, by have := t.isLt; show 10 + t.val < 40; omega⟩ : Fin 40)
/-- The receive semaphores of what device `t` sends, of the two exchanges. -/
def rS (t : Fin 8) : DmaSem sig := (⟨18 + t.val, by have := t.isLt; show 18 + t.val < 40; omega⟩ : Fin 40)
def aS (t : Fin 8) : DmaSem sig := (⟨26 + t.val, by have := t.isLt; show 26 + t.val < 40; omega⟩ : Fin 40)
/-- The semaphores of the six weight copies. -/
def wgS (q : Fin 6) : DmaSem sig := (⟨34 + q.val, by have := q.isLt; show 34 + q.val < 40; omega⟩ : Fin 40)

theorem sem_s0 (t : Fin 8) {inb} : ((sendS.slice (Rect.unit (s := S2x8) ![0, t.val] S1x1.size inb)).squeeze S_ squeezes_S1x1_S_).sem = s0S t := by
  revert inb; revert t; decide
theorem sem_s1 (t : Fin 8) {inb} : ((sendS.slice (Rect.unit (s := S2x8) ![1, t.val] S1x1.size inb)).squeeze S_ squeezes_S1x1_S_).sem = s1S t := by
  revert inb; revert t; decide
theorem sem_r (t : Fin 8) {inb} : ((rsS.slice (Rect.unit (s := S8) ![t.val] S1.size inb)).squeeze S_ squeezes_S1_S_).sem = rS t := by
  revert inb; revert t; decide
theorem sem_a (t : Fin 8) {inb} : ((agS.slice (Rect.unit (s := S8) ![t.val] S1.size inb)).squeeze S_ squeezes_S1_S_).sem = aS t := by
  revert inb; revert t; decide

/-! ## Slots of the stacked buffers -/

/-- Slot `k` of a stack of eight chunks. -/
abbrev r8 (k : Fin 8) : Rect S8x64x256 :=
  Rect.unit (s := S8x64x256) ![k.val, 0, 0] S1x64x256.size (fun a => by
    have := k.isLt; match a with
    | 0 => show k.val + 1 ≤ 8; omega
    | 1 => exact Nat.le_refl 64
    | 2 => exact Nat.le_refl 256)
abbrev rI (k : Fin 2) : Rect S2x1024x2048 :=
  Rect.unit (s := S2x1024x2048) ![k.val, 0, 0] S1x1024x2048.size (fun a => by
    have := k.isLt; match a with
    | 0 => show k.val + 1 ≤ 2; omega
    | 1 => exact Nat.le_refl 1024
    | 2 => exact Nat.le_refl 2048)
abbrev rO (k : Fin 2) : Rect S2x2048x1024 :=
  Rect.unit (s := S2x2048x1024) ![k.val, 0, 0] S1x2048x1024.size (fun a => by
    have := k.isLt; match a with
    | 0 => show k.val + 1 ≤ 2; omega
    | 1 => exact Nat.le_refl 2048
    | 2 => exact Nat.le_refl 1024)

section Slots
variable {cs : CoreSpace} {s s' : Shape} {e : EltTy}

/-- The part of memref `M` under the rectangle `r`, on device `c`, holds `w` there. -/
def slotV (M : Memref sig .tc cs s e) (c : Dev nD) (r : Rect s) (w : Vec F r.shape e) : sProp 𝕄 :=
  iprop(∃ f, (M.view.loc (c : Thread nD τ) ↦[(M.view.slice r).set]{fullShare} f) ∗ ⌜M.view.readAt (Elt F) r.toLoadRect f = w⌝)
/-- The part of memref `M` under the rectangle `r`, on device `c`, holds something. -/
def slotAny (M : Memref sig .tc cs s e) (c : Dev nD) (r : Rect s) : sProp 𝕄 :=
  iprop(∃ f, (M.view.loc (c : Thread nD τ) ↦[(M.view.slice r).set]{fullShare} f))

omit [FloatOps F] in
instance slotV_storable (M : Memref sig .tc cs s e) (c : Dev nD) (r : Rect s) (w : Vec F r.shape e) :
    BI.Storable (upEmb : UEmb _ 𝕄) (slotV M c r w) := by unfold slotV; infer_instance
omit [FloatOps F] in
instance slotAny_storable (M : Memref sig .tc cs s e) (c : Dev nD) (r : Rect s) :
    BI.Storable (upEmb : UEmb _ 𝕄) (slotAny (F := F) M c r) := by unfold slotAny; infer_instance

omit [FloatOps F] in
theorem slotV_any (M : Memref sig .tc cs s e) (c : Dev nD) (r : Rect s) (w : Vec F r.shape e) : slotV M c r w ⊢ slotAny M c r := by
  unfold slotV slotAny
  iintro ⟨%f, H, -⟩
  iexists f; iexact H

/-! ## Loads and stores on a slot -/

/-- The weakest precondition of a program of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program whose first operation is `e` is that operation followed by the rest. -/
theorem WP_lift {α β : Type} (c : Dev nD) (e : TpuEff nD τ sig (Elt F) Λ₀ .tc β) (K : β → Prog (TpuEff nD τ sig (Elt F) Λ₀ .tc) α) (Q : α → sProp 𝕄) :
    WP c (Prog.lift e >>= K) Q = WP c (.op e K) Q := rfl

/-- A load of a whole slot reads its content. -/
theorem ld_slot {α : Type} {M : Memref sig .tc cs s e} {c : Dev nD} {r : Rect s} {w : Vec F r.shape e} {hl}
    {K : Vec F r.shape e → Prog (TpuEff nD τ sig (Elt F) Λ₀ .tc) α} {Q : α → sProp 𝕄} :
    slotV M c r w ⊢ iprop((slotV M c r w -∗ WP c (K w) Q) -∗ WP c (Prog.lift (.load M r.toLoadRect hl) >>= K) Q) := by
  unfold slotV
  rw [WP_lift]
  iintro ⟨%f, H, %hf⟩ HK
  subst hf
  iapply (wp_load (defs := defs₀ (F := F)) 𝒱₀ (c : Thread nD τ) none Set.univ (m := M) (r := r.toLoadRect) (f := f) (by rw [View.set_slice]; exact Finset.Subset.refl _)) $$ H
  iintro H
  iapply HK
  iexists f
  isplitl [H]
  · iexact H
  · ipureintro; rfl

/-- A load of a whole slot whose content does not matter. -/
theorem ld_any {α : Type} {M : Memref sig .tc cs s e} {c : Dev nD} {r : Rect s} {hl}
    {K : Vec F r.shape e → Prog (TpuEff nD τ sig (Elt F) Λ₀ .tc) α} {Q : α → sProp 𝕄} :
    slotAny M c r ⊢ iprop((∀ w, slotAny M c r -∗ WP c (K w) Q) -∗ WP c (Prog.lift (.load M r.toLoadRect hl) >>= K) Q) := by
  unfold slotAny
  rw [WP_lift]
  iintro ⟨%f, H⟩ HK
  iapply (wp_load (defs := defs₀ (F := F)) 𝒱₀ (c : Thread nD τ) none Set.univ (m := M) (r := r.toLoadRect) (f := f) (by rw [View.set_slice]; exact Finset.Subset.refl _)) $$ H
  iintro H
  iapply HK
  iexists f
  iexact H

/-- A load through a rectangle of a slot with its unit axis dropped reads that rectangle of the slot's content. -/
theorem ld_sub {α : Type} {M : Memref sig .tc cs s e} {c : Dev nD} {r : Rect s} {hr : ∀ a, r.stride a = 1} {hq : r.shape.Squeezes s'}
    {r2 : Rect s'} {w : Vec F r.shape e} {hl} (hn : r.shape.ShapeCasts s')
    {K : Vec F r2.shape e → Prog (TpuEff nD τ sig (Elt F) Λ₀ .tc) α} {Q : α → sProp 𝕄} :
    slotV M c r w ⊢ iprop((slotV M c r w -∗ WP c (K (fun x => shapeCast s' w hn (r2.emb x))) Q)
      -∗ WP c (Prog.lift (.load ((M.slice r hr).squeeze s' hq) r2.toLoadRect hl) >>= K) Q) := by
  unfold slotV
  rw [WP_lift]
  iintro ⟨%f, H, %hf⟩ HK
  subst hf
  iapply (wp_load (defs := defs₀ (F := F)) 𝒱₀ (c : Thread nD τ) none Set.univ (m := (M.slice r hr).squeeze s' hq) (r := r2.toLoadRect) (f := f)
    (by refine (View.setOn_subset_set _ _).trans ?_
        rw [Memref.set_view_squeeze])) $$ H
  iintro H
  iapply HK
  iexists f
  isplitl [H]
  · iexact H
  · ipureintro; rfl

/-- A store over a whole slot leaves the stored value in it. -/
theorem st_slot {α : Type} {M : Memref sig .tc cs s e} {c : Dev nD} {r : Rect s} {w : Vec F r.shape e} {hx hm}
    {K : PUnit → Prog (TpuEff nD τ sig (Elt F) Λ₀ .tc) α} {Q : α → sProp 𝕄} :
    slotAny M c r ⊢ iprop((slotV M c r w -∗ WP c (K ⟨⟩) Q) -∗ WP c (Prog.lift (.store M r w Finset.univ hx hm) >>= K) Q) := by
  unfold slotAny slotV
  rw [WP_lift]
  iintro ⟨%f, H⟩ HK
  iapply (wp_store (defs := defs₀ (F := F)) 𝒱₀ (c : Thread nD τ) none Set.univ (m := M) (r := r) (f := f) (S := (M.view.slice r).set) (Finset.Subset.refl _)) $$ H
  iintro H
  iapply HK
  iexists _
  isplitl [H]
  · iexact H
  · ipureintro; exact View.read_write_univ _ _

end Slots

end Cert.KernelIdealProof

end
-- ==== Proof.KI.Values.lean ====
/-
# The values the kernel computes

Every intermediate of the run on every device, as a function of the memory at launch: per layer the
partial products `part`, the summed chunk `agc`, the running sums `acc` and the layer's result `XV`.
-/
module

public import proofs.«01_k».proof.Proof.KI.Common

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What the launch gives -/

/-- Device `c`'s block of `x`, as the pipeline stages it. -/
def xin (c : Dev nD) : Vec F S64x1024 .f32 :=
  (win0_0.blk (0 : Fin 1)).view.read (Elt F) (m ((c : Thread nD τ).loc main_arg0))

/-- Device `c`'s blocks of the three input weights and of the three output weights. -/
def winA (c : Dev nD) : Fin 3 → Vec F S1024x2048 .f32
  | 0 => m ((c : Thread nD τ).loc main_arg1)
  | 1 => m ((c : Thread nD τ).loc main_arg2)
  | 2 => m ((c : Thread nD τ).loc main_arg3)
def woutA (c : Dev nD) : Fin 3 → Vec F S2048x1024 .f32
  | 0 => m ((c : Thread nD τ).loc main_arg4)
  | 1 => m ((c : Thread nD τ).loc main_arg5)
  | 2 => m ((c : Thread nD τ).loc main_arg6)

/-- The same as they lie in a slot of the weight buffers. -/
def w1i (c : Dev nD) (i : Fin 3) : Vec F S1x1024x2048 .f32 := shapeCast S1x1024x2048 (winA m c i) (by decide)
def w1o (c : Dev nD) (i : Fin 3) : Vec F S1x2048x1024 .f32 := shapeCast S1x2048x1024 (woutA m c i) (by decide)

/-- A slot's content with its unit axis dropped. -/
def sqI {e : EltTy} (w : Vec F S1x1024x2048 e) : Vec F S1024x2048 e := shapeCast S1024x2048 w (by decide)
def sqO {e : EltTy} (w : Vec F S1x2048x1024 e) : Vec F S2048x1024 e := shapeCast S2048x1024 w (by decide)

abbrev rC (t : Fin 8) : Rect S1024x2048 :=
  Rect.unit (s := S1024x2048) ![0, 256 * t.val] S1024x256.size (fun a => by
    have := t.isLt; match a with
    | 0 => exact Nat.le_refl 1024
    | 1 => show 256 * t.val + 256 ≤ 2048; omega)
abbrev rR (t : Fin 8) : Rect S2048x1024 :=
  Rect.unit (s := S2048x1024) ![256 * t.val, 0] S256x1024.size (fun a => by
    have := t.isLt; match a with
    | 0 => show 256 * t.val + 256 ≤ 2048; omega
    | 1 => exact Nat.le_refl 1024)

/-- Columns `256 t` to `256 t + 255` of an input weight. -/
def cin {e : EltTy} (w : Vec F S1x1024x2048 e) (t : Fin 8) : Vec F S1024x256 e := fun x => sqI w ((rC t).emb x)
/-- Rows `256 t` to `256 t + 255` of an output weight. -/
def rout {e : EltTy} (w : Vec F S1x2048x1024 e) (t : Fin 8) : Vec F S256x1024 e := fun x => sqO w ((rR t).emb x)

/-- The weights of the second and third layer narrowed to `bf16`, as they lie in their slots. -/
def wib (c : Dev nD) (i : Fin 3) : Vec F S1x1024x2048 .bf16 := k0_pay41 (w1i m c i)
def wob (c : Dev nD) (i : Fin 3) : Vec F S1x2048x1024 .bf16 := k0_pay42 (w1o m c i)

/-! ## One layer -/

/-- Layer `l`'s partial product of device `c` for device `t`, from the layer's input `X` on `c`. -/
def partF (l : ℕ) (X : Vec F S64x1024 .f32) (c : Dev nD) (t : Fin 8) : Vec F S1x64x256 .bf16 :=
  match l with
  | 0 => k0_pay2 X (cin (w1i m c 0) t)
  | 1 => k0_pay27 X (cin (wib m c 1) t)
  | _ => k0_pay27 X (cin (wib m c 2) t)

/-- The rectified sum of eight chunks. -/
def sumF (r : Fin 8 → Vec F S1x64x256 .bf16) : Vec F S64x256 .bf16 :=
  k0_pay12 (k0_pay11 (r 0) (r 1) (r 2) (r 3) (r 4) (r 5) (r 6) (r 7))

/-- Layer `l`'s running sum over the first `k + 1` chunks `a`. -/
def accF (l : ℕ) (a : Fin 8 → Vec F S1x64x256 .bf16) (c : Dev nD) : ℕ → Vec F S64x1024 .f32
  | 0 => match l with
    | 0 => k0_pay17 (a 0) (rout (w1o m c 0) 0)
    | 1 => k0_pay43 (a 0) (rout (wob m c 1) 0)
    | _ => k0_pay65 (a 0) (rout (wob m c 2) 0)
  | k + 1 => match l with
    | 0 => k0_pay18 (a (Fin.ofNat 8 (k + 1))) (rout (w1o m c 0) (Fin.ofNat 8 (k + 1))) (accF 0 a c k)
    | 1 => k0_pay44 (a (Fin.ofNat 8 (k + 1))) (rout (wob m c 1) (Fin.ofNat 8 (k + 1))) (accF 1 a c k)
    | _ => k0_pay68 (a (Fin.ofNat 8 (k + 1))) (rout (wob m c 2) (Fin.ofNat 8 (k + 1))) (accF l a c k)

/-- What device `t` receives from device `s` in a layer with inputs `X`. -/
def rsF (l : ℕ) (X : Dev nD → Vec F S64x1024 .f32) (t s : Fin 8) : Vec F S1x64x256 .bf16 :=
  if s = t then k0_pay10 (partF m l (X t) t t) else partF m l (X s) s t

/-- A layer on all devices. -/
def layF (l : ℕ) (X : Dev nD → Vec F S64x1024 .f32) (c : Dev nD) : Vec F S64x1024 .f32 :=
  accF m l (fun s => k0_pay13 (sumF (rsF m l X s))) c 7

/-! ## The run -/

/-- The input of layer `l` on device `c`. -/
def XV : ℕ → Dev nD → Vec F S64x1024 .f32
  | 0 => fun c => k0_pay1 (xin m c)
  | l + 1 => layF m l (XV l)

/-- Layer `l`'s partial product of device `c` for device `t`. -/
def part (l : ℕ) (c : Dev nD) (t : Fin 8) : Vec F S1x64x256 .bf16 := partF m l (XV m l c) c t
/-- What lies in slot `s` of device `t`'s receive buffer when it sums. -/
def rsv (l : ℕ) (t s : Fin 8) : Vec F S1x64x256 .bf16 := rsF m l (XV m l) t s
/-- Layer `l`'s summed chunk on device `c`, -/
def agc (l : ℕ) (c : Dev nD) : Vec F S64x256 .bf16 := sumF (rsv m l c)
/-- and as it lies in a slot. -/
def agv (l : ℕ) (s : Fin 8) : Vec F S1x64x256 .bf16 := k0_pay13 (agc m l s)
/-- Layer `l`'s running sum on device `c`. -/
def acc (l : ℕ) (c : Dev nD) (k : ℕ) : Vec F S64x1024 .f32 := accF m l (agv m l) c k

end Cert.KernelIdealProof

end
-- ==== Proof.KI.Sched.lean ====
/-
# The schedule of the kernel's semaphores

Thirty-nine cells on each device: its barrier semaphore, its sixteen send semaphores, the eight receive
semaphores of each of the two exchanges of a layer, and the six semaphores of the weight copies. The
barrier's one round has a duty of each other device, which hands over that device's receive slot; a send
semaphore's round hands the copy's source back; a receive semaphore's round hands over the slot written,
with what the sender gives up together with it — for the first exchange the sender's own gather slot that
the answer will be written to, for the second the sender's receive slot for the next layer. A weight
semaphore's one round hands over the slot written and the array read.
-/
module

public import proofs.«01_k».proof.Proof.KI.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Cells -/

abbrev barC (c : Dev nD) : GSem nD τ sig := ((c : Thread nD τ), .reg barS)
abbrev s0C (c : Dev nD) (t : Fin 8) : GSem nD τ sig := ((c : Thread nD τ), .dma (s0S t))
abbrev s1C (c : Dev nD) (t : Fin 8) : GSem nD τ sig := ((c : Thread nD τ), .dma (s1S t))
abbrev rC' (c : Dev nD) (s : Fin 8) : GSem nD τ sig := ((c : Thread nD τ), .dma (rS s))
abbrev aC (c : Dev nD) (s : Fin 8) : GSem nD τ sig := ((c : Thread nD τ), .dma (aS s))
abbrev wC (c : Dev nD) (q : Fin 6) : GSem nD τ sig := ((c : Thread nD τ), .dma (wgS q))

/-- Which of the kernel's semaphores a semaphore is. -/
inductive CK where
  | bar | s0 (t : Fin 8) | s1 (t : Fin 8) | rs (s : Fin 8) | ag (s : Fin 8) | w (q : Fin 6) | no

def ck : SemLoc sig → CK
  | .reg _ => .bar
  | .dma i =>
    if h : i.val < 2 then .no
    else if h : i.val < 10 then .s0 ⟨i.val - 2, by omega⟩
    else if h : i.val < 18 then .s1 ⟨i.val - 10, by omega⟩
    else if h : i.val < 26 then .rs ⟨i.val - 18, by omega⟩
    else if h : i.val < 34 then .ag ⟨i.val - 26, by omega⟩
    else if h : i.val < 40 then .w ⟨i.val - 34, by omega⟩
    else .no

theorem ck_bar : ck (.reg barS) = .bar := rfl
theorem ck_s0 (t : Fin 8) : ck (.dma (s0S t)) = .s0 t := by fin_cases t <;> rfl
theorem ck_s1 (t : Fin 8) : ck (.dma (s1S t)) = .s1 t := by fin_cases t <;> rfl
theorem ck_r (t : Fin 8) : ck (.dma (rS t)) = .rs t := by fin_cases t <;> rfl
theorem ck_a (t : Fin 8) : ck (.dma (aS t)) = .ag t := by fin_cases t <;> rfl
theorem ck_w (q : Fin 6) : ck (.dma (wgS q)) = .w q := by fin_cases q <;> rfl

/-! ## The copies' credits -/

abbrev slot8 (M : Memref sig .tc .vmem S8x64x256 .bf16) (k : Fin 8) : Memref sig .tc .vmem S64x256 .bf16 :=
  (M.slice (r8 k) (fun _ => rfl)).squeeze S64x256 squeezes_S1x64x256_S64x256

/-- What a copy of one chunk credits, -/
abbrev Nc : ℕ := (slot8 rsM 0).view.dmaCredit
theorem Nc_pos : 0 < Nc := View.dmaCredit_pos _ (by decide)
theorem credit_rs (k : Fin 8) : (slot8 rsM k).view.dmaCredit = Nc := rfl
theorem credit_ag (k : Fin 8) : (slot8 agM k).view.dmaCredit = Nc := rfl
theorem credit_pb (k : Fin 8) : (slot8 pbM k).view.dmaCredit = Nc := rfl
theorem credit_ch : (chM : Memref sig .tc .vmem S64x256 .bf16).view.dmaCredit = Nc := rfl

abbrev slotI (M : Memref sig .tc .vmem S2x1024x2048 .f32) (k : Fin 2) : Memref sig .tc .vmem S1024x2048 .f32 :=
  (M.slice (rI k) (fun _ => rfl)).squeeze S1024x2048 squeezes_S1x1024x2048_S1024x2048
abbrev slotO (M : Memref sig .tc .vmem S2x2048x1024 .f32) (k : Fin 2) : Memref sig .tc .vmem S2048x1024 .f32 :=
  (M.slice (rO k) (fun _ => rfl)).squeeze S2048x1024 squeezes_S1x2048x1024_S2048x1024
/-- and of an input or an output weight. -/
abbrev Ni : ℕ := (slotI wvM 0).view.dmaCredit
abbrev No : ℕ := (slotO woM 0).view.dmaCredit
theorem Ni_pos : 0 < Ni := View.dmaCredit_pos _ (by decide)
theorem No_pos : 0 < No := View.dmaCredit_pos _ (by decide)
theorem credit_wv (k : Fin 2) : (slotI wvM k).view.dmaCredit = Ni := rfl
theorem credit_wo (k : Fin 2) : (slotO woM k).view.dmaCredit = No := rfl

/-- The credit of weight copy `q`. -/
def Nw (q : Fin 6) : ℕ := if q.val % 2 = 0 then Ni else No
theorem Nw_pos (q : Fin 6) : 0 < Nw q := by unfold Nw; split; exacts [Ni_pos, No_pos]

/-! ## Payloads -/

/-- The chunk buffer, the share `q` of it, holding `w`. -/
def chP (c : Dev nD) (q : PosShare TreeShare) (w : Vec F S64x256 .bf16) : sProp 𝕄 :=
  ((chM : Memref sig .tc .vmem S64x256 .bf16).view.loc (c : Thread nD τ) ↦[(chM : Memref sig .tc .vmem S64x256 .bf16).view.set]{q} w)

/-- The share of the chunk buffer that the copy to device `t` reads through. -/
abbrev shr (t : Fin 8) : PosShare TreeShare := ShareLeaves.leaf 3 fullShare t

/-- An argument array on device `c`, as at launch. -/
def argP (c : Dev nD) (b : Ref sig .tc) : sProp 𝕄 :=
  ((Memref.whole b).view.loc (c : Thread nD τ) ↦[(Memref.whole b).view.set]{fullShare} (m ((Memref.whole b).view.loc (c : Thread nD τ))))

omit [FloatOps F] in
instance chP_storable (c : Dev nD) (q) (w : Vec F S64x256 .bf16) : BI.Storable (upEmb : UEmb _ 𝕄) (chP c q w) := by unfold chP; infer_instance
omit [FloatOps F] in
instance argP_storable (c : Dev nD) (b) : BI.Storable (upEmb : UEmb _ 𝕄) (argP m c b) := by unfold argP; infer_instance

/-- What device `s` hands device `c` at the barrier: its receive slot for what `c` sends. -/
def barPay (c s : Dev nD) : sProp 𝕄 := iprop(slotAny rsM s (r8 c) ∗ reached ER (rC' s c) 0)
/-- What device `c` gets with the chunk device `s` sends it first in layer `l`. -/
def rsPay (c s : Dev nD) (l : ℕ) : sProp 𝕄 :=
  iprop(slotV rsM c (r8 s) (part m l s c) ∗ slotAny agM s (r8 c) ∗ reached ER (aC s c) l)
/-- What goes back with the second exchange: until the last layer the receive slot for the next one. -/
def nextPay (c s : Dev nD) (l : ℕ) : sProp 𝕄 :=
  if l < 2 then iprop(slotAny rsM s (r8 c) ∗ reached ER (rC' s c) (l + 1)) else iprop(emp)
def agPay (c s : Dev nD) (l : ℕ) : sProp 𝕄 :=
  iprop(slotV agM c (r8 s) (agv m l s) ∗ nextPay c s l)
/-- What weight copy `q` hands back. -/
def wPay (c : Dev nD) : Fin 6 → sProp 𝕄
  | 0 => iprop(argP m c main_arg1 ∗ slotV wvM c (rI 0) (w1i m c 0))
  | 1 => iprop(argP m c main_arg4 ∗ slotV woM c (rO 0) (w1o m c 0))
  | 2 => iprop(argP m c main_arg2 ∗ slotV wvM c (rI 1) (w1i m c 1))
  | 3 => iprop(argP m c main_arg5 ∗ slotV woM c (rO 1) (w1o m c 1))
  | 4 => iprop(argP m c main_arg3 ∗ slotV wvM c (rI 0) (w1i m c 2))
  | 5 => iprop(argP m c main_arg6 ∗ slotV woM c (rO 0) (w1o m c 2))

omit [FloatOps F] in
instance barPay_storable (c s : Dev nD) : BI.Storable (upEmb : UEmb _ 𝕄) (barPay (F := F) c s) := by unfold barPay; infer_instance
instance rsPay_storable (c s : Dev nD) (l : ℕ) : BI.Storable (upEmb : UEmb _ 𝕄) (rsPay m c s l) := by unfold rsPay; infer_instance
omit [FloatOps F] in
instance nextPay_storable (c s : Dev nD) (l : ℕ) : BI.Storable (upEmb : UEmb _ 𝕄) (nextPay (F := F) c s l) := by
  unfold nextPay; split <;> infer_instance
instance agPay_storable (c s : Dev nD) (l : ℕ) : BI.Storable (upEmb : UEmb _ 𝕄) (agPay m c s l) := by unfold agPay; infer_instance
instance wPay_storable (c : Dev nD) (q : Fin 6) : BI.Storable (upEmb : UEmb _ 𝕄) (wPay m c q) := by
  fin_cases q <;> (dsimp only [wPay]; infer_instance)

/-! ## The schedule -/

def dutiesK (c : Dev nD) (r : ℕ) : CK → Finset (Fin 8)
  | .bar => if r = 0 then Finset.univ.erase c else ∅
  | .s0 t => if r < 3 ∧ t ≠ c then {0} else ∅
  | .s1 t => if r < 3 ∧ t ≠ c then {0} else ∅
  | .rs t => if r < 3 ∧ t ≠ c then {0} else ∅
  | .ag t => if r < 3 ∧ t ≠ c then {0} else ∅
  | .w _ => if r = 0 then {0} else ∅
  | .no => ∅
def amountK : CK → ℕ
  | .bar => 1
  | .s0 _ => Nc
  | .s1 _ => Nc
  | .rs _ => Nc
  | .ag _ => Nc
  | .w q => Nw q
  | .no => 1
def payK (c : Dev nD) (r : ℕ) (d : Fin 8) : CK → sProp 𝕄
  | .bar => barPay c d
  | .s0 t => slotAny pbM c (r8 t)
  | .s1 t => chP c (shr t) (agc m r c)
  | .rs s => rsPay m c s r
  | .ag s => agPay m c s r
  | .w q => wPay m c q
  | .no => iprop(emp)

def Rd : Rounds.Schedule (GSem nD τ sig) (Fin 8) 𝕄 where
  duties g r := dutiesK g.1.1 r (ck g.2)
  unitless _ := False
  amount g _ _ := amountK (ck g.2)
  payload g r d := payK m g.1.1 r d (ck g.2)
  amount_pos g _ _ _ := by
    cases ck g.2 <;> first | exact Nc_pos | exact Nw_pos _ | exact Nat.one_pos

instance Rd_storable (g : GSem nD τ sig) (r : ℕ) (d : Fin 8) : BI.Storable (upEmb : UEmb _ 𝕄) ((Rd m).payload g r d) := by
  show BI.Storable upEmb (payK m g.1.1 r d (ck g.2))
  cases ck g.2 <;> (dsimp only [payK]; infer_instance)

section
variable (c : Dev nD) (t : Fin 8) (r : ℕ) (d : Fin 8)

theorem duties_bar : (Rd m).duties (barC c) 0 = Finset.univ.erase c := by dsimp only [Rd]; rw [ck_bar]; rfl
theorem duties_s0 (h : t ≠ c) (hr : r < 3) : (Rd m).duties (s0C c t) r = {0} := by dsimp only [Rd]; rw [ck_s0]; exact if_pos ⟨hr, h⟩
theorem duties_s1 (h : t ≠ c) (hr : r < 3) : (Rd m).duties (s1C c t) r = {0} := by dsimp only [Rd]; rw [ck_s1]; exact if_pos ⟨hr, h⟩
theorem duties_r (h : t ≠ c) (hr : r < 3) : (Rd m).duties (rC' c t) r = {0} := by dsimp only [Rd]; rw [ck_r]; exact if_pos ⟨hr, h⟩
theorem duties_a (h : t ≠ c) (hr : r < 3) : (Rd m).duties (aC c t) r = {0} := by dsimp only [Rd]; rw [ck_a]; exact if_pos ⟨hr, h⟩
theorem duties_w (q : Fin 6) : (Rd m).duties (wC c q) 0 = {0} := by dsimp only [Rd]; rw [ck_w]; rfl

theorem duties_s0_end (R : ℕ) (h : t = c ∨ 3 ≤ R) (hr : R ≤ r) : (Rd m).duties (s0C c t) r = ∅ := by
  dsimp only [Rd]; rw [ck_s0]; exact if_neg fun ⟨h1, h2⟩ => h.elim h2 fun h => by omega
theorem duties_s1_end (R : ℕ) (h : t = c ∨ 3 ≤ R) (hr : R ≤ r) : (Rd m).duties (s1C c t) r = ∅ := by
  dsimp only [Rd]; rw [ck_s1]; exact if_neg fun ⟨h1, h2⟩ => h.elim h2 fun h => by omega
theorem duties_r_end (R : ℕ) (h : t = c ∨ 3 ≤ R) (hr : R ≤ r) : (Rd m).duties (rC' c t) r = ∅ := by
  dsimp only [Rd]; rw [ck_r]; exact if_neg fun ⟨h1, h2⟩ => h.elim h2 fun h => by omega
theorem duties_a_end (R : ℕ) (h : t = c ∨ 3 ≤ R) (hr : R ≤ r) : (Rd m).duties (aC c t) r = ∅ := by
  dsimp only [Rd]; rw [ck_a]; exact if_neg fun ⟨h1, h2⟩ => h.elim h2 fun h => by omega
theorem duties_w_end (q : Fin 6) (hr : 1 ≤ r) : (Rd m).duties (wC c q) r = ∅ := by
  dsimp only [Rd]; rw [ck_w]; exact if_neg fun h => by omega
theorem duties_bar_end (hr : 1 ≤ r) : (Rd m).duties (barC c) r = ∅ := by
  dsimp only [Rd]; rw [ck_bar]; exact if_neg fun h => by omega

theorem amount_bar : (Rd m).amount (barC c) r d = 1 := by dsimp only [Rd]; rw [ck_bar]; rfl
theorem amount_s0 : (Rd m).amount (s0C c t) r d = Nc := by dsimp only [Rd]; rw [ck_s0]; rfl
theorem amount_s1 : (Rd m).amount (s1C c t) r d = Nc := by dsimp only [Rd]; rw [ck_s1]; rfl
theorem amount_r : (Rd m).amount (rC' c t) r d = Nc := by dsimp only [Rd]; rw [ck_r]; rfl
theorem amount_a : (Rd m).amount (aC c t) r d = Nc := by dsimp only [Rd]; rw [ck_a]; rfl
theorem amount_w (q : Fin 6) : (Rd m).amount (wC c q) r d = Nw q := by dsimp only [Rd]; rw [ck_w]; rfl

theorem payload_bar : (Rd m).payload (barC c) r d = barPay c d := by dsimp only [Rd]; rw [ck_bar]; rfl
theorem payload_s0 : (Rd m).payload (s0C c t) r d = slotAny pbM c (r8 t) := by dsimp only [Rd]; rw [ck_s0]; rfl
theorem payload_s1 : (Rd m).payload (s1C c t) r d = chP c (shr t) (agc m r c) := by dsimp only [Rd]; rw [ck_s1]; rfl
theorem payload_r : (Rd m).payload (rC' c t) r d = rsPay m c t r := by dsimp only [Rd]; rw [ck_r]; rfl
theorem payload_a : (Rd m).payload (aC c t) r d = agPay m c t r := by dsimp only [Rd]; rw [ck_a]; rfl
theorem payload_w (q : Fin 6) : (Rd m).payload (wC c q) r d = wPay m c q := by dsimp only [Rd]; rw [ck_w]; rfl

theorem expect_bar : (Rd m).expect (barC c) 0 = 7 := by
  unfold Schedule.expect Schedule.amountOf
  rw [duties_bar, Finset.sum_congr rfl fun d _ => amount_bar m c 0 d, Finset.sum_const, Finset.card_erase_of_mem (Finset.mem_univ _)]; rfl
theorem expect_s0 (h : t ≠ c) (hr : r < 3) : (Rd m).expect (s0C c t) r = Nc := by
  unfold Schedule.expect Schedule.amountOf; rw [duties_s0 m c t r h hr, Finset.sum_singleton, amount_s0]
theorem expect_s1 (h : t ≠ c) (hr : r < 3) : (Rd m).expect (s1C c t) r = Nc := by
  unfold Schedule.expect Schedule.amountOf; rw [duties_s1 m c t r h hr, Finset.sum_singleton, amount_s1]
theorem expect_r (h : t ≠ c) (hr : r < 3) : (Rd m).expect (rC' c t) r = Nc := by
  unfold Schedule.expect Schedule.amountOf; rw [duties_r m c t r h hr, Finset.sum_singleton, amount_r]
theorem expect_a (h : t ≠ c) (hr : r < 3) : (Rd m).expect (aC c t) r = Nc := by
  unfold Schedule.expect Schedule.amountOf; rw [duties_a m c t r h hr, Finset.sum_singleton, amount_a]
theorem expect_w (q : Fin 6) : (Rd m).expect (wC c q) 0 = Nw q := by
  unfold Schedule.expect Schedule.amountOf; rw [duties_w, Finset.sum_singleton, amount_w]

theorem rest_bar : bigSep ((Rd m).duties (barC c) 0 \ ∅) (fun d => (Rd m).payload (barC c) 0 d) = bigSep (Finset.univ.erase c) (fun d => barPay (F := F) c d) := by
  rw [Finset.sdiff_empty, duties_bar]
  exact bigSep_congr fun d _ => payload_bar m c 0 d
theorem rest_s0 (h : t ≠ c) (hr : r < 3) : bigSep ((Rd m).duties (s0C c t) r \ ∅) (fun d => (Rd m).payload (s0C c t) r d) = slotAny pbM c (r8 t) := by
  rw [Finset.sdiff_empty, duties_s0 m c t r h hr, bigSep_singleton, payload_s0]
theorem rest_s1 (h : t ≠ c) (hr : r < 3) : bigSep ((Rd m).duties (s1C c t) r \ ∅) (fun d => (Rd m).payload (s1C c t) r d) = chP c (shr t) (agc m r c) := by
  rw [Finset.sdiff_empty, duties_s1 m c t r h hr, bigSep_singleton, payload_s1]
theorem rest_r (h : t ≠ c) (hr : r < 3) : bigSep ((Rd m).duties (rC' c t) r \ ∅) (fun d => (Rd m).payload (rC' c t) r d) = rsPay m c t r := by
  rw [Finset.sdiff_empty, duties_r m c t r h hr, bigSep_singleton, payload_r]
theorem rest_a (h : t ≠ c) (hr : r < 3) : bigSep ((Rd m).duties (aC c t) r \ ∅) (fun d => (Rd m).payload (aC c t) r d) = agPay m c t r := by
  rw [Finset.sdiff_empty, duties_a m c t r h hr, bigSep_singleton, payload_a]
theorem rest_w (q : Fin 6) : bigSep ((Rd m).duties (wC c q) 0 \ ∅) (fun d => (Rd m).payload (wC c q) 0 d) = wPay m c q := by
  rw [Finset.sdiff_empty, duties_w, bigSep_singleton, payload_w]

end

/-! ## What each core owes; the levels -/

/-- Payment `i` of device `c`: block `i / 8` (the barrier, then the two exchanges of each layer), to device `i % 8`;
    to itself a device owes nothing. The index of a payment is one more than its block. -/
def pay (c : Dev nD) (i : ℕ) : CellTallies nD τ sig ℕ :=
  if Fin.ofNat 8 i = c then 0
  else if i / 8 = 0 then tallyAt (barC (Fin.ofNat 8 i)) (1 + i / 8) 1
  else if i / 8 % 2 = 1 then tallyAt (rC' (Fin.ofNat 8 i) c) (1 + i / 8) Nc
  else tallyAt (aC (Fin.ofNat 8 i) c) (1 + i / 8) Nc

/-- What device `c` still owes after its first `n` payments. -/
def Od (c : Dev nD) (n : ℕ) : CellTallies nD τ sig ℕ := ∑ i ∈ Finset.Ico n 56, pay c i

theorem Od_succ (c : Dev nD) (n : ℕ) (h : n < 56) : Od c n = Od c (n + 1) + pay c n := by
  have hI : Finset.Ico n 56 = insert n (Finset.Ico (n + 1) 56) := by
    ext i; rw [Finset.mem_insert, Finset.mem_Ico, Finset.mem_Ico]; omega
  unfold Od
  rw [hI, Finset.sum_insert (by rw [Finset.mem_Ico]; omega), add_comm]
theorem Od_end (c : Dev nD) : Od c 56 = 0 := by unfold Od; simp

def L (g : GSem nD τ sig) : Finset ℕ := if g.1.2 = .tc then Finset.range 8 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 8 := if_pos rfl

theorem pay_pos {c : Dev nD} {i : ℕ} (hi : i < 56) {g : GSem nD τ sig} {u : ℕ} (h : 0 < pay c i g u) : u = 1 + i / 8 ∧ g.1.2 = .tc := by
  unfold pay at h
  split at h
  · exact absurd h (Nat.lt_irrefl 0)
  split at h
  · rw [tallyAt_apply] at h
    by_cases hh : g = barC (Fin.ofNat 8 i) ∧ u = 1 + i / 8
    · exact ⟨hh.2, by rw [hh.1]⟩
    · rw [if_neg hh] at h; exact absurd h (Nat.lt_irrefl 0)
  split at h
  · rw [tallyAt_apply] at h
    by_cases hh : g = rC' (Fin.ofNat 8 i) c ∧ u = 1 + i / 8
    · exact ⟨hh.2, by rw [hh.1]⟩
    · rw [if_neg hh] at h; exact absurd h (Nat.lt_irrefl 0)
  · rw [tallyAt_apply] at h
    by_cases hh : g = aC (Fin.ofNat 8 i) c ∧ u = 1 + i / 8
    · exact ⟨hh.2, by rw [hh.1]⟩
    · rw [if_neg hh] at h; exact absurd h (Nat.lt_irrefl 0)

theorem Od_pos {c : Dev nD} {n : ℕ} {g : GSem nD τ sig} {u : ℕ} (h : 0 < Od c n g u) : 1 + n / 8 ≤ u ∧ u < 8 ∧ g.1.2 = .tc := by
  unfold Od at h
  rw [Finset.sum_apply, Finsupp.finset_sum_apply] at h
  obtain ⟨i, hi, hp⟩ := Finset.exists_ne_zero_of_sum_ne_zero (Nat.ne_of_gt h)
  rw [Finset.mem_Ico] at hi
  obtain ⟨h1, h2⟩ := pay_pos hi.2 (Nat.pos_of_ne_zero hp)
  refine ⟨?_, ?_, h2⟩
  · rw [h1]; have := Nat.div_le_div_right (c := 8) hi.1; omega
  · rw [h1]; omega

omit [FloatOps F] in
/-- A wait at index `ι` is allowed once every payment of index at most `ι` is made. -/
theorem mayWait (c : Dev nD) (sm : SemLoc sig) (ι n : ℕ) (h : ι < 1 + n / 8) (hι : ι < 8) :
    (levAts L lv : sProp 𝕄) ⊢ MayWait (c : Thread nD τ) sm ι (Od c n) :=
  MayOwe.of_cut (L := L) (lev := lv) ι (fun p hp => by rw [Finset.mem_singleton.mp hp, L_tc]; exact Finset.mem_range.mpr hι)
    (fun g u hg => by
      obtain ⟨h1, h2, h3⟩ := Od_pos hg
      unfold L; rw [if_pos h3]; exact Finset.mem_range.mpr h2)
    (fun p hp => by rw [Finset.mem_singleton.mp hp]; exact Nat.le_refl _)
    (fun g u hg => by
      obtain ⟨h1, h2, h3⟩ := Od_pos hg
      show ι < u; omega)

end Cert.KernelIdealProof

end
-- ==== Proof.KI.State.lean ====
/-
# The state of a device during the body

What device `c` holds is split into eight lanes — what it shares with each device, at one of fourteen
stages — and the rest: the buffers of its own and the weight copies. An operation touches one lane or one
component of the rest; the lemmas at the end lift its rule to the whole state.
-/
module

public import proofs.«01_k».proof.Proof.KI.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The cells' invariants -/

/-- The thirty-nine cells of each device: its barrier, then its thirty-eight copy semaphores. -/
def kcell (ck : Dev nD × Fin 39) : GSem nD τ sig :=
  ((ck.1 : Thread nD τ), if h : ck.2.val = 0 then .reg barS else .dma (⟨ck.2.val + 1, by have := ck.2.isLt; show ck.2.val + 1 < 40; omega⟩ : Fin 40))

/-- Every cell's invariant under some name, and the levels of the indices. -/
def recs : sProp 𝕄 :=
  iprop((bigSep Finset.univ fun p : Dev nD × Fin 39 => iprop(∃ κ : ℕ, cellInv ER (Rd m) κ (kcell p))) ∗ levAts L lv)

instance recs_persistent : BI.Persistent (recs m) := by unfold recs; infer_instance

theorem recs_cell (p : Dev nD × Fin 39) : recs m ⊢ iprop(∃ κ : ℕ, cellInv ER (Rd m) κ (kcell p)) := by
  unfold recs
  refine Entails.trans sep_elim_left ?_
  exact bigSep_elim (Finset.mem_univ p)
theorem recs_lev : recs m ⊢ levAts L lv := by
  unfold recs; iintro ⟨-, H⟩; iexact H

section
variable (c : Dev nD) (t : Fin 8)
theorem kcell_bar : kcell (c, 0) = barC c := rfl
theorem kcell_s0 : kcell (c, ⟨1 + t.val, by omega⟩) = s0C c t := by fin_cases t <;> rfl
theorem kcell_s1 : kcell (c, ⟨9 + t.val, by omega⟩) = s1C c t := by fin_cases t <;> rfl
theorem kcell_r : kcell (c, ⟨17 + t.val, by omega⟩) = rC' c t := by fin_cases t <;> rfl
theorem kcell_a : kcell (c, ⟨25 + t.val, by omega⟩) = aC c t := by fin_cases t <;> rfl
theorem kcell_w (q : Fin 6) : kcell (c, ⟨33 + q.val, by omega⟩) = wC c q := by fin_cases q <;> rfl

theorem rec_bar : recs m ⊢ iprop(∃ κ : ℕ, cellInv ER (Rd m) κ (barC c)) := recs_cell m (c, 0)
theorem rec_s0 : recs m ⊢ iprop(∃ κ : ℕ, cellInv ER (Rd m) κ (s0C c t)) := by rw [← kcell_s0]; exact recs_cell m _
theorem rec_s1 : recs m ⊢ iprop(∃ κ : ℕ, cellInv ER (Rd m) κ (s1C c t)) := by rw [← kcell_s1]; exact recs_cell m _
theorem rec_r : recs m ⊢ iprop(∃ κ : ℕ, cellInv ER (Rd m) κ (rC' c t)) := by rw [← kcell_r]; exact recs_cell m _
theorem rec_a : recs m ⊢ iprop(∃ κ : ℕ, cellInv ER (Rd m) κ (aC c t)) := by rw [← kcell_a]; exact recs_cell m _
theorem rec_w (q : Fin 6) : recs m ⊢ iprop(∃ κ : ℕ, cellInv ER (Rd m) κ (wC c q)) := by rw [← kcell_w]; exact recs_cell m _
end

/-! ## What a device owes -/

def Owe (c : Dev nD) (n : ℕ) : sProp 𝕄 := iprop(∃ W, owes (c : Thread nD τ) (Od c n) W)

theorem Od_skip (c : Dev nD) (n : ℕ) (h : n < 56) (k : Fin 8) (hk : n % 8 = k.val) (hc : k = c) : Od c n = Od c (n + 1) := by
  have hf : (Fin.ofNat 8 n : Fin 8) = c := by rw [← hc]; exact Fin.ext hk
  rw [Od_succ c n h, show pay c n = 0 from if_pos hf, add_zero]

/-! ## Lanes: one for each device, of what is shared with it -/

section Lanes
variable (c : Dev nD) (t : Fin 8)

/-- At a cell's round `r`, nothing of it arrived. -/
def At (g : GSem nD τ sig) (r : ℕ) : sProp 𝕄 := iprop(atPos ER g r ∅ 0 ∗ reached ER g r)
/-- The rounds of the four cells `c` has for device `t`. -/
def At4 (a b r g : ℕ) : sProp 𝕄 := iprop(At (s0C c t) a ∗ At (s1C c t) b ∗ At (rC' c t) r ∗ At (aC c t) g)
/-- Layer `l`'s duties and receive credits towards `t`. -/
def Lay (l : ℕ) : sProp 𝕄 :=
  iprop(dutyTok ER (s0C c t) l 0 ∗ dutyTok ER (s1C c t) l 0 ∗ dutyTok ER (rC' t c) l 0 ∗ dutyTok ER (aC t c) l 0
    ∗ cred (tallyAt (rC' c t) (2 + 2 * l) Nc) ∗ cred (tallyAt (aC c t) (3 + 2 * l) Nc))
/-- Those of layer `l` and later ones. -/
def Fut : ℕ → sProp 𝕄
  | 0 => iprop(Lay c t 0 ∗ Lay c t 1 ∗ Lay c t 2 ∗ emp)
  | 1 => iprop(Lay c t 1 ∗ Lay c t 2 ∗ emp)
  | 2 => iprop(Lay c t 2 ∗ emp)
  | _ => iprop(emp)
omit [FloatOps F] in
theorem Fut_succ (l : ℕ) (h : l < 3) : Fut (F := F) c t l = iprop(Lay c t l ∗ Fut c t (l + 1)) := by
  match l with
  | 0 => rfl
  | 1 => rfl
  | 2 => rfl
/-- Slot `t` of the send buffer with layer `l`'s partial product. -/
def pbV (l : ℕ) : sProp 𝕄 := slotV pbM c (r8 t) (part m l c t)
def pbA : sProp 𝕄 := slotAny pbM c (r8 t)
def rsA : sProp 𝕄 := slotAny rsM c (r8 t)
def agA : sProp 𝕄 := slotAny agM c (r8 t)
def rsVal (l : ℕ) : sProp 𝕄 := slotV rsM c (r8 t) (rsv m l c t)
def agVal (l : ℕ) : sProp 𝕄 := slotV agM c (r8 t) (agv m l t)
/-- The slot on `t` for the first exchange of layer `l`, and that `t` expects it. -/
def toRs (l : ℕ) : sProp 𝕄 := iprop(slotAny rsM t (r8 c) ∗ reached ER (rC' t c) l)
/-- The slot on `t` for the second exchange of layer `l`, and that `t` expects it. -/
def toAg (l : ℕ) : sProp 𝕄 := iprop(slotAny agM t (r8 c) ∗ reached ER (aC t c) l)
/-- The receive slot, kept only in the last layer. -/
def left (l : ℕ) : sProp 𝕄 := if l < 2 then iprop(emp) else rsA c t

/-! The stages of the lane to another device. -/

def P0 (l : ℕ) : sProp 𝕄 :=
  iprop(At4 c t l l l l ∗ Fut c t l ∗ pbA c t ∗ toRs c t l ∗ agA c t)
def P1 (l : ℕ) : sProp 𝕄 :=
  iprop(At4 c t l l l l ∗ Fut c t l ∗ pbV m c t l ∗ toRs c t l ∗ agA c t)
def P2 (l : ℕ) : sProp 𝕄 :=
  iprop(At4 c t l l l l ∗ cred (tallyAt (s0C c t) 0 Nc) ∗ dutyTok ER (s1C c t) l 0 ∗ dutyTok ER (aC t c) l 0
      ∗ cred (tallyAt (rC' c t) (2 + 2 * l) Nc) ∗ cred (tallyAt (aC c t) (3 + 2 * l) Nc) ∗ Fut c t (l + 1))
def P3 (l : ℕ) : sProp 𝕄 :=
  iprop(At4 c t l l (l + 1) l ∗ cred (tallyAt (s0C c t) 0 Nc) ∗ dutyTok ER (s1C c t) l 0 ∗ dutyTok ER (aC t c) l 0
      ∗ cred (tallyAt (aC c t) (3 + 2 * l) Nc) ∗ Fut c t (l + 1) ∗ rsVal m c t l ∗ toAg c t l)
def P4 (l : ℕ) : sProp 𝕄 :=
  iprop(At4 c t l l (l + 1) l ∗ cred (tallyAt (s0C c t) 0 Nc) ∗ dutyTok ER (s1C c t) l 0 ∗ dutyTok ER (aC t c) l 0
      ∗ cred (tallyAt (aC c t) (3 + 2 * l) Nc) ∗ Fut c t (l + 1) ∗ rsVal m c t l ∗ toAg c t l)
def P5 (l : ℕ) : sProp 𝕄 :=
  iprop((At4 c t l l (l + 1) l ∗ cred (tallyAt (s0C c t) 0 Nc) ∗ dutyTok ER (s1C c t) l 0 ∗ dutyTok ER (aC t c) l 0
      ∗ cred (tallyAt (aC c t) (3 + 2 * l) Nc) ∗ Fut c t (l + 1) ∗ rsVal m c t l ∗ toAg c t l) ∗ chP c (shr t) (agc m l c))
def P6 (l : ℕ) : sProp 𝕄 :=
  iprop(At4 c t l l (l + 1) l ∗ cred (tallyAt (s0C c t) 0 Nc) ∗ cred (tallyAt (s1C c t) 0 Nc)
      ∗ cred (tallyAt (aC c t) (3 + 2 * l) Nc) ∗ Fut c t (l + 1) ∗ left c t l)
def P7 (l : ℕ) : sProp 𝕄 :=
  iprop(At4 c t (l + 1) l (l + 1) l ∗ pbA c t ∗ cred (tallyAt (s1C c t) 0 Nc)
      ∗ cred (tallyAt (aC c t) (3 + 2 * l) Nc) ∗ Fut c t (l + 1) ∗ left c t l)
def P8 (l : ℕ) : sProp 𝕄 :=
  iprop(At4 c t (l + 1) l (l + 1) l ∗ pbA c t ∗ cred (tallyAt (s1C c t) 0 Nc)
      ∗ cred (tallyAt (aC c t) (3 + 2 * l) Nc) ∗ Fut c t (l + 1) ∗ left c t l)
def P9 (l : ℕ) : sProp 𝕄 :=
  iprop(At4 c t (l + 1) l (l + 1) (l + 1) ∗ pbA c t ∗ cred (tallyAt (s1C c t) 0 Nc)
      ∗ Fut c t (l + 1) ∗ left c t l ∗ nextPay c t l ∗ agVal m c t l)
def P10 (l : ℕ) : sProp 𝕄 :=
  iprop((At4 c t (l + 1) (l + 1) (l + 1) (l + 1) ∗ pbA c t
      ∗ Fut c t (l + 1) ∗ left c t l ∗ nextPay c t l ∗ agVal m c t l) ∗ chP c (shr t) (agc m l c))
def P11 (l : ℕ) : sProp 𝕄 :=
  iprop(At4 c t 0 0 0 0 ∗ Fut c t 0 ∗ pbA c t ∗ agA c t ∗ rsA c t ∗ dutyTok ER (barC t) 0 c ∗ reached ER (barC t) 0)
def P12 (l : ℕ) : sProp 𝕄 :=
  iprop(At4 c t 0 0 0 0 ∗ Fut c t 0 ∗ pbA c t ∗ agA c t)
def P13 (l : ℕ) : sProp 𝕄 :=
  iprop(At4 c t 0 0 0 0 ∗ Fut c t 0 ∗ pbV m c t 0 ∗ agA c t)

def Pst (l : ℕ) : ℕ → sProp 𝕄
  | 0 => P0 c t l
  | 1 => P1 m c t l
  | 2 => P2 c t l
  | 3 => P3 m c t l
  | 4 => P4 m c t l
  | 5 => P5 m c t l
  | 6 => P6 c t l
  | 7 => P7 c t l
  | 8 => P8 c t l
  | 9 => P9 m c t l
  | 10 => P10 m c t l
  | 11 => P11 c t l
  | 12 => P12 c t l
  | 13 => P13 m c t l
  | _ => iprop(emp)

/-- The stages of a device's lane to itself, where nothing is sent. -/
def Ost (l s : ℕ) : sProp 𝕄 :=
  iprop((At4 c c 0 0 0 0 ∗ (if (1 ≤ s ∧ s ≤ 10) ∨ s = 13 then pbV m c c l else pbA c c)
    ∗ (if 4 ≤ s ∧ s ≤ 10 then rsVal m c c l else rsA c c) ∗ (if 8 ≤ s ∧ s ≤ 10 then agVal m c c l else agA c c))
    ∗ (if 5 ≤ s ∧ s ≤ 10 then chP c (shr c) (agc m l c) else emp))

def Stg (l s : ℕ) : sProp 𝕄 := if t = c then Ost m c l s else Pst m c t l s
theorem Stg_own (l s : ℕ) (h : t = c) : Stg m c t l s = Ost m c l s := if_pos h
theorem Stg_peer (l s : ℕ) (h : t ≠ c) : Stg m c t l s = Pst m c t l s := if_neg h

def lanes (l : ℕ) (f : Fin 8 → ℕ) : sProp 𝕄 := bigSep Finset.univ fun t : Fin 8 => Stg m c t l (f t)

end Lanes

/-- The stages `f` with lane `k` at stage `s`. -/
def setf {n : ℕ} (f : Fin n → ℕ) (k : Fin n) (s : ℕ) : Fin n → ℕ := fun j => if j = k then s else f j

/-- One member of a family over a finite type is taken out, and another put in its place. -/
theorem fam_focus {n : ℕ} (Φ : Fin n → ℕ → sProp 𝕄) (f : Fin n → ℕ) (k : Fin n) (s' : ℕ) :
    (bigSep Finset.univ fun t => Φ t (f t)) ⊢ iprop(Φ k (f k) ∗ (Φ k s' -∗ bigSep Finset.univ fun t => Φ t (setf f k s' t))) := by
  rw [bigSep_univ_at k (Φ := fun t => Φ t (f t)), bigSep_univ_at k (Φ := fun t => Φ t (setf f k s' t))]
  iintro ⟨H, Hr⟩
  isplitl [H]; · iexact H
  iintro H
  isplitl [H]
  · rw [show setf f k s' k = s' from if_pos rfl]; iexact H
  · rw [bigSep_congr (s := Finset.univ.erase k) (Φ := fun t => Φ t (setf f k s' t)) (Ψ := fun t => Φ t (f t))
      (fun t ht => by rw [show setf f k s' t = f t from if_neg (Finset.ne_of_mem_erase ht)])]
    iexact Hr

/-! ## The rest of a device's state -/

/-- The six weight arrays. -/
def argR : Fin 6 → Ref sig .tc
  | 0 => main_arg1
  | 1 => main_arg4
  | 2 => main_arg2
  | 3 => main_arg5
  | 4 => main_arg3
  | 5 => main_arg6

/-- The stages of a weight copy: not started, in flight, arrived. -/
def Wst (c : Dev nD) (q : Fin 6) : ℕ → sProp 𝕄
  | 0 => iprop(argP m c (argR q) ∗ dutyTok ER (wC c q) 0 0 ∗ At (wC c q) 0)
  | 1 => iprop(cred (tallyAt (wC c q) 0 (Nw q)) ∗ At (wC c q) 0)
  | _ => iprop(argP m c (argR q) ∗ At (wC c q) 1)

abbrev rX : Rect S64x1024 := Rect.unit (s := S64x1024) ![0, 0] S64x1024.size inb_S64x1024_S64x1024_0_0
abbrev rCh : Rect S64x256 := Rect.unit (s := S64x256) ![0, 0] S64x256.size inb_S64x256_S64x256_0_0

variable (F) in
/-- The buffers other than the exchange ones, and the stages of the weight copies. -/
structure Res where
  x : sProp 𝕄
  ch : sProp 𝕄
  xl : sProp 𝕄
  o : sProp 𝕄
  v0 : sProp 𝕄
  v1 : sProp 𝕄
  o0 : sProp 𝕄
  o1 : sProp 𝕄
  ib0 : sProp 𝕄
  ib1 : sProp 𝕄
  ob0 : sProp 𝕄
  ob1 : sProp 𝕄
  bar : sProp 𝕄
  w : Fin 6 → ℕ

section
variable (R : Res F)
/-! The same with one component replaced. -/
def Res.px (P : sProp (MT nD τ sig ℕ (Elt F) ℕ UU ℕ)) : Res F := { R with x := P }
def Res.pch (P : sProp (MT nD τ sig ℕ (Elt F) ℕ UU ℕ)) : Res F := { R with ch := P }
def Res.pxl (P : sProp (MT nD τ sig ℕ (Elt F) ℕ UU ℕ)) : Res F := { R with xl := P }
def Res.po (P : sProp (MT nD τ sig ℕ (Elt F) ℕ UU ℕ)) : Res F := { R with o := P }
def Res.pv0 (P : sProp (MT nD τ sig ℕ (Elt F) ℕ UU ℕ)) : Res F := { R with v0 := P }
def Res.pv1 (P : sProp (MT nD τ sig ℕ (Elt F) ℕ UU ℕ)) : Res F := { R with v1 := P }
def Res.po0 (P : sProp (MT nD τ sig ℕ (Elt F) ℕ UU ℕ)) : Res F := { R with o0 := P }
def Res.po1 (P : sProp (MT nD τ sig ℕ (Elt F) ℕ UU ℕ)) : Res F := { R with o1 := P }
def Res.pib0 (P : sProp (MT nD τ sig ℕ (Elt F) ℕ UU ℕ)) : Res F := { R with ib0 := P }
def Res.pib1 (P : sProp (MT nD τ sig ℕ (Elt F) ℕ UU ℕ)) : Res F := { R with ib1 := P }
def Res.pob0 (P : sProp (MT nD τ sig ℕ (Elt F) ℕ UU ℕ)) : Res F := { R with ob0 := P }
def Res.pob1 (P : sProp (MT nD τ sig ℕ (Elt F) ℕ UU ℕ)) : Res F := { R with ob1 := P }
def Res.pbar (P : sProp (MT nD τ sig ℕ (Elt F) ℕ UU ℕ)) : Res F := { R with bar := P }
def Res.pw (q : Fin 6) (s : ℕ) : Res F := { R with w := setf R.w q s }
end

def Res.sep (c : Dev nD) (R : Res F) : sProp 𝕄 :=
  iprop(R.x ∗ R.ch ∗ R.xl ∗ R.o ∗ R.v0 ∗ R.v1 ∗ R.o0 ∗ R.o1 ∗ R.ib0 ∗ R.ib1 ∗ R.ob0 ∗ R.ob1 ∗ R.bar ∗ bigSep Finset.univ fun q => Wst m c q (R.w q))

/-- The whole state of device `c` during the body: payments made, the layer, the stage of each lane, and the rest. -/
def Stt (c : Dev nD) (n l : ℕ) (f : Fin 8 → ℕ) (R : Res F) : sProp 𝕄 :=
  iprop(recs m ∗ Owe c n ∗ lanes m c l f ∗ R.sep m c)

/-- A component of the rest, which can be taken out and replaced. -/
def Foc (get : Res F → sProp 𝕄) (set : Res F → sProp 𝕄 → Res F) : Prop :=
  ∀ (c : Dev nD) (R : Res F) (P : sProp 𝕄), R.sep m c ⊢ iprop(get R ∗ (P -∗ (set R P).sep m c))

theorem foc_x : Foc m (fun R => R.x) Res.px := by
  intro c R P; unfold Res.sep Res.px
  iintro ⟨Hx, Hch, Hxl, Ho, Hv0, Hv1, Ho0, Ho1, Hib0, Hib1, Hob0, Hob1, Hbar, Hw⟩
  isplitl [Hx]; · iexact Hx
  iintro Hx
  iframe
theorem foc_ch : Foc m (fun R => R.ch) Res.pch := by
  intro c R P; unfold Res.sep Res.pch
  iintro ⟨Hx, Hch, Hxl, Ho, Hv0, Hv1, Ho0, Ho1, Hib0, Hib1, Hob0, Hob1, Hbar, Hw⟩
  isplitl [Hch]; · iexact Hch
  iintro Hch
  iframe
theorem foc_xl : Foc m (fun R => R.xl) Res.pxl := by
  intro c R P; unfold Res.sep Res.pxl
  iintro ⟨Hx, Hch, Hxl, Ho, Hv0, Hv1, Ho0, Ho1, Hib0, Hib1, Hob0, Hob1, Hbar, Hw⟩
  isplitl [Hxl]; · iexact Hxl
  iintro Hxl
  iframe
theorem foc_o : Foc m (fun R => R.o) Res.po := by
  intro c R P; unfold Res.sep Res.po
  iintro ⟨Hx, Hch, Hxl, Ho, Hv0, Hv1, Ho0, Ho1, Hib0, Hib1, Hob0, Hob1, Hbar, Hw⟩
  isplitl [Ho]; · iexact Ho
  iintro Ho
  iframe
theorem foc_v0 : Foc m (fun R => R.v0) Res.pv0 := by
  intro c R P; unfold Res.sep Res.pv0
  iintro ⟨Hx, Hch, Hxl, Ho, Hv0, Hv1, Ho0, Ho1, Hib0, Hib1, Hob0, Hob1, Hbar, Hw⟩
  isplitl [Hv0]; · iexact Hv0
  iintro Hv0
  iframe
theorem foc_v1 : Foc m (fun R => R.v1) Res.pv1 := by
  intro c R P; unfold Res.sep Res.pv1
  iintro ⟨Hx, Hch, Hxl, Ho, Hv0, Hv1, Ho0, Ho1, Hib0, Hib1, Hob0, Hob1, Hbar, Hw⟩
  isplitl [Hv1]; · iexact Hv1
  iintro Hv1
  iframe
theorem foc_o0 : Foc m (fun R => R.o0) Res.po0 := by
  intro c R P; unfold Res.sep Res.po0
  iintro ⟨Hx, Hch, Hxl, Ho, Hv0, Hv1, Ho0, Ho1, Hib0, Hib1, Hob0, Hob1, Hbar, Hw⟩
  isplitl [Ho0]; · iexact Ho0
  iintro Ho0
  iframe
theorem foc_o1 : Foc m (fun R => R.o1) Res.po1 := by
  intro c R P; unfold Res.sep Res.po1
  iintro ⟨Hx, Hch, Hxl, Ho, Hv0, Hv1, Ho0, Ho1, Hib0, Hib1, Hob0, Hob1, Hbar, Hw⟩
  isplitl [Ho1]; · iexact Ho1
  iintro Ho1
  iframe
theorem foc_ib0 : Foc m (fun R => R.ib0) Res.pib0 := by
  intro c R P; unfold Res.sep Res.pib0
  iintro ⟨Hx, Hch, Hxl, Ho, Hv0, Hv1, Ho0, Ho1, Hib0, Hib1, Hob0, Hob1, Hbar, Hw⟩
  isplitl [Hib0]; · iexact Hib0
  iintro Hib0
  iframe
theorem foc_ib1 : Foc m (fun R => R.ib1) Res.pib1 := by
  intro c R P; unfold Res.sep Res.pib1
  iintro ⟨Hx, Hch, Hxl, Ho, Hv0, Hv1, Ho0, Ho1, Hib0, Hib1, Hob0, Hob1, Hbar, Hw⟩
  isplitl [Hib1]; · iexact Hib1
  iintro Hib1
  iframe
theorem foc_ob0 : Foc m (fun R => R.ob0) Res.pob0 := by
  intro c R P; unfold Res.sep Res.pob0
  iintro ⟨Hx, Hch, Hxl, Ho, Hv0, Hv1, Ho0, Ho1, Hib0, Hib1, Hob0, Hob1, Hbar, Hw⟩
  isplitl [Hob0]; · iexact Hob0
  iintro Hob0
  iframe
theorem foc_ob1 : Foc m (fun R => R.ob1) Res.pob1 := by
  intro c R P; unfold Res.sep Res.pob1
  iintro ⟨Hx, Hch, Hxl, Ho, Hv0, Hv1, Ho0, Ho1, Hib0, Hib1, Hob0, Hob1, Hbar, Hw⟩
  isplitl [Hob1]; · iexact Hob1
  iintro Hob1
  iframe
theorem foc_bar : Foc m (fun R => R.bar) Res.pbar := by
  intro c R P; unfold Res.sep Res.pbar
  iintro ⟨Hx, Hch, Hxl, Ho, Hv0, Hv1, Ho0, Ho1, Hib0, Hib1, Hob0, Hob1, Hbar, Hw⟩
  isplitl [Hbar]; · iexact Hbar
  iintro Hbar
  iframe

theorem foc_w (c : Dev nD) (R : Res F) (q : Fin 6) (s' : ℕ) :
    R.sep m c ⊢ iprop(Wst m c q (R.w q) ∗ (Wst m c q s' -∗ (R.pw q s').sep m c)) := by
  unfold Res.sep Res.pw
  iintro ⟨H1, H2, H3, H4, H5, H6, H7, H8, H9, H10, H11, H12, H13, Hw⟩
  ihave Hw := (fam_focus (Φ := Wst m c) R.w q s') $$ Hw
  icases Hw with ⟨Hq, Hw⟩
  isplitl [Hq]; · iexact Hq
  iintro Hq
  ihave Hw := Hw $$ Hq
  iframe

/-! ## Steps: an operation's rule lifted to the whole state -/

section Steps
variable {α β : Type} {c : Dev nD} {n n' l : ℕ} {f : Fin 8 → ℕ} {R : Res F}
  {prog : Prog (TpuEff nD τ sig (Elt F) Λ₀ .tc) β} {K : β → Prog (TpuEff nD τ sig (Elt F) Λ₀ .tc) α}

variable {m}

/-- The judgement the steps work on: from `P`, device `c` runs `p` and ends with `Q`. -/
def Ok (P : sProp 𝕄) (c : Dev nD) (p : Prog (TpuEff nD τ sig (Elt F) Λ₀ .tc) α) (Q : α → sProp 𝕄) : Prop := P ⊢ WP c p Q
theorem Ok_pre {P P' : sProp 𝕄} {c : Dev nD} {p : Prog (TpuEff nD τ sig (Elt F) Λ₀ .tc) α} {Q : α → sProp 𝕄} (h : P ⊢ P') (h' : Ok P' c p Q) : Ok P c p Q := BIBase.Entails.trans h h'

/-- An operation on one lane. -/
theorem step_lane {Q : α → sProp 𝕄} (k : Fin 8) (s' : ℕ) {X Y : Prog (TpuEff nD τ sig (Elt F) Λ₀ .tc) α}
    (hop : iprop(recs m ∗ Owe c n ∗ Stg m c k l (f k)) ⊢ iprop(((Owe c n' ∗ Stg m c k l s') -∗ WP c X Q) -∗ WP c Y Q))
    (h : Stt m c n' l (setf f k s') R ⊢ WP c X Q) : Stt m c n l f R ⊢ WP c Y Q := by
  have key : Stt m c n l f R ⊢ iprop((recs m ∗ Owe c n ∗ Stg m c k l (f k)) ∗ ((Owe c n' ∗ Stg m c k l s') -∗ WP c X Q)) := by
    unfold Stt lanes at *
    iintro ⟨#Hr, HO, Hl, HR⟩
    ihave Hl := (fam_focus (Φ := fun t => Stg m c t l) f k s') $$ Hl
    icases Hl with ⟨Hk, Hl⟩
    isplitl [HO Hk]
    · isplitr; · iexact Hr
      isplitl [HO] <;> iassumption
    iintro ⟨HO, Hk⟩
    ihave Hl := Hl $$ Hk
    iapply h
    iframe
    iexact Hr
  exact key.trans ((sep_mono_left hop).trans wand_elim_left)

/-- An operation on one component of the rest. -/
theorem step_res {Q : α → sProp 𝕄} {get set} (hf : Foc m get set) (P P' : sProp 𝕄) {a : β} (hR : get R = P)
    (hop : P ⊢ iprop((P' -∗ WP c (K a) Q) -∗ WP c (prog >>= K) Q))
    (h : Stt m c n l f (set R P') ⊢ WP c (K a) Q) : Stt m c n l f R ⊢ WP c (prog >>= K) Q := by
  have key : Stt m c n l f R ⊢ iprop(P ∗ (P' -∗ WP c (K a) Q)) := by
    subst hR
    unfold Stt at *
    iintro ⟨#Hr, HO, Hl, HR⟩
    ihave HR := (hf c R P') $$ HR
    icases HR with ⟨HP, HR⟩
    isplitl [HP]; · iexact HP
    iintro HP
    ihave HR := HR $$ HP
    iapply h
    iframe
    iexact Hr
  exact key.trans ((sep_mono_left hop).trans wand_elim_left)

end Steps

end Cert.KernelIdealProof

end
-- ==== Proof.KI.Steps.lean ====
/-
# The operations on the lanes

One lemma for each of the kernel's conditional operations — the signal, the two exchanges' copies and
waits — each taking the lane of one device from a stage to the next.
-/
module

public import proofs.«01_k».proof.Proof.KI.State
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ}

/-! ## The conditions the kernel branches on -/

/-- The device number as the kernel computes it, -/
def V2 (c : Dev nD) : BitVec 32 := Scalar.remsi (Scalar.divsi (Dev.word c) 1#32) 8#32
/-- and the condition that it is not `k`. -/
def guard (c : Dev nD) (k : Fin 8) : BitVec 1 :=
  Scalar.cmpi .ne (Scalar.extui (Scalar.cmpi .ne (V2 c) (BitVec.ofNat 32 k.val)) : BitVec 32) 0#32
theorem guard_iff (c : Dev nD) (k : Fin 8) : guard c k = 1#1 ↔ k ≠ c := by revert c k; decide +kernel

theorem sem_r_off (t : Fin 8) {off : Fin 1 → ℕ} (ho : off = ![t.val]) {inb} :
    ((rsS.slice (Rect.unit (s := S8) off S1.size inb)).squeeze S_ squeezes_S1_S_).sem = rS t := by
  subst ho; exact sem_r t
theorem sem_a_off (t : Fin 8) {off : Fin 1 → ℕ} (ho : off = ![t.val]) {inb} :
    ((agS.slice (Rect.unit (s := S8) off S1.size inb)).squeeze S_ squeezes_S1_S_).sem = aS t := by
  subst ho; exact sem_a t

/-! ## Copies into a slot -/

theorem sc8 : S1x64x256.ShapeCasts S64x256 := by decide
theorem sc8' : S64x256.ShapeCasts S1x64x256 := by decide

omit [FloatOps F] in
/-- A slot written with a chunk holds it, with a unit axis in front. -/
theorem slot_written {M : Memref sig .tc .vmem S8x64x256 .bf16} {t : Dev nD} {k : Fin 8} {hr : ∀ a, (r8 k).stride a = 1} {w : Vec F S1x64x256 .bf16} {v : Vec F S64x256 .bf16}
    (hv : shapeCast S64x256 w sc8 = v) {fd : Buf (Elt F) (M.view.loc (t : Thread nD τ))} :
    ((((M.slice (r8 k) hr).squeeze S64x256 squeezes_S1x64x256_S64x256).view.loc (t : Thread nD τ)
      ↦[((M.slice (r8 k) hr).squeeze S64x256 squeezes_S1x64x256_S64x256).view.set]{fullShare}
        (((M.slice (r8 k) hr).squeeze S64x256 squeezes_S1x64x256_S64x256).view.write (Elt F) fd v Finset.univ)) : sProp 𝕄) ⊢ slotV M t (r8 k) w := by
  subst hv
  unfold slotV
  rw [Memref.set_view_squeeze]
  iintro H
  iexists _
  isplitl [H]
  · iexact H
  · ipureintro
    have h1 := View.read_write_univ (Val := Elt F) (v := ((M.slice (r8 k) hr).squeeze S64x256 squeezes_S1x64x256_S64x256).view) fd (shapeCast S64x256 w sc8)
    have h3 := congrArg (fun u => shapeCast S1x64x256 u sc8') (show shapeCast S64x256 (M.view.readAt (Elt F) (r8 k).toLoadRect _) sc8 = _ from h1)
    simp only at h3
    rwa [shapeCast_shapeCast, shapeCast_shapeCast] at h3

/-! ## Conditional operations on a lane -/

section Lane
variable {α : Type} {c : Dev nD} {n n' l : ℕ} {f : Fin 8 → ℕ} {R : Res F}
  {K : Prog (TpuEff nD τ sig (Elt F) Λ₀ .tc) α} {Q : α → sProp (MT nD τ sig ℕ (Elt F) ℕ UU ℕ)}

theorem WP_lift1 {α' β' : Type} (c : Dev nD) (e : TpuEff nD τ sig (Elt F) Λ₀ .tc PUnit) (K : Prog (TpuEff nD τ sig (Elt F) Λ₀ .tc) α) (Q : α → sProp (MT nD τ sig ℕ (Elt F) ℕ UU ℕ)) :
    WP c (do Prog.lift e; K) Q = WP c (.op e fun _ => K) Q := rfl

/-- A branch taken unless the lane is the device's own. -/
theorem cond_lane (k : Fin 8) (s s' : ℕ) {p : Prop} [Decidable p] {tr : p → Prog (TpuEff nD τ sig (Elt F) Λ₀ .tc) α}
    (hp : p = (guard c k = 1#1)) (hfk : f k = s) (hO : k = c → Od c n = Od c n') (hown : k = c → Ost m c l s = Ost m c l s')
    (hpeer : k ≠ c → ∀ h : p, iprop(recs m ∗ Owe c n ∗ Pst m c k l s) ⊢ iprop(((Owe c n' ∗ Pst m c k l s') -∗ WP c K Q) -∗ WP c (tr h) Q))
    (h : Ok (Stt m c n' l (setf f k s') R) c K Q) :
    Ok (Stt m c n l f R) c (if h : p then tr h else K) Q := by
  replace hp : p ↔ k ≠ c := (Iff.of_eq hp).trans (guard_iff c k)
  refine step_lane k s' ?_ h
  rw [hfk]
  by_cases hk : k = c
  · rw [dif_neg (fun h => hp.mp h hk), Stg_own m c k l s hk, Stg_own m c k l s' hk]
    unfold Owe
    rw [hO hk, hown hk]
    iintro ⟨-, HO⟩ HK
    iapply HK; iexact HO
  · rw [dif_pos (hp.mpr hk), Stg_peer m c k l s hk, Stg_peer m c k l s' hk]
    exact hpeer hk _

/-- A wait for one copy's credit, skipped on the own lane. -/
theorem cond_wait (k : Fin 8) (s s' : ℕ) {p : Prop} [Decidable p] {sm : p → DmaSem sig} {sp sp' : Space} {s₁ s₂ : Shape} {e₁ e₂ : EltTy}
    {src : p → Memref sig .tc sp' s₁ e₁} {dst : p → Memref sig .tc sp s₂ e₂}
    {hsrc : ∀ h : p, (src h).view.WordExact} {hdst : ∀ h : p, (dst h).view.WordExact}
    (sS : DmaSem sig) (ι : ℕ) (pay : sProp (MT nD τ sig ℕ (Elt F) ℕ UU ℕ))
    (hp : p = (guard c k = 1#1)) (hfk : f k = s) (hsm : ∀ h, sm h = sS) (hcr : ∀ h, (dst h).view.dmaCredit = Nc) (hι : ι < 1 + n / 8) (hι' : ι < 8)
    (hown : k = c → Ost m c l s = Ost m c l s')
    (hrec : recs m ⊢ iprop(∃ κ : ℕ, cellInv ER (Rd m) κ ((c : Thread nD τ), .dma sS)))
    (hexp : k ≠ c → (Rd m).expect ((c : Thread nD τ), .dma sS) l = Nc)
    (hrest : k ≠ c → bigSep ((Rd m).duties ((c : Thread nD τ), .dma sS) l \ ∅) (fun d => (Rd m).payload ((c : Thread nD τ), .dma sS) l d) = pay)
    (hin : k ≠ c → Pst m c k l s ⊢ iprop(cred (tallyAt ((c : Thread nD τ), .dma sS) ι Nc) ∗ At ((c : Thread nD τ), .dma sS) l
      ∗ ((At ((c : Thread nD τ), .dma sS) (l + 1) ∗ pay) -∗ Pst m c k l s')))
    (h : Ok (Stt m c n l (setf f k s') R) c K Q) :
    Ok (Stt m c n l f R) c (if h : p then do
        Prog.lift (.waitDma2 (sm h) (src h) (dst h) (hsrc h) (hdst h))
        K
      else K) Q := by
  refine cond_lane k s s' hp hfk (fun _ => rfl) hown (fun hk hh => ?_) h
  rw [WP_lift1 (α' := Unit) (β' := Unit), hsm hh]
  have hE := (hexp hk)
  rw [← hcr hh] at hE
  unfold Owe
  iintro ⟨#Hr, ⟨%W, HO⟩, HP⟩ HK
  ihave HP := (hin hk) $$ HP
  icases HP with ⟨Hc, Hat, HP⟩
  ihave HI := hrec $$ Hr
  icases HI with ⟨%κ, #HI⟩
  unfold At
  icases Hat with ⟨Hat, -⟩
  iapply (Rounds.wp_wait_rest_token 𝒱₀ ER (Rd m) (c : Thread nD τ) none (κ := κ)
      (wpE_waitDma2_eq 𝒱₀ (c : Thread nD τ) none Set.univ) (Set.mem_univ _) ι (O := Od c n) (W := W) (R := l) (m := 0) (T := ∅)
      ((Nat.zero_add _).trans hE.symm)) $$ [Hc HO Hat]
  · isplitr; · iexact HI
    isplitl [Hc]; · rw [hcr hh]; iexact Hc
    isplitl [HO]; · iexact HO
    isplitr; · iapply (mayWait c (.dma sS) ι n hι hι'); iapply (recs_lev m); iexact Hr
    iexact Hat
  iintro ⟨HO, Hat, #Hra, Hpay⟩
  iapply HK
  isplitl [HO]; · iexists _; iexact HO
  iapply HP
  isplitl [Hat]
  · isplitl [Hat]; · iexact Hat
    iexact Hra
  iapply (Entails.of_eq (hrest hk)); iexact Hpay

/-- The wait for what device `k` sends first in a layer. -/
theorem rsWait (k : Fin 8) {p : Prop} [Decidable p] {sm : p → DmaSem sig} {sp sp' : Space} {s₁ s₂ : Shape} {e₁ e₂ : EltTy}
    {src : p → Memref sig .tc sp' s₁ e₁} {dst : p → Memref sig .tc sp s₂ e₂}
    {hsrc : ∀ h : p, (src h).view.WordExact} {hdst : ∀ h : p, (dst h).view.WordExact}
    (h : Ok (Stt m c n l (setf f k 3) R) c K Q)
    (hp : p = (guard c k = 1#1) := by rfl) (hfk : f k = 2 := by rfl) (hsm : ∀ h, sm h = rS k := by exact fun _ => sem_r _)
    (hcr : ∀ h, (dst h).view.dmaCredit = Nc := by exact fun _ => rfl)
    (hn : n = 8 * (2 + 2 * l) := by rfl) (hl : l < 3 := by decide) :
    Ok (Stt m c n l f R) c (if h : p then do
        Prog.lift (.waitDma2 (sm h) (src h) (dst h) (hsrc h) (hdst h))
        K
      else K) Q := by
  refine cond_wait k 2 3 (rS k) (2 + 2 * l) (rsPay m c k l) hp hfk hsm hcr (by omega) (by omega) (fun _ => rfl) (rec_r m c k)
    (fun hk => expect_r m c k l hk hl) (fun hk => rest_r m c k l hk hl) (fun hk => ?_) h
  change P2 c k l ⊢ iprop(_ ∗ _ ∗ (_ -∗ P3 m c k l))
  unfold P2 P3 At4 rsPay rsVal toAg
  rw [show rsv m l c k = part m l k c from if_neg hk]
  iintro ⟨⟨H1, H2, H3, H4⟩, Hs, Ht, Hta, Hcr, Hca, HF⟩
  isplitl [Hcr]; · iexact Hcr
  isplitl [H3]; · iexact H3
  iintro ⟨H3, Hv, Hg⟩
  iframe

/-- The wait for the copy to device `k` of the first exchange to have been read. -/
theorem rsSent (k : Fin 8) {p : Prop} [Decidable p] {sm : p → DmaSem sig} {sp sp' : Space} {s₁ s₂ : Shape} {e₁ e₂ : EltTy}
    {src : p → Memref sig .tc sp' s₁ e₁} {dst : p → Memref sig .tc sp s₂ e₂}
    {hsrc : ∀ h : p, (src h).view.WordExact} {hdst : ∀ h : p, (dst h).view.WordExact}
    (h : Ok (Stt m c n l (setf f k 7) R) c K Q)
    (hp : p = (guard c k = 1#1) := by rfl) (hfk : f k = 6 := by rfl) (hsm : ∀ h, sm h = s0S k := by exact fun _ => sem_s0 _)
    (hcr : ∀ h, (dst h).view.dmaCredit = Nc := by exact fun _ => rfl) (hl : l < 3 := by decide) :
    Ok (Stt m c n l f R) c (if h : p then do
        Prog.lift (.waitDma2 (sm h) (src h) (dst h) (hsrc h) (hdst h))
        K
      else K) Q := by
  refine cond_wait k 6 7 (s0S k) 0 (slotAny pbM c (r8 k)) hp hfk hsm hcr (by omega) (by omega) (fun _ => rfl) (rec_s0 m c k)
    (fun hk => expect_s0 m c k l hk hl) (fun hk => rest_s0 m c k l hk hl) (fun hk => ?_) h
  change P6 c k l ⊢ iprop(_ ∗ _ ∗ (_ -∗ P7 c k l))
  unfold P6 P7 At4 pbA
  iintro ⟨⟨H1, H2, H3, H4⟩, Hs, Ht, Hca, HF, Hl⟩
  isplitl [Hs]; · iexact Hs
  isplitl [H1]; · iexact H1
  iintro ⟨H1, Hv⟩
  iframe

/-- The wait for what device `k` sends second in a layer. -/
theorem agWait (k : Fin 8) {p : Prop} [Decidable p] {sm : p → DmaSem sig} {sp sp' : Space} {s₁ s₂ : Shape} {e₁ e₂ : EltTy}
    {src : p → Memref sig .tc sp' s₁ e₁} {dst : p → Memref sig .tc sp s₂ e₂}
    {hsrc : ∀ h : p, (src h).view.WordExact} {hdst : ∀ h : p, (dst h).view.WordExact}
    (h : Ok (Stt m c n l (setf f k 9) R) c K Q)
    (hp : p = (guard c k = 1#1) := by rfl) (hfk : f k = 8 := by rfl) (hsm : ∀ h, sm h = aS k := by exact fun _ => sem_a _)
    (hcr : ∀ h, (dst h).view.dmaCredit = Nc := by exact fun _ => rfl)
    (hn : n = 8 * (3 + 2 * l) := by rfl) (hl : l < 3 := by decide) :
    Ok (Stt m c n l f R) c (if h : p then do
        Prog.lift (.waitDma2 (sm h) (src h) (dst h) (hsrc h) (hdst h))
        K
      else K) Q := by
  refine cond_wait k 8 9 (aS k) (3 + 2 * l) (agPay m c k l) hp hfk hsm hcr (by omega) (by omega) (fun _ => rfl) (rec_a m c k)
    (fun hk => expect_a m c k l hk hl) (fun hk => rest_a m c k l hk hl) (fun hk => ?_) h
  change P8 c k l ⊢ iprop(_ ∗ _ ∗ (_ -∗ P9 m c k l))
  unfold P8 P9 At4 agPay agVal
  iintro ⟨⟨H1, H2, H3, H4⟩, Hp, Hs, Hca, HF, Hl⟩
  isplitl [Hca]; · iexact Hca
  isplitl [H4]; · iexact H4
  iintro ⟨H4, Hv, Hg⟩
  iframe

/-- The wait for the copy to device `k` of the second exchange to have been read. -/
theorem agSent (k : Fin 8) {p : Prop} [Decidable p] {sm : p → DmaSem sig} {sp sp' : Space} {s₁ s₂ : Shape} {e₁ e₂ : EltTy}
    {src : p → Memref sig .tc sp' s₁ e₁} {dst : p → Memref sig .tc sp s₂ e₂}
    {hsrc : ∀ h : p, (src h).view.WordExact} {hdst : ∀ h : p, (dst h).view.WordExact}
    (h : Ok (Stt m c n l (setf f k 10) R) c K Q)
    (hp : p = (guard c k = 1#1) := by rfl) (hfk : f k = 9 := by rfl) (hsm : ∀ h, sm h = s1S k := by exact fun _ => sem_s1 _)
    (hcr : ∀ h, (dst h).view.dmaCredit = Nc := by exact fun _ => rfl) (hl : l < 3 := by decide) :
    Ok (Stt m c n l f R) c (if h : p then do
        Prog.lift (.waitDma2 (sm h) (src h) (dst h) (hsrc h) (hdst h))
        K
      else K) Q := by
  refine cond_wait k 9 10 (s1S k) 0 (chP c (shr k) (agc m l c)) hp hfk hsm hcr (by omega) (by omega) (fun _ => rfl) (rec_s1 m c k)
    (fun hk => expect_s1 m c k l hk hl) (fun hk => rest_s1 m c k l hk hl) (fun hk => ?_) h
  change P9 m c k l ⊢ iprop(_ ∗ _ ∗ (_ -∗ P10 m c k l))
  unfold P9 P10 At4
  iintro ⟨⟨H1, H2, H3, H4⟩, Hp, Hs, HF, Hl, Hn, Hv⟩
  isplitl [Hs]; · iexact Hs
  isplitl [H2]; · iexact H2
  iintro ⟨H2, Hch⟩
  iframe

/-- A slot of a stack of chunks, at an offset. -/
abbrev sl8 (M : Memref sig .tc .vmem S8x64x256 .bf16) (off : Fin 3 → ℕ) (i : ∀ a, off a + S1x64x256.size a ≤ S8x64x256.size a) : Memref sig .tc .vmem S64x256 .bf16 :=
  (M.slice (Rect.unit (s := S8x64x256) off S1x64x256.size i) (fun _ => rfl)).squeeze S64x256 squeezes_S1x64x256_S64x256

/-- The copy to device `k` of a layer's first exchange. -/
theorem rsStart (k : Fin 8) {p : Prop} [Decidable p] {nn : ℕ} {hd : p → nn < nD} {off : Fin 3 → ℕ} {i1} {i2 : p → ∀ a, off a + S1x64x256.size a ≤ S8x64x256.size a}
    {sS : DmaSem sig} {sR : p → DmaSem sig} {hsrc : p → (sl8 pbM ![k.val, 0, 0] i1).view.WordExact} {hdst : ∀ h : p, (sl8 rsM off (i2 h)).view.WordExact}
    {hty : ∀ h : p, DmaTarget.Typed .vmem (.dma (sR h)) (.remote (Dev.tc (⟨nn, hd h⟩ : Dev nD)) (sl8 rsM off (i2 h)) (.dma sS))}
    (hnn : nn = k.val) (ho : off = ![c.val, 0, 0])
    (h : Ok (Stt m c (n + 1) l (setf f k 2) R) c K Q)
    (hp : p = (guard c k = 1#1) := by rfl) (hfk : f k = 1 := by rfl)
    (hsS : sS = s0S k := by exact sem_s0 _) (hsR : ∀ h, sR h = rS c := by exact fun _ => sem_r_off _ (k0_off1_eq _))
    (hn : n = 8 * (1 + 2 * l) + k.val := by rfl) (hl : l < 3 := by decide) :
    Ok (Stt m c n l f R) c (if h : p then do
        Prog.lift (.enqueueDma (sl8 pbM ![k.val, 0, 0] i1) (.remote (Dev.tc (⟨nn, hd h⟩ : Dev nD)) (sl8 rsM off (i2 h)) (.dma sS)) (.dma (sR h)) (hsrc h) (hdst h) (hty h))
        K
      else K) Q := by
  subst hnn ho hsS
  obtain rfl : sR = fun _ => rS c := funext hsR
  have hk8 := k.isLt
  have hdiv : n / 8 = 1 + 2 * l := by omega
  refine cond_lane k 1 2 hp hfk (fun hc => Od_skip c n (by omega) k (by omega) hc) (fun _ => rfl) (fun hk hh => ?_) h
  rw [WP_lift1 (α' := Unit) (β' := Unit)]
  change iprop(_ ∗ _ ∗ P1 m c k l) ⊢ iprop(((_ ∗ P2 c k l) -∗ _) -∗ _)
  unfold P1 P2
  rw [Fut_succ c k l hl]
  unfold Owe pbV toRs slotV slotAny agA slotAny At4 At Lay
  iintro ⟨#Hr, ⟨%W, HO⟩, ⟨⟨H1, #H1r⟩, H2, H3, ⟨H4, #H4r⟩⟩, ⟨⟨Ht0, Ht1, Htr, Hta, Hcr, Hca⟩, HF⟩, ⟨%fs, Hsrc, %hfs⟩, ⟨⟨%fd, Hdst⟩, #Hreach⟩, ⟨%fg, Hag⟩⟩ HK
  ihave HI1 := (rec_s0 m c k) $$ Hr
  icases HI1 with ⟨%κ₁, #HI1⟩
  ihave HI2 := (rec_r m k c) $$ Hr
  icases HI2 with ⟨%κ₂, #HI2⟩
  have e1 : (0 : Fin 8) ∈ (Rd m).duties (s0C c k) l := by rw [duties_s0 m c k l hk hl]; exact Finset.mem_singleton_self _
  have e2 : (0 : Fin 8) ∈ (Rd m).duties (rC' k c) l := by rw [duties_r m k c l (Ne.symm hk) hl]; exact Finset.mem_singleton_self _
  have e3 : Od c n = Od c (n + 1) + tallyAt (rC' k c) (2 + 2 * l) Nc := by
    rw [Od_succ c n (by omega)]
    have hf : (Fin.ofNat 8 n : Fin 8) = k := Fin.ext (by show n % 8 = k.val; omega)
    unfold pay
    rw [hf, if_neg hk, if_neg (by omega), if_pos (by omega), hdiv, show 1 + (1 + 2 * l) = 2 + 2 * l by omega]
  have e4 : (sl8 rsM ![c.val, 0, 0] (i2 hh)).view.amount (.dma (rS c)) = Nc := rfl
  have e5 : ((sl8 pbM ![k.val, 0, 0] i1).view.loc (c : Thread nD τ) ↦[(sl8 pbM ![k.val, 0, 0] i1).view.set]{fullShare} fs) ⊢ (Rd m).payload (s0C c k) l 0 := by
    rw [payload_s0, Memref.set_view_squeeze]
    unfold slotAny; iintro H; iexists _; iexact H
  have e6 : iprop(((sl8 rsM ![c.val, 0, 0] (i2 hh)).view.loc (k : Thread nD τ) ↦[(sl8 rsM ![c.val, 0, 0] (i2 hh)).view.set]{fullShare}
        ((sl8 rsM ![c.val, 0, 0] (i2 hh)).view.write (Elt F) fd ((sl8 pbM ![k.val, 0, 0] i1).view.read (Elt F) fs) Finset.univ))
        ∗ (slotAny agM c (r8 k) ∗ reached ER (aC c k) l)) ⊢ (Rd m).payload (rC' k c) l 0 := by
    rw [payload_r]; unfold rsPay
    refine sep_mono_left ?_
    exact slot_written (by rw [← hfs]; rfl)
  iapply (Rounds.wp_send_pointsTo_with 𝒱₀ ER (Rd m) (c : Thread nD τ) none (c' := (k : Thread nD τ)) (sS := .dma (s0S k)) (sem := .dma (rS c)) (κ₁ := κ₁) (κ₂ := κ₂) (r₁ := l) (r₂ := l) (d₁ := 0) (d₂ := 0)
      (src := sl8 pbM ![k.val, 0, 0] i1) (dst := sl8 rsM ![c.val, 0, 0] (i2 hh)) (fs := fs) (fd := fd) (F := iprop(slotAny agM c (r8 k) ∗ reached ER (aC c k) l)) e1 e2
      (2 + 2 * l) 0 Nc e4 (amount_s0 m c k l 0) (amount_r m k c l 0) (Od c (n + 1)) e3 e5 e6)
    $$ [Ht0 Htr HO Hsrc Hdst Hag]

  · isplitr; · iexact HI1
    isplitr; · iexact HI2
    isplitl [Hsrc]; · rw [Memref.set_view_squeeze]; iexact Hsrc
    isplitl [Hdst Hag]

    · isplitl [Hdst]; · rw [Memref.set_view_squeeze]; iexact Hdst
      isplitl [Hag]; · unfold slotAny; iexists _; iexact Hag
      iexact H4r
    isplitl [HO]; · iexact HO
    isplitl [Ht0]; · iexact Ht0
    isplitr; · iexact H1r
    isplitl [Htr]; · iexact Htr
    iexact Hreach
  iintro ⟨Hcs, HO⟩
  iapply HK
  isplitl [HO]; · iexists W; iexact HO
  iframe
  isplitr; · iexact H1r
  iexact H4r

/-- What goes along with a copy of the second exchange, and what stays. -/
theorem give_next (l : ℕ) (k : Fin 8) :
    iprop(rsA (F := F) c k ∗ reached ER (rC' c k) (l + 1)) ⊢ iprop(nextPay k c l ∗ left c k l) := by
  unfold nextPay left rsA
  by_cases h : l < 2
  · rw [if_pos h, if_pos h]
    iintro ⟨H, #Hr⟩
    isplitl [H]
    · isplitl [H]; · iexact H
      iexact Hr
    iempintro
  · rw [if_neg h, if_neg h]
    iintro ⟨H, #Hr⟩
    isplitr; · iempintro
    iexact H

/-- The copy to device `k` of a layer's second exchange. -/
theorem agStart (k : Fin 8) {p : Prop} [Decidable p] {nn : ℕ} {hd : p → nn < nD} {off : Fin 3 → ℕ} {i2 : p → ∀ a, off a + S1x64x256.size a ≤ S8x64x256.size a}
    {sS : DmaSem sig} {sR : p → DmaSem sig} {hsrc : p → (chM : Memref sig .tc .vmem S64x256 .bf16).view.WordExact} {hdst : ∀ h : p, (sl8 agM off (i2 h)).view.WordExact}
    {hty : ∀ h : p, DmaTarget.Typed .vmem (.dma (sR h)) (.remote (Dev.tc (⟨nn, hd h⟩ : Dev nD)) (sl8 agM off (i2 h)) (.dma sS))}
    (hnn : nn = k.val) (ho : off = ![c.val, 0, 0])
    (h : Ok (Stt m c (n + 1) l (setf f k 6) R) c K Q)
    (hp : p = (guard c k = 1#1) := by rfl) (hfk : f k = 5 := by rfl)
    (hsS : sS = s1S k := by exact sem_s1 _) (hsR : ∀ h, sR h = aS c := by exact fun _ => sem_a_off _ (k0_off1_eq _))
    (hn : n = 8 * (2 + 2 * l) + k.val := by rfl) (hl : l < 3 := by decide) :
    Ok (Stt m c n l f R) c (if h : p then do
        Prog.lift (.enqueueDma chM (.remote (Dev.tc (⟨nn, hd h⟩ : Dev nD)) (sl8 agM off (i2 h)) (.dma sS)) (.dma (sR h)) (hsrc h) (hdst h) (hty h))
        K
      else K) Q := by
  subst hnn ho hsS
  obtain rfl : sR = fun _ => aS c := funext hsR
  have hk8 := k.isLt
  have hdiv : n / 8 = 2 + 2 * l := by omega
  refine cond_lane k 5 6 hp hfk (fun hc => Od_skip c n (by omega) k (by omega) hc) (fun _ => rfl) (fun hk hh => ?_) h
  rw [WP_lift1 (α' := Unit) (β' := Unit)]
  change iprop(_ ∗ _ ∗ P5 m c k l) ⊢ iprop(((_ ∗ P6 c k l) -∗ _) -∗ _)
  unfold P5 P6
  unfold Owe chP toAg rsVal slotAny At4 At
  iintro ⟨#Hr, ⟨%W, HO⟩, ⟨⟨⟨H1, #H1r⟩, ⟨H2, #H2r⟩, ⟨H3, #H3r⟩, ⟨H4, #H4r⟩⟩, Hc0, Ht1, Hta, Hca, HF, Hrs, ⟨%fd, Hdst⟩, #Hreach⟩, Hsrc⟩ HK
  ihave Hn := (give_next (F := F) (c := c) l k) $$ [Hrs]
  · isplitl [Hrs]
    · unfold rsA; iapply (slotV_any rsM c (r8 k) (rsv m l c k)); iexact Hrs
    iexact H3r
  icases Hn with ⟨Hn, Hl⟩
  ihave HI1 := (rec_s1 m c k) $$ Hr
  icases HI1 with ⟨%κ₁, #HI1⟩
  ihave HI2 := (rec_a m k c) $$ Hr
  icases HI2 with ⟨%κ₂, #HI2⟩
  have e1 : (0 : Fin 8) ∈ (Rd m).duties (s1C c k) l := by rw [duties_s1 m c k l hk hl]; exact Finset.mem_singleton_self _
  have e2 : (0 : Fin 8) ∈ (Rd m).duties (aC k c) l := by rw [duties_a m k c l (Ne.symm hk) hl]; exact Finset.mem_singleton_self _
  have e3 : Od c n = Od c (n + 1) + tallyAt (aC k c) (3 + 2 * l) Nc := by
    rw [Od_succ c n (by omega)]
    have hf : (Fin.ofNat 8 n : Fin 8) = k := Fin.ext (by show n % 8 = k.val; omega)
    unfold pay
    rw [hf, if_neg hk, if_neg (by omega), if_neg (by omega), hdiv, show 1 + (2 + 2 * l) = 3 + 2 * l by omega]
  have e4 : (sl8 agM ![c.val, 0, 0] (i2 hh)).view.amount (.dma (aS c)) = Nc := rfl
  have e5 : ((chM : Memref sig .tc .vmem S64x256 .bf16).view.loc (c : Thread nD τ) ↦[(chM : Memref sig .tc .vmem S64x256 .bf16).view.set]{shr k} (agc m l c)) ⊢ (Rd m).payload (s1C c k) l 0 := by
    rw [payload_s1]; exact Entails.rfl
  have e6 : iprop(((sl8 agM ![c.val, 0, 0] (i2 hh)).view.loc (k : Thread nD τ) ↦[(sl8 agM ![c.val, 0, 0] (i2 hh)).view.set]{fullShare}
        ((sl8 agM ![c.val, 0, 0] (i2 hh)).view.write (Elt F) fd ((chM : Memref sig .tc .vmem S64x256 .bf16).view.read (Elt F) (agc m l c)) Finset.univ))
        ∗ nextPay k c l) ⊢ (Rd m).payload (aC k c) l 0 := by
    rw [payload_a]; unfold agPay
    refine sep_mono_left ?_
    exact slot_written (by
      unfold agv k0_pay13
      rw [shapeCast_shapeCast]; rfl)
  iapply (Rounds.wp_send_pointsTo_with 𝒱₀ ER (Rd m) (c : Thread nD τ) none (c' := (k : Thread nD τ)) (sS := .dma (s1S k)) (sem := .dma (aS c)) (κ₁ := κ₁) (κ₂ := κ₂) (r₁ := l) (r₂ := l) (d₁ := 0) (d₂ := 0)
      (src := chM) (dst := sl8 agM ![c.val, 0, 0] (i2 hh)) (q := shr k) (fs := agc m l c) (fd := fd) (F := nextPay k c l) e1 e2
      (3 + 2 * l) 0 Nc e4 (amount_s1 m c k l 0) (amount_a m k c l 0) (Od c (n + 1)) e3 e5 e6)
    $$ [Ht1 Hta HO Hsrc Hdst Hn]
  · isplitr; · iexact HI1
    isplitr; · iexact HI2
    isplitl [Hsrc]; · iexact Hsrc
    isplitl [Hdst Hn]
    · isplitl [Hdst]; · rw [Memref.set_view_squeeze]; iexact Hdst
      iexact Hn
    isplitl [HO]; · iexact HO
    isplitl [Ht1]; · iexact Ht1
    isplitr; · iexact H2r
    isplitl [Hta]; · iexact Hta
    iexact Hreach
  iintro ⟨Hcs, HO⟩
  iapply HK
  isplitl [HO]; · iexists W; iexact HO
  iframe
  isplitr; · iexact H1r
  isplitr; · iexact H2r
  isplitr; · iexact H3r
  iexact H4r

/-- The signal of the barrier to device `k`, handing it the slot it will send to. -/
theorem barSignal (k : Fin 8) {p : Prop} [Decidable p] {nn : ℕ} {hd : p → nn < nD}
    (hnn : nn = k.val)
    (h : Ok (Stt m c (n + 1) l (setf f k 12) R) c K Q)
    (hp : p = (guard c k = 1#1) := by rfl) (hfk : f k = 11 := by rfl) (hn : n = k.val := by rfl) (hl : l = 0 := by rfl) :
    Ok (Stt m c n l f R) c (if h : p then do
        semSignalWord (⟨nn, hd h⟩ : Dev nD) barS 1#32
        K
      else K) Q := by
  subst hnn hl
  have hk8 := k.isLt
  refine cond_lane k 11 12 hp hfk (fun hc => Od_skip c n (by omega) k (by omega) hc) (fun _ => rfl) (fun hk hh => ?_) h
  change iprop(_ ∗ _ ∗ P11 c k 0) ⊢ iprop(((_ ∗ P12 c k 0) -∗ _) -∗ WP c (.op (.semSignal ((k : Dev nD) : Thread nD τ) barS 1) fun _ => K) Q)
  unfold P11 P12
  unfold Owe At4 At
  iintro ⟨#Hr, ⟨%W, HO⟩, ⟨H1, H2, ⟨H3, #H3r⟩, H4⟩, HF, Hp, Hg, Hrs, Ht, #Hb⟩ HK
  ihave HI1 := (rec_bar m k) $$ Hr
  icases HI1 with ⟨%κ, #HI1⟩
  have e1 : c ∈ (Rd m).duties (barC k) 0 := by rw [duties_bar]; exact Finset.mem_erase.mpr ⟨Ne.symm hk, Finset.mem_univ _⟩
  have e3 : Od c n = Od c (n + 1) + tallyAt (barC k) 1 1 := by
    rw [Od_succ c n (by omega)]
    have hf : (Fin.ofNat 8 n : Fin 8) = k := Fin.ext (by show n % 8 = k.val; omega)
    unfold pay
    have : n / 8 = 0 := by omega
    rw [hf, if_neg hk, if_pos this, this]
  iapply (Rounds.wp_signal 𝒱₀ ER (Rd m) (c : Thread nD τ) none (dst := (k : Thread nD τ)) (κ := κ) (r := 0) (d := c) e1 (amount_bar m k 0 c) 1 (Od c (n + 1)) e3)
    $$ [HO Ht Hrs]
  · isplitr; · iexact HI1
    isplitl [HO]; · iexact HO
    isplitl [Ht]; · iexact Ht
    isplitl [Hrs]
    · rw [payload_bar]; unfold barPay
      isplitl [Hrs]; · unfold rsA; iexact Hrs
      iexact H3r
    iexact Hb
  iintro HO
  iapply HK
  isplitl [HO]; · iexists W; iexact HO
  iframe
  iexact H3r

end Lane

end Cert.KernelIdealProof

end
-- ==== Proof.KI.Steps2.lean ====
/-
# The other operations

Loads and stores of the buffers, the barrier's wait, the operations on the own slots, and how the chunk
buffer is lent to the copies and comes back.
-/
module

public import proofs.«01_k».proof.Proof.KI.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ}

section Ops
variable {α : Type} {c : Dev nD} {n l : ℕ} {f : Fin 8 → ℕ} {R : Res F} {Q : α → sProp (MT nD τ sig ℕ (Elt F) ℕ UU ℕ)}
variable {cs : CoreSpace} {s s' : Shape} {e : EltTy} {get : Res F → sProp (MT nD τ sig ℕ (Elt F) ℕ UU ℕ)} {set : Res F → sProp (MT nD τ sig ℕ (Elt F) ℕ UU ℕ) → Res F}

/-! ## Loads and stores on the buffers of the device's own -/

/-- A load of a whole buffer of known content. -/
theorem ld {M : Memref sig .tc cs s e} {r : Rect s} {w : Vec F r.shape e} {hl} {K : Vec F r.shape e → Prog (TpuEff nD τ sig (Elt F) Λ₀ .tc) α}
    (hf : Foc m get set) (hR : get R = slotV M c r w) (h : Ok (Stt m c n l f R) c (K w) Q) (hs : ∀ R, set R (get R) = R := by exact fun _ => rfl) :
    Ok (Stt m c n l f R) c (Prog.lift (.load M r.toLoadRect hl) >>= K) Q :=
  step_res hf (slotV M c r w) (slotV M c r w) hR ld_slot (by rw [← hR, hs]; exact h)

/-- A load of a whole buffer whose content is not used. -/
theorem ldD {M : Memref sig .tc cs s e} {r : Rect s} {hl} {K : Vec F r.shape e → Prog (TpuEff nD τ sig (Elt F) Λ₀ .tc) α}
    (hf : Foc m get set) (hR : get R ⊢ slotAny M c r) (h : ∀ w, Ok (Stt m c n l f (set R (slotAny M c r))) c (K w) Q) :
    Ok (Stt m c n l f R) c (Prog.lift (.load M r.toLoadRect hl) >>= K) Q := by
  have key : Stt m c n l f R ⊢ iprop(slotAny M c r ∗ (∀ w, slotAny M c r -∗ WP c (K w) Q)) := by
    unfold Ok Stt at *
    iintro ⟨#Hr, HO, Hl, HR⟩
    ihave HR := (hf c R (slotAny M c r)) $$ HR
    icases HR with ⟨HP, HR⟩
    isplitl [HP]; · iapply hR; iexact HP
    iintro %w HP
    ihave HR := HR $$ HP
    iapply (h w)
    iframe
    iexact Hr
  exact key.trans ((sep_mono_left ld_any).trans wand_elim_left)

/-- A store over a whole buffer. -/
theorem st {M : Memref sig .tc cs s e} {r : Rect s} {w₀ : Vec F r.shape e} {hx hm} {K : PUnit → Prog (TpuEff nD τ sig (Elt F) Λ₀ .tc) α} (w : Vec F r.shape e)
    (hf : Foc m get set) (hR : get R = slotAny M c r) (hw : w₀ = w) (h : Ok (Stt m c n l f (set R (slotV M c r w))) c (K ⟨⟩) Q) :
    Ok (Stt m c n l f R) c (Prog.lift (.store M r w₀ Finset.univ hx hm) >>= K) Q := by
  subst hw
  exact step_res hf (slotAny M c r) (slotV M c r w₀) hR st_slot h

theorem sci : S1x1024x2048.ShapeCasts S1024x2048 := by decide
theorem sco : S1x2048x1024.ShapeCasts S2048x1024 := by decide

/-- A load of the columns of an input weight that belong to device `t`. -/
theorem ldC {M : Memref sig .tc .vmem S2x1024x2048 e} {off : Fin 3 → ℕ} {i : ∀ a, off a + S1x1024x2048.size a ≤ S2x1024x2048.size a}
    {off2 : Fin 2 → ℕ} {i2 : ∀ a, off2 a + S1024x256.size a ≤ S1024x2048.size a} {w : Vec F S1x1024x2048 e} {hr} (k : Fin 2) (t : Fin 8) {hl}
    {K : Vec F S1024x256 e → Prog (TpuEff nD τ sig (Elt F) Λ₀ .tc) α}
    (hf : Foc m get set) (hR : get R = slotV M c (rI k) w) (h : Ok (Stt m c n l f R) c (K (cin w t)) Q)
    (ho : off = ![k.val, 0, 0] := by rfl) (ho2 : off2 = ![0, 256 * t.val] := by rfl) (hs : ∀ R, set R (get R) = R := by exact fun _ => rfl) :
    Ok (Stt m c n l f R) c (Prog.lift (.load ((M.slice (Rect.unit (s := S2x1024x2048) off S1x1024x2048.size i) hr).squeeze S1024x2048 squeezes_S1x1024x2048_S1024x2048)
      (Rect.unit (s := S1024x2048) off2 S1024x256.size i2).toLoadRect hl) >>= K) Q := by
  subst ho ho2
  exact step_res hf (slotV M c (rI k) w) (slotV M c (rI k) w) hR (ld_sub sci) (by rw [← hR, hs]; exact h)

/-- A load of the rows of an output weight that belong to device `t`. -/
theorem ldR {M : Memref sig .tc .vmem S2x2048x1024 e} {off : Fin 3 → ℕ} {i : ∀ a, off a + S1x2048x1024.size a ≤ S2x2048x1024.size a}
    {off2 : Fin 2 → ℕ} {i2 : ∀ a, off2 a + S256x1024.size a ≤ S2048x1024.size a} {w : Vec F S1x2048x1024 e} {hr} (k : Fin 2) (t : Fin 8) {hl}
    {K : Vec F S256x1024 e → Prog (TpuEff nD τ sig (Elt F) Λ₀ .tc) α}
    (hf : Foc m get set) (hR : get R = slotV M c (rO k) w) (h : Ok (Stt m c n l f R) c (K (rout w t)) Q)
    (ho : off = ![k.val, 0, 0] := by rfl) (ho2 : off2 = ![256 * t.val, 0] := by rfl) (hs : ∀ R, set R (get R) = R := by exact fun _ => rfl) :
    Ok (Stt m c n l f R) c (Prog.lift (.load ((M.slice (Rect.unit (s := S2x2048x1024) off S1x2048x1024.size i) hr).squeeze S2048x1024 squeezes_S1x2048x1024_S2048x1024)
      (Rect.unit (s := S2048x1024) off2 S256x1024.size i2).toLoadRect hl) >>= K) Q := by
  subst ho ho2
  exact step_res hf (slotV M c (rO k) w) (slotV M c (rO k) w) hR (ld_sub sco) (by rw [← hR, hs]; exact h)

/-! ## Loads and stores on a lane's slot -/

/-- A load of a slot that the lane holds in either case. -/
theorem ld_lane {M : Memref sig .tc .vmem S8x64x256 .bf16} {w : Vec F S1x64x256 .bf16} (k : Fin 8) {hl}
    {K : Vec F S1x64x256 .bf16 → Prog (TpuEff nD τ sig (Elt F) Λ₀ .tc) α} (st : ℕ)
    (hin : Stg m c k l st ⊢ iprop(slotV M c (r8 k) w ∗ (slotV M c (r8 k) w -∗ Stg m c k l st))) (hfk : f k = st)
    (h : Ok (Stt m c n l f R) c (K w) Q) :
    Ok (Stt m c n l f R) c (Prog.lift (.load M (r8 k).toLoadRect hl) >>= K) Q := by
  have hset : setf f k st = f := funext fun j => by unfold setf; split <;> simp_all
  refine step_lane (n' := n) k st ?_ (by rw [hset]; exact h)
  rw [hfk]
  iintro ⟨-, HO, HS⟩ HK
  ihave HS := hin $$ HS
  icases HS with ⟨HV, HS⟩
  iapply (ld_slot (F := F)) $$ HV
  iintro HV
  iapply HK
  isplitl [HO]; · iexact HO
  iapply HS; iexact HV

theorem Ost_0 : Ost m c l 0 = iprop((At4 c c 0 0 0 0 ∗ pbA c c ∗ rsA c c ∗ agA c c) ∗ emp) := rfl
theorem Ost_1 : Ost m c l 1 = iprop((At4 c c 0 0 0 0 ∗ pbV m c c l ∗ rsA c c ∗ agA c c) ∗ emp) := rfl
theorem Ost_3 : Ost m c l 3 = iprop((At4 c c 0 0 0 0 ∗ pbV m c c l ∗ rsA c c ∗ agA c c) ∗ emp) := rfl
theorem Ost_4 : Ost m c l 4 = iprop((At4 c c 0 0 0 0 ∗ pbV m c c l ∗ rsVal m c c l ∗ agA c c) ∗ emp) := rfl
theorem Ost_5 : Ost m c l 5 = iprop((At4 c c 0 0 0 0 ∗ pbV m c c l ∗ rsVal m c c l ∗ agA c c) ∗ chP c (shr c) (agc m l c)) := rfl
theorem Ost_7 : Ost m c l 7 = iprop((At4 c c 0 0 0 0 ∗ pbV m c c l ∗ rsVal m c c l ∗ agA c c) ∗ chP c (shr c) (agc m l c)) := rfl
theorem Ost_8 : Ost m c l 8 = iprop((At4 c c 0 0 0 0 ∗ pbV m c c l ∗ rsVal m c c l ∗ agVal m c c l) ∗ chP c (shr c) (agc m l c)) := rfl
theorem Ost_9 : Ost m c l 9 = iprop((At4 c c 0 0 0 0 ∗ pbV m c c l ∗ rsVal m c c l ∗ agVal m c c l) ∗ chP c (shr c) (agc m l c)) := rfl
theorem Ost_10 : Ost m c l 10 = iprop((At4 c c 0 0 0 0 ∗ pbV m c c l ∗ rsVal m c c l ∗ agVal m c c l) ∗ chP c (shr c) (agc m l c)) := rfl
theorem Ost_12 : Ost m c l 12 = iprop((At4 c c 0 0 0 0 ∗ pbA c c ∗ rsA c c ∗ agA c c) ∗ emp) := rfl
theorem Ost_13 : Ost m c l 13 = iprop((At4 c c 0 0 0 0 ∗ pbV m c c l ∗ rsA c c ∗ agA c c) ∗ emp) := rfl

/-- The sum loads the slot received from device `k`, or the device's own. -/
theorem ldRs (k : Fin 8) {hl} {K : Vec F S1x64x256 .bf16 → Prog (TpuEff nD τ sig (Elt F) Λ₀ .tc) α}
    (h : Ok (Stt m c n l f R) c (K (rsv m l c k)) Q) (hfk : f k = 4 := by rfl) :
    Ok (Stt m c n l f R) c (Prog.lift (.load rsM (r8 k).toLoadRect hl) >>= K) Q := by
  refine ld_lane k 4 ?_ hfk h
  by_cases hk : k = c
  · subst hk
    rw [Stg_own m _ _ l 4 rfl, Ost_4]; unfold rsVal
    iintro ⟨⟨H1, H2, H3, H4⟩, H5⟩
    isplitl [H3]; · iexact H3
    iintro H3; iframe
  · rw [Stg_peer m c k l 4 hk]
    change P4 m c k l ⊢ iprop(_ ∗ (_ -∗ P4 m c k l))
    unfold P4 rsVal
    iintro ⟨H1, H2, H3, H4, H5, H6, H7, H8⟩
    isplitl [H7]; · iexact H7
    iintro H7; iframe

/-- The gathered chunk of device `k` is loaded. -/
theorem ldAg (k : Fin 8) {hl} {K : Vec F S1x64x256 .bf16 → Prog (TpuEff nD τ sig (Elt F) Λ₀ .tc) α}
    (h : Ok (Stt m c n l f R) c (K (agv m l k)) Q) (hfk : f k = 9 := by rfl) :
    Ok (Stt m c n l f R) c (Prog.lift (.load agM (r8 k).toLoadRect hl) >>= K) Q := by
  refine ld_lane k 9 ?_ hfk h
  by_cases hk : k = c
  · subst hk
    rw [Stg_own m _ _ l 9 rfl, Ost_9]; unfold agVal
    iintro ⟨⟨H1, H2, H3, H4⟩, H5⟩
    isplitl [H4]; · iexact H4
    iintro H4; iframe
  · rw [Stg_peer m c k l 9 hk]
    change P9 m c k l ⊢ iprop(_ ∗ (_ -∗ P9 m c k l))
    unfold P9 agVal
    iintro ⟨H1, H2, H3, H4, H5, H6, H7⟩
    isplitl [H7]; · iexact H7
    iintro H7; iframe

/-- Whether the send slot is free at stage `a` and filled at stage `b`. -/
theorem pb_stage (k : Fin 8) (a b : ℕ) (hab : (a = 0 ∧ b = 1) ∨ (a = 12 ∧ b = 13 ∧ l = 0)) :
    Stg m c k l a ⊢ iprop(slotAny pbM c (r8 k) ∗ ((slotAny pbM c (r8 k) -∗ Stg m c k l a) ∧ (slotV pbM c (r8 k) (part m l c k) -∗ Stg m c k l b))) := by
  by_cases hk : k = c
  · subst hk
    rw [Stg_own m _ _ l a rfl, Stg_own m _ _ l b rfl]
    rcases hab with ⟨rfl, rfl⟩ | ⟨rfl, rfl, rfl⟩
    · rw [Ost_0, Ost_1]; unfold pbA pbV
      iintro ⟨⟨H1, H2, H3, H4⟩, H5⟩
      isplitl [H2]; · iexact H2
      isplit <;> (iintro H2; iframe)
    · rw [Ost_12, Ost_13]; unfold pbA pbV
      iintro ⟨⟨H1, H2, H3, H4⟩, H5⟩
      isplitl [H2]; · iexact H2
      isplit <;> (iintro H2; iframe)
  · rw [Stg_peer m c k l a hk, Stg_peer m c k l b hk]
    rcases hab with ⟨rfl, rfl⟩ | ⟨rfl, rfl, rfl⟩
    · change P0 c k l ⊢ iprop(_ ∗ ((_ -∗ P0 c k l) ∧ (_ -∗ P1 m c k l)))
      unfold P0 P1 pbA pbV
      iintro ⟨H1, H2, H3, H4, H5⟩
      isplitl [H3]; · iexact H3
      isplit <;> (iintro H3; iframe)
    · change P12 c k 0 ⊢ iprop(_ ∗ ((_ -∗ P12 c k 0) ∧ (_ -∗ P13 m c k 0)))
      unfold P12 P13 pbA pbV
      iintro ⟨H1, H2, H3, H4⟩
      isplitl [H3]; · iexact H3
      isplit <;> (iintro H3; iframe)

/-- The kernel loads the send slot for device `k` before it stores there; the value is not used. -/
theorem ldPb (k : Fin 8) {hl} {K : Vec F S1x64x256 .bf16 → Prog (TpuEff nD τ sig (Elt F) Λ₀ .tc) α}
    (h : ∀ w, Ok (Stt m c n l f R) c (K w) Q) (hab : f k = 0 ∨ (f k = 12 ∧ l = 0) := by decide) :
    Ok (Stt m c n l f R) c (Prog.lift (.load pbM (r8 k).toLoadRect hl) >>= K) Q := by
  have hset : setf f k (f k) = f := funext fun j => by unfold setf; split <;> simp_all
  have key : Stt m c n l f R ⊢ iprop(slotAny pbM c (r8 k) ∗ (∀ w, slotAny pbM c (r8 k) -∗ WP c (K w) Q)) := by
    obtain ⟨b, hb⟩ : ∃ b, (f k = 0 ∧ b = 1) ∨ (f k = 12 ∧ b = 13 ∧ l = 0) := by
      rcases hab with h | h
      · exact ⟨1, .inl ⟨h, rfl⟩⟩
      · exact ⟨13, .inr ⟨h.1, rfl, h.2⟩⟩
    unfold Ok Stt lanes at *
    iintro ⟨#Hr, HO, Hl, HR⟩
    ihave Hl := (fam_focus (Φ := fun t => Stg m c t l) f k (f k)) $$ Hl
    icases Hl with ⟨Hk, Hl⟩
    ihave Hk := ((pb_stage (m := m) (c := c) (l := l) k (f k) b hb).trans (sep_mono_right Laws.and_elim_l)) $$ Hk
    icases Hk with ⟨HP, Hk⟩
    isplitl [HP]; · iexact HP
    iintro %w HP
    ihave Hk := Hk $$ HP
    ihave Hl := Hl $$ Hk
    iapply (h w)
    rw [hset]
    iframe
    iexact Hr
  exact key.trans ((sep_mono_left ld_any).trans wand_elim_left)

/-- The partial product for device `k` is stored into its send slot. -/
theorem stPb (k : Fin 8) (b : ℕ) {w₀ : Vec F S1x64x256 .bf16} {hx hm} {K : PUnit → Prog (TpuEff nD τ sig (Elt F) Λ₀ .tc) α}
    (hw : w₀ = part m l c k) (h : Ok (Stt m c n l (setf f k b) R) c (K ⟨⟩) Q)
    (hab : (f k = 0 ∧ b = 1) ∨ (f k = 12 ∧ b = 13 ∧ l = 0) := by decide) :
    Ok (Stt m c n l f R) c (Prog.lift (.store pbM (r8 k) w₀ Finset.univ hx hm) >>= K) Q := by
  subst hw
  refine step_lane (n' := n) k b ?_ h
  iintro ⟨-, HO, HS⟩ HK
  ihave HS := ((pb_stage (m := m) (c := c) (l := l) k (f k) b hab).trans (sep_mono_right Laws.and_elim_r)) $$ HS
  icases HS with ⟨HP, HS⟩
  iapply (st_slot (w := part m l c k)) $$ HP
  iintro HP
  iapply HK
  isplitl [HO]; · iexact HO
  iapply HS; iexact HP

/-! ## The own lane -/

theorem hz2 : (![0, 0] : Fin 2 → ℕ) = fun _ => 0 := funext fun a => by fin_cases a <;> rfl
omit [FloatOps F] in
theorem ch_read (f : Vec F S64x256 .bf16) : (chM : Memref sig .tc .vmem S64x256 .bf16).view.readAt (Elt F) rCh.toLoadRect f = f :=
  Memref.readAt_unit_zero (Elt F) cc0_scratch7 hz2 _ f
theorem rCh_set : ((chM : Memref sig .tc .vmem S64x256 .bf16).view.slice rCh).set = Finset.univ :=
  (View.set_slice_whole _ _).trans (Finset.eq_univ_of_forall fun i => View.mem_set_unit_zero hz2 _ i)

/-- With every lane at stage `s`, the own lane is taken out; put back at stage `s'`, every lane is at `s'`, where the
    stages are the same for another device. -/
theorem own_focus (s s' : ℕ) (hf : ∀ t, f t = s) (hP : ∀ t, Pst m c t l s = Pst m c t l s') :
    lanes m c l f ⊢ iprop(Ost m c l s ∗ (Ost m c l s' -∗ lanes m c l (fun _ => s'))) := by
  unfold lanes
  rw [bigSep_univ_at c (Φ := fun t => Stg m c t l (f t)), bigSep_univ_at c (Φ := fun t => Stg m c t l s')]
  rw [bigSep_congr (s := Finset.univ.erase c) (Φ := fun t => Stg m c t l (f t)) (Ψ := fun t => Stg m c t l s')
    (fun t ht => by rw [hf, Stg_peer m c t l s (Finset.ne_of_mem_erase ht), Stg_peer m c t l s' (Finset.ne_of_mem_erase ht), hP])]
  rw [hf, Stg_own m c c l s rfl, Stg_own m c c l s' rfl]
  iintro ⟨H, Hr⟩
  isplitl [H]; · iexact H
  iintro H
  isplitl [H]; · iexact H
  iexact Hr

/-- An operation on the own lane. -/
theorem step_own {β : Type} {prog : Prog (TpuEff nD τ sig (Elt F) Λ₀ .tc) β} {K : β → Prog (TpuEff nD τ sig (Elt F) Λ₀ .tc) α} (s s' : ℕ)
    (hf : ∀ t, f t = s) (hP : ∀ t, Pst m c t l s = Pst m c t l s')
    (hop : (∀ a, Ok (Stt m c n l (fun _ => s') R) c (K a) Q) →
      Ost m c l s ⊢ iprop((∀ a, Ost m c l s' -∗ WP c (K a) Q) -∗ WP c (prog >>= K) Q))
    (h : ∀ a, Ok (Stt m c n l (fun _ => s') R) c (K a) Q) : Ok (Stt m c n l f R) c (prog >>= K) Q := by
  have key : Stt m c n l f R ⊢ iprop(Ost m c l s ∗ (∀ a, Ost m c l s' -∗ WP c (K a) Q)) := by
    unfold Ok Stt at *
    iintro ⟨#Hr, HO, Hl, HR⟩
    ihave Hl := (own_focus s s' hf hP) $$ Hl
    icases Hl with ⟨Hk, Hl⟩
    isplitl [Hk]; · iexact Hk
    iintro %a Hk
    ihave Hl := Hl $$ Hk
    iapply (h a)
    iframe
    iexact Hr
  exact key.trans ((sep_mono_left (hop h)).trans wand_elim_left)

/-- The own partial product is loaded, -/
theorem ownPb {off : Fin 3 → ℕ} {i} (ho : off = ![c.val, 0, 0]) {hl} {K : Vec F S1x64x256 .bf16 → Prog (TpuEff nD τ sig (Elt F) Λ₀ .tc) α}
    (h : Ok (Stt m c n l (fun _ => 3) R) c (K (part m l c c)) Q) (hf : ∀ t, f t = 3 := by decide) :
    Ok (Stt m c n l f R) c (Prog.lift (.load pbM (Rect.unit (s := S8x64x256) off S1x64x256.size i).toLoadRect hl) >>= K) Q := by
  subst ho
  obtain rfl : f = fun _ => 3 := funext hf
  refine ld_lane (w := part m l c c) c 3 ?_ rfl h
  rw [Stg_own m _ _ l 3 rfl, Ost_3]; unfold pbV
  iintro ⟨⟨H1, H2, H3, H4⟩, H5⟩
  isplitl [H2]; · iexact H2
  iintro H2; iframe

/-- the own receive slot is loaded without use, -/
theorem ownRs {off : Fin 3 → ℕ} {i} (ho : off = ![c.val, 0, 0]) {hl} {K : Vec F S1x64x256 .bf16 → Prog (TpuEff nD τ sig (Elt F) Λ₀ .tc) α}
    (h : ∀ w, Ok (Stt m c n l (fun _ => 3) R) c (K w) Q) (hf : ∀ t, f t = 3 := by decide) :
    Ok (Stt m c n l f R) c (Prog.lift (.load rsM (Rect.unit (s := S8x64x256) off S1x64x256.size i).toLoadRect hl) >>= K) Q := by
  subst ho
  refine step_own 3 3 hf (fun _ => rfl) (fun _ => ?_) h
  rw [Ost_3]; unfold rsA
  iintro ⟨⟨H1, H2, H3, H4⟩, H5⟩ HK
  iapply (ld_any (F := F)) $$ H3
  iintro %w H3
  iapply HK; iframe

/-- and the own partial product is stored there. -/
theorem ownStRs {off : Fin 3 → ℕ} {i} (ho : off = ![c.val, 0, 0]) {w₀ : Vec F S1x64x256 .bf16} {hx hm} {K : PUnit → Prog (TpuEff nD τ sig (Elt F) Λ₀ .tc) α}
    (hw : w₀ = k0_pay10 (part m l c c)) (h : Ok (Stt m c n l (fun _ => 4) R) c (K ⟨⟩) Q) (hf : ∀ t, f t = 3 := by decide) :
    Ok (Stt m c n l f R) c (Prog.lift (.store rsM (Rect.unit (s := S8x64x256) off S1x64x256.size i) w₀ Finset.univ hx hm) >>= K) Q := by
  subst ho
  obtain rfl : w₀ = rsv m l c c := hw.trans (if_pos rfl).symm
  refine step_own 3 4 hf (fun _ => rfl) (fun _ => ?_) (fun _ => h)
  rw [Ost_3, Ost_4]; unfold rsA rsVal
  iintro ⟨⟨H1, H2, H3, H4⟩, H5⟩ HK
  iapply (st_slot (w := rsv m l c c)) $$ H3
  iintro H3
  iapply HK; iframe

/-- The own gather slot is loaded without use, -/
theorem ownAg {off : Fin 3 → ℕ} {i} (ho : off = ![c.val, 0, 0]) {hl} {K : Vec F S1x64x256 .bf16 → Prog (TpuEff nD τ sig (Elt F) Λ₀ .tc) α}
    (h : ∀ w, Ok (Stt m c n l (fun _ => 7) R) c (K w) Q) (hf : ∀ t, f t = 7 := by decide) :
    Ok (Stt m c n l f R) c (Prog.lift (.load agM (Rect.unit (s := S8x64x256) off S1x64x256.size i).toLoadRect hl) >>= K) Q := by
  subst ho
  refine step_own 7 7 hf (fun _ => rfl) (fun _ => ?_) h
  rw [Ost_7]; unfold agA
  iintro ⟨⟨H1, H2, H3, H4⟩, H5⟩ HK
  iapply (ld_any (F := F)) $$ H4
  iintro %w H4
  iapply HK; iframe

/-- the chunk buffer is loaded through the share lent to nobody, -/
theorem ownCh {hl} {K : Vec F S64x256 .bf16 → Prog (TpuEff nD τ sig (Elt F) Λ₀ .tc) α}
    (h : Ok (Stt m c n l (fun _ => 7) R) c (K (agc m l c)) Q) (hf : ∀ t, f t = 7 := by decide) :
    Ok (Stt m c n l f R) c (Prog.lift (.load chM rCh.toLoadRect hl) >>= K) Q := by
  have key : Stt m c n l f R ⊢ iprop(Ost m c l 7 ∗ (Ost m c l 7 -∗ WP c (K (agc m l c)) Q)) := by
    unfold Ok Stt at *
    iintro ⟨#Hr, HO, Hl, HR⟩
    ihave Hl := (own_focus 7 7 hf (fun _ => rfl)) $$ Hl
    icases Hl with ⟨Hk, Hl⟩
    isplitl [Hk]; · iexact Hk
    iintro Hk
    ihave Hl := Hl $$ Hk
    iapply h
    iframe
    iexact Hr
  refine key.trans ?_
  rw [Ost_7, WP_lift]; unfold chP
  iintro ⟨⟨H, Hch⟩, HK⟩
  iapply (wp_load (defs := defs₀ (F := F)) 𝒱₀ (c : Thread nD τ) none Set.univ (m := chM) (r := rCh.toLoadRect) (f := agc m l c)
    (by rw [View.set_whole]; exact Finset.subset_univ _)) $$ Hch
  rw [ch_read]
  iintro Hch
  iapply HK
  isplitl [H] <;> iassumption

/-- and the own chunk is stored in the own gather slot. -/
theorem ownStAg {off : Fin 3 → ℕ} {i} (ho : off = ![c.val, 0, 0]) {w₀ : Vec F S1x64x256 .bf16} {hx hm} {K : PUnit → Prog (TpuEff nD τ sig (Elt F) Λ₀ .tc) α}
    (hw : w₀ = k0_pay13 (agc m l c)) (h : Ok (Stt m c n l (fun _ => 8) R) c (K ⟨⟩) Q) (hf : ∀ t, f t = 7 := by decide) :
    Ok (Stt m c n l f R) c (Prog.lift (.store agM (Rect.unit (s := S8x64x256) off S1x64x256.size i) w₀ Finset.univ hx hm) >>= K) Q := by
  subst ho
  obtain rfl : w₀ = agv m l c := hw
  refine step_own 7 8 hf (fun _ => rfl) (fun _ => ?_) (fun _ => h)
  rw [Ost_7, Ost_8]; unfold agA agVal
  iintro ⟨⟨H1, H2, H3, H4⟩, H5⟩ HK
  iapply (st_slot (w := agv m l c)) $$ H4
  iintro H4
  iapply HK; iframe

/-! ## All lanes at once -/

/-- Every lane from one stage to another, each taking its part of a family and giving its part of another. -/
theorem all_lanes (l' s s' : ℕ) (hf : ∀ t, f t = s) (A B : Fin 8 → sProp (MT nD τ sig ℕ (Elt F) ℕ UU ℕ))
    (hl : ∀ t, iprop(Stg m c t l s ∗ A t) ⊢ iprop(Stg m c t l' s' ∗ B t)) :
    iprop(lanes m c l f ∗ bigSep Finset.univ A) ⊢ iprop(lanes m c l' (fun _ => s') ∗ bigSep Finset.univ B) := by
  obtain rfl : f = fun _ => s := funext hf
  unfold lanes
  rw [← bigSep_sep', ← bigSep_sep']
  exact bigSep_mono fun t _ => hl t

omit [FloatOps F] in
/-- The whole chunk buffer is its eight shares. -/
theorem ch_shares (c : Dev nD) (w : Vec F S64x256 .bf16) : chP c fullShare w = bigSep Finset.univ fun t : Fin 8 => chP c (shr t) w := by
  unfold chP
  exact ShareLeaves.pointsTo_leaves _ _ 3 fullShare

omit [FloatOps F] in
theorem ch_slot (c : Dev nD) (w : Vec F S64x256 .bf16) : slotV chM c rCh w ⊢ chP c fullShare w := by
  unfold slotV chP
  iintro ⟨%f, H, %hf⟩
  rw [ch_read] at hf
  subst hf
  rw [rCh_set, View.set_whole]
  iexact H
omit [FloatOps F] in
theorem ch_any (c : Dev nD) (w : Vec F S64x256 .bf16) : chP c fullShare w ⊢ slotAny chM c rCh := by
  unfold slotAny chP
  iintro H
  iexists w
  rw [rCh_set, View.set_whole]
  iexact H

/-- The chunk buffer, filled, is lent out: a share to each lane. -/
theorem lend (hf : ∀ t, f t = 4) (hR : R.ch = slotV chM c rCh (agc m l c)) :
    Stt m c n l f R ⊢ Stt m c n l (fun _ => 5) (R.pch (iprop(emp))) := by
  have hlane : ∀ t, iprop(Stg m c t l 4 ∗ chP c (shr t) (agc m l c)) ⊢ iprop(Stg m c t l 5 ∗ emp) := fun t => by
    by_cases ht : t = c
    · subst ht
      rw [Stg_own m _ _ l 4 rfl, Stg_own m _ _ l 5 rfl, Ost_4, Ost_5]
      iintro ⟨⟨H1, -⟩, H2⟩
      isplitl; · isplitl [H1] <;> iassumption
      iempintro
    · rw [Stg_peer m c t l 4 ht, Stg_peer m c t l 5 ht]
      change iprop(P4 m c t l ∗ _) ⊢ iprop(P5 m c t l ∗ emp)
      unfold P4 P5
      iintro ⟨H1, H2⟩
      isplitl; · isplitl [H1] <;> iassumption
      iempintro
  unfold Stt
  iintro ⟨#Hr, HO, Hl, HR⟩
  ihave HR := (foc_ch m c R iprop(emp)) $$ HR
  icases HR with ⟨Hch, HR⟩
  ihave Hch := (Entails.of_eq hR) $$ Hch
  ihave Hch := (ch_slot c (agc m l c)) $$ Hch
  ihave Hch := (Entails.of_eq (ch_shares c (agc m l c))) $$ Hch
  ihave Hl := (all_lanes l 4 5 hf _ _ hlane) $$ [Hl Hch]
  · isplitl [Hl] <;> iassumption
  icases Hl with ⟨Hl, -⟩
  isplitr; · iexact Hr
  isplitl [HO]; · iexact HO
  isplitl [Hl]; · iexact Hl
  iapply HR; iempintro

/-- The end of a layer that is not the last: the shares of the chunk buffer are joined, and the lanes stand at the
    next layer's first stage. -/
theorem nextLayer (hf : ∀ t, f t = 10) (hl : l < 2) (hR : R.ch = iprop(emp)) :
    Stt m c n l f R ⊢ Stt m c n (l + 1) (fun _ => 0) (R.pch (slotAny chM c rCh)) := by
  have hlane : ∀ t, iprop(Stg m c t l 10 ∗ emp) ⊢ iprop(Stg m c t (l + 1) 0 ∗ chP c (shr t) (agc m l c)) := fun t => by
    by_cases ht : t = c
    · subst ht
      rw [Stg_own m _ _ l 10 rfl, Stg_own m _ _ (l + 1) 0 rfl, Ost_10, Ost_0]
      unfold pbV rsVal agVal pbA rsA agA
      iintro ⟨⟨⟨H1, H2, H3, H4⟩, H5⟩, -⟩
      isplitr [H5]
      · isplitr []
        · isplitl [H1]; · iexact H1
          isplitl [H2]; · iapply (slotV_any pbM t _ _); iexact H2
          isplitl [H3]; · iapply (slotV_any rsM t _ _); iexact H3
          iapply (slotV_any agM t _ _); iexact H4
        iempintro
      iexact H5
    · rw [Stg_peer m c t l 10 ht, Stg_peer m c t (l + 1) 0 ht]
      change iprop(P10 m c t l ∗ _) ⊢ iprop(P0 c t (l + 1) ∗ _)
      unfold P10 P0 left nextPay toRs agVal agA
      rw [if_pos hl, if_pos hl]
      iintro ⟨⟨⟨H1, H2, H3, H4, H5, H6⟩, H7⟩, -⟩
      isplitr [H7]
      · isplitl [H1]; · iexact H1
        isplitl [H3]; · iexact H3
        isplitl [H2]; · iexact H2
        isplitl [H5]; · iexact H5
        iapply (slotV_any agM c _ _); iexact H6
      iexact H7
  unfold Stt
  iintro ⟨#Hr, HO, Hl, HR⟩
  ihave HR := (foc_ch m c R (slotAny chM c rCh)) $$ HR
  icases HR with ⟨Hch, HR⟩
  ihave Hch := (Entails.of_eq hR) $$ Hch
  ihave Hl := (all_lanes (l + 1) 10 0 hf (fun _ => iprop(emp)) _ hlane) $$ [Hl Hch]
  · isplitl [Hl]; · iexact Hl
    ihave Hch := (Entails.of_eq (bigSep_emp_const (Finset.univ : Finset (Fin 8))).symm) $$ Hch
    iexact Hch
  icases Hl with ⟨Hl, Hch⟩
  isplitr; · iexact Hr
  isplitl [HO]; · iexact HO
  isplitl [Hl]; · iexact Hl
  iapply HR
  iapply (ch_any c (agc m l c))
  iapply (Entails.of_eq (ch_shares c (agc m l c)).symm)
  iexact Hch

/-! ## The barrier -/

/-- The barrier's wait: every other device has entered, and has handed over its receive slot. -/
theorem barWait {K : PUnit → Prog (TpuEff nD τ sig (Elt F) Λ₀ .tc) α}
    (hR : R.bar = iprop(cred (tallyAt (barC c) 1 7) ∗ atPos ER (barC c) 0 ∅ 0))
    (h : Ok (Stt m c 8 0 (fun _ => 1) (R.pbar (iprop(atPos ER (barC c) 1 ∅ 0)))) c (K ⟨⟩) Q)
    (hf : ∀ t, f t = 13 := by decide) :
    Ok (Stt m c 8 0 f R) c (semWaitWord barS 7#32 >>= K) Q := by
  have hlane : ∀ t ∈ Finset.univ.erase c, iprop(Pst m c t 0 13 ∗ barPay c t) ⊢ Pst m c t 0 1 := fun t _ => by
    change iprop(P13 m c t 0 ∗ _) ⊢ P1 m c t 0
    unfold P13 P1 barPay toRs
    iintro ⟨⟨H1, H2, H3, H4⟩, H5⟩
    iframe
  change _ ⊢ WP c (.op (.semWait barS 7) K) Q
  have hE : 0 + (7 : ℕ) = (Rd m).expect (barC c) 0 := (expect_bar m c).symm
  obtain rfl : f = fun _ => 13 := funext hf
  unfold Ok Stt at *
  unfold Owe lanes at *
  rw [bigSep_univ_at c (Φ := fun t => Stg m c t 0 13)]
  rw [bigSep_univ_at c (Φ := fun t => Stg m c t 0 1)] at h
  rw [bigSep_congr (s := Finset.univ.erase c) (Φ := fun t => Stg m c t 0 13) (Ψ := fun t => Pst m c t 0 13)
    (fun t ht => Stg_peer m c t 0 13 (Finset.ne_of_mem_erase ht))]
  rw [bigSep_congr (s := Finset.univ.erase c) (Φ := fun t => Stg m c t 0 1) (Ψ := fun t => Pst m c t 0 1)
    (fun t ht => Stg_peer m c t 0 1 (Finset.ne_of_mem_erase ht)),
    Stg_own m c c 0 1 rfl] at h
  rw [Stg_own m c c 0 13 rfl]
  iintro ⟨#Hr, ⟨%W, HO⟩, ⟨Hown, Hl⟩, HR⟩
  ihave HR := (foc_bar m c R iprop(atPos ER (barC c) 1 ∅ 0)) $$ HR
  icases HR with ⟨Hb, HR⟩
  ihave Hb := (Entails.of_eq hR) $$ Hb
  icases Hb with ⟨Hc, Hat⟩
  ihave HI := (rec_bar m c) $$ Hr
  icases HI with ⟨%κ, #HI⟩
  iapply (Rounds.wp_wait_rest_token 𝒱₀ ER (Rd m) (c : Thread nD τ) none (κ := κ)
      (wpE_semWait_eq 𝒱₀ (c : Thread nD τ) none Set.univ) (Set.mem_univ _) 1 (O := Od c 8) (W := W) (R := 0) (m := 0) (T := ∅)
      hE) $$ [Hc HO Hat]
  · isplitr; · iexact HI
    isplitl [Hc]; · iexact Hc
    isplitl [HO]; · iexact HO
    isplitr; · iapply (mayWait c (.reg barS) 1 8 (by decide) (by decide)); iapply (recs_lev m); iexact Hr
    iexact Hat
  iintro ⟨HO, Hat, -, Hpay⟩
  ihave Hpay := (Entails.of_eq (rest_bar m c)) $$ Hpay
  ihave Hl := ((Entails.of_eq (bigSep_sep' _ _ _).symm).trans (bigSep_mono hlane)) $$ [Hl Hpay]
  · isplitl [Hl] <;> iassumption
  iapply h
  isplitr; · iexact Hr
  isplitl [HO]; · iexists _; iexact HO
  isplitl [Hown Hl]
  · isplitl [Hown]; · iexact Hown
    iexact Hl
  iapply HR; iexact Hat

/-! ## The weight copies -/

theorem Wst_0 (q : Fin 6) : Wst m c q 0 = iprop(argP m c (argR q) ∗ dutyTok ER (wC c q) 0 0 ∗ atPos ER (wC c q) 0 ∅ 0 ∗ reached ER (wC c q) 0) := rfl
theorem Wst_1 (q : Fin 6) : Wst m c q 1 = iprop(cred (tallyAt (wC c q) 0 (Nw q)) ∗ atPos ER (wC c q) 0 ∅ 0 ∗ reached ER (wC c q) 0) := rfl
theorem Wst_2 (q : Fin 6) : Wst m c q 2 = iprop(argP m c (argR q) ∗ atPos ER (wC c q) 1 ∅ 0 ∗ reached ER (wC c q) 1) := rfl

omit [FloatOps F] in
/-- A slot written with what its content is without the unit axis. -/
theorem slot_filled {M : Memref sig .tc cs s e} {r : Rect s} {hr : ∀ a, r.stride a = 1} {hq : r.shape.Squeezes s'} {w : Vec F r.shape e} {v : Vec F s' e}
    (h1 : r.shape.ShapeCasts s') (h2 : s'.ShapeCasts r.shape) (hv : w = shapeCast r.shape v h2) {fd : Buf (Elt F) (M.view.loc (c : Thread nD τ))} :
    ((((M.slice r hr).squeeze s' hq).view.loc (c : Thread nD τ) ↦[((M.slice r hr).squeeze s' hq).view.set]{fullShare}
        (((M.slice r hr).squeeze s' hq).view.write (Elt F) fd v Finset.univ)) : sProp (MT nD τ sig ℕ (Elt F) ℕ UU ℕ)) ⊢ slotV M c r w := by
  subst hv
  unfold slotV
  rw [Memref.set_view_squeeze]
  iintro H
  iexists _
  isplitl [H]
  · iexact H
  · ipureintro
    have h1' := View.read_write_univ (Val := Elt F) (v := ((M.slice r hr).squeeze s' hq).view) fd v
    have h3 := congrArg (fun u => shapeCast r.shape u h2) (show shapeCast s' (M.view.readAt (Elt F) r.toLoadRect _) h1 = _ from h1')
    simp only at h3
    rw [shapeCast_shapeCast] at h3
    exact h3

/-- The start of weight copy `q`. -/
theorem wStart (q : Fin 6) {M : Memref sig .tc cs s e} {r : Rect s} {hr : ∀ a, r.stride a = 1} {hq : r.shape.Squeezes s'} {A : Memref sig .tc .hbm s' e} {sm : DmaSem sig}
    {h1 h2 h3} {K : PUnit → Prog (TpuEff nD τ sig (Elt F) Λ₀ .tc) α}
    (fA : Buf (Elt F) (A.view.loc (c : Thread nD τ)))
    (hf : Foc m get set) (hR : get R = slotAny M c r) (hsm : sm = wgS q)
    (hA : argP m c (argR q) = (A.view.loc (c : Thread nD τ) ↦[A.view.set]{fullShare} fA))
    (hN : ((M.slice r hr).squeeze s' hq).view.dmaCredit = Nw q)
    (hpay : ∀ fd, iprop((((M.slice r hr).squeeze s' hq).view.loc (c : Thread nD τ) ↦[((M.slice r hr).squeeze s' hq).view.set]{fullShare}
        (((M.slice r hr).squeeze s' hq).view.write (Elt F) fd (A.view.read (Elt F) fA) Finset.univ)) ∗ (A.view.loc (c : Thread nD τ) ↦[A.view.set]{fullShare} fA)) ⊢ wPay m c q)
    (hs0 : R.w q = 0) (hsw : (set R iprop(emp)).w = R.w)
    (h : Ok (Stt m c n l f ((set R iprop(emp)).pw q 1)) c (K ⟨⟩) Q) :
    Ok (Stt m c n l f R) c (Prog.lift (.enqueueDma A (.here ((M.slice r hr).squeeze s' hq)) (.dma sm) h1 h2 h3) >>= K) Q := by
  subst hsm
  unfold Ok at *
  rw [WP_lift]
  have hfw := foc_w m c (set R iprop(emp)) q 1
  rw [hsw, hs0, Wst_0, Wst_1] at hfw
  unfold Stt at *
  iintro ⟨#Hr, HO, Hl, HR⟩
  ihave HR := (hf c R iprop(emp)) $$ HR
  icases HR with ⟨Hslot, HR⟩
  ihave Hslot := (Entails.of_eq hR) $$ Hslot
  unfold slotAny
  icases Hslot with ⟨%fd, Hslot⟩
  ihave HR := HR $$ []; · iempintro
  ihave HR := hfw $$ HR
  icases HR with ⟨Hw, HR⟩
  icases Hw with ⟨HA, Ht, Hat, #Hre⟩
  ihave HA := (Entails.of_eq hA) $$ HA
  ihave HI := (rec_w m c q) $$ Hr
  icases HI with ⟨%κ, #HI⟩
  have e1 : (0 : Fin 8) ∈ (Rd m).duties (wC c q) 0 := by rw [duties_w]; exact Finset.mem_singleton_self _
  iapply (Rounds.wp_copy_pointsTo 𝒱₀ ER (Rd m) (c : Thread nD τ) none (src := A) (dst := (M.slice r hr).squeeze s' hq) (sem := .dma (wgS q)) (q := fullShare) (fs := fA) (fd := fd) (κ := κ) (r := 0) (d := 0)
      e1 0 (Nw q) hN (amount_w m c 0 0 q) (by rw [payload_w]; exact hpay fd)) $$ [HA Hslot Ht]
  · isplitr; · iexact HI
    isplitl [HA]; · iexact HA
    isplitl [Hslot]; · rw [Memref.set_view_squeeze]; iexact Hslot
    isplitl [Ht]; · iexact Ht
    iexact Hre
  iintro Hcr
  iapply h
  isplitr; · iexact Hr
  isplitl [HO]; · iexact HO
  isplitl [Hl]; · iexact Hl
  iapply HR
  isplitl [Hcr]; · iexact Hcr
  isplitl [Hat]; · iexact Hat
  iexact Hre

/-- The wait for weight copy `q`. -/
theorem wWait (q : Fin 6) {M : Memref sig .tc cs s e} {r : Rect s} {w : Vec F r.shape e} {hr : ∀ a, r.stride a = 1} {hq : r.shape.Squeezes s'} {A : Memref sig .tc .hbm s' e} {sm : DmaSem sig}
    {h1 h2} {K : PUnit → Prog (TpuEff nD τ sig (Elt F) Λ₀ .tc) α}
    (hf : Foc m get set) (hR : get (R.pw q 2) = iprop(emp)) (hsm : sm = wgS q)
    (hN : ((M.slice r hr).squeeze s' hq).view.dmaCredit = Nw q)
    (hpay : wPay m c q = iprop(argP m c (argR q) ∗ slotV M c r w))
    (hs0 : R.w q = 1)
    (h : Ok (Stt m c n l f (set (R.pw q 2) (slotV M c r w))) c (K ⟨⟩) Q) :
    Ok (Stt m c n l f R) c (Prog.lift (.waitDma2 sm A ((M.slice r hr).squeeze s' hq) h1 h2) >>= K) Q := by
  subst hsm
  unfold Ok at *
  rw [WP_lift]
  have hE : 0 + ((M.slice r hr).squeeze s' hq).view.dmaCredit = (Rd m).expect (wC c q) 0 := by rw [expect_w, hN, Nat.zero_add]
  have hfw := foc_w m c R q 2
  rw [hs0, Wst_1, Wst_2] at hfw
  unfold Stt Owe at *
  iintro ⟨#Hr, ⟨%W, HO⟩, Hl, HR⟩
  ihave HR := hfw $$ HR
  icases HR with ⟨Hw, HR⟩
  icases Hw with ⟨Hc, Hat, -⟩
  ihave HI := (rec_w m c q) $$ Hr
  icases HI with ⟨%κ, #HI⟩
  iapply (Rounds.wp_wait_rest_token 𝒱₀ ER (Rd m) (c : Thread nD τ) none (κ := κ)
      (wpE_waitDma2_eq 𝒱₀ (c : Thread nD τ) none Set.univ) (Set.mem_univ _) 0 (O := Od c n) (W := W) (R := 0) (m := 0) (T := ∅)
      hE) $$ [Hc HO Hat]
  · isplitr; · iexact HI
    isplitl [Hc]; · rw [hN]; iexact Hc
    isplitl [HO]; · iexact HO
    isplitr; · iapply (mayWait c (.dma (wgS q)) 0 n (by omega) (by decide)); iapply (recs_lev m); iexact Hr
    iexact Hat
  iintro ⟨HO, Hat, #Hra, Hpay⟩
  ihave Hpay := ((Entails.of_eq (rest_w m c q)).trans (Entails.of_eq hpay)) $$ Hpay
  icases Hpay with ⟨HA, Hslot⟩
  ihave HR := HR $$ [HA Hat]
  · isplitl [HA]; · iexact HA
    isplitl [Hat]; · iexact Hat
    iexact Hra
  ihave HR := (hf c _ (slotV M c r w)) $$ HR
  icases HR with ⟨-, HR⟩
  iapply h
  isplitr; · iexact Hr
  isplitl [HO]; · iexists _; iexact HO
  isplitl [Hl]; · iexact Hl
  iapply HR; iexact Hslot

theorem sci' : S1024x2048.ShapeCasts S1x1024x2048 := by decide
theorem sco' : S2048x1024.ShapeCasts S1x2048x1024 := by decide

theorem wStart0 {hr} {sm : DmaSem sig} {h1 h2 h3} {K : PUnit → Prog (TpuEff nD τ sig (Elt F) Λ₀ .tc) α}
    (hR : R.v0 = slotAny wvM c (rI 0)) (hs0 : R.w 0 = 0)
    (h : Ok (Stt m c n l f ((R.pv0 (iprop(emp))).pw 0 1)) c (K ⟨⟩) Q) (hsm : sm = wgS 0 := by rfl) :
    Ok (Stt m c n l f R) c (Prog.lift (.enqueueDma (Memref.whole main_arg1) (.here ((wvM.slice (rI 0) hr).squeeze S1024x2048 squeezes_S1x1024x2048_S1024x2048)) (.dma sm) h1 h2 h3) >>= K) Q :=
  wStart 0 (m ((c : Thread nD τ).loc main_arg1)) (foc_v0 m) hR hsm rfl rfl
    (fun _ => sep_comm.1.trans (sep_mono_right (slot_filled sci sci' rfl))) hs0 rfl h
theorem wWait0 {hr} {sm : DmaSem sig} {h1 h2} {K : PUnit → Prog (TpuEff nD τ sig (Elt F) Λ₀ .tc) α}
    (hR : R.v0 = iprop(emp)) (hs0 : R.w 0 = 1)
    (h : Ok (Stt m c n l f ((R.pw 0 2).pv0 (slotV wvM c (rI 0) (w1i m c 0)))) c (K ⟨⟩) Q) (hsm : sm = wgS 0 := by rfl) :
    Ok (Stt m c n l f R) c (Prog.lift (.waitDma2 sm (Memref.whole main_arg1) ((wvM.slice (rI 0) hr).squeeze S1024x2048 squeezes_S1x1024x2048_S1024x2048) h1 h2) >>= K) Q :=
  wWait 0 (foc_v0 m) hR hsm rfl rfl hs0 h

theorem wStart1 {hr} {sm : DmaSem sig} {h1 h2 h3} {K : PUnit → Prog (TpuEff nD τ sig (Elt F) Λ₀ .tc) α}
    (hR : R.o0 = slotAny woM c (rO 0)) (hs0 : R.w 1 = 0)
    (h : Ok (Stt m c n l f ((R.po0 (iprop(emp))).pw 1 1)) c (K ⟨⟩) Q) (hsm : sm = wgS 1 := by rfl) :
    Ok (Stt m c n l f R) c (Prog.lift (.enqueueDma (Memref.whole main_arg4) (.here ((woM.slice (rO 0) hr).squeeze S2048x1024 squeezes_S1x2048x1024_S2048x1024)) (.dma sm) h1 h2 h3) >>= K) Q :=
  wStart 1 (m ((c : Thread nD τ).loc main_arg4)) (foc_o0 m) hR hsm rfl rfl
    (fun _ => sep_comm.1.trans (sep_mono_right (slot_filled sco sco' rfl))) hs0 rfl h
theorem wWait1 {hr} {sm : DmaSem sig} {h1 h2} {K : PUnit → Prog (TpuEff nD τ sig (Elt F) Λ₀ .tc) α}
    (hR : R.o0 = iprop(emp)) (hs0 : R.w 1 = 1)
    (h : Ok (Stt m c n l f ((R.pw 1 2).po0 (slotV woM c (rO 0) (w1o m c 0)))) c (K ⟨⟩) Q) (hsm : sm = wgS 1 := by rfl) :
    Ok (Stt m c n l f R) c (Prog.lift (.waitDma2 sm (Memref.whole main_arg4) ((woM.slice (rO 0) hr).squeeze S2048x1024 squeezes_S1x2048x1024_S2048x1024) h1 h2) >>= K) Q :=
  wWait 1 (foc_o0 m) hR hsm rfl rfl hs0 h

theorem wStart2 {hr} {sm : DmaSem sig} {h1 h2 h3} {K : PUnit → Prog (TpuEff nD τ sig (Elt F) Λ₀ .tc) α}
    (hR : R.v1 = slotAny wvM c (rI 1)) (hs0 : R.w 2 = 0)
    (h : Ok (Stt m c n l f ((R.pv1 (iprop(emp))).pw 2 1)) c (K ⟨⟩) Q) (hsm : sm = wgS 2 := by rfl) :
    Ok (Stt m c n l f R) c (Prog.lift (.enqueueDma (Memref.whole main_arg2) (.here ((wvM.slice (rI 1) hr).squeeze S1024x2048 squeezes_S1x1024x2048_S1024x2048)) (.dma sm) h1 h2 h3) >>= K) Q :=
  wStart 2 (m ((c : Thread nD τ).loc main_arg2)) (foc_v1 m) hR hsm rfl rfl
    (fun _ => sep_comm.1.trans (sep_mono_right (slot_filled sci sci' rfl))) hs0 rfl h
theorem wWait2 {hr} {sm : DmaSem sig} {h1 h2} {K : PUnit → Prog (TpuEff nD τ sig (Elt F) Λ₀ .tc) α}
    (hR : R.v1 = iprop(emp)) (hs0 : R.w 2 = 1)
    (h : Ok (Stt m c n l f ((R.pw 2 2).pv1 (slotV wvM c (rI 1) (w1i m c 1)))) c (K ⟨⟩) Q) (hsm : sm = wgS 2 := by rfl) :
    Ok (Stt m c n l f R) c (Prog.lift (.waitDma2 sm (Memref.whole main_arg2) ((wvM.slice (rI 1) hr).squeeze S1024x2048 squeezes_S1x1024x2048_S1024x2048) h1 h2) >>= K) Q :=
  wWait 2 (foc_v1 m) hR hsm rfl rfl hs0 h

theorem wStart3 {hr} {sm : DmaSem sig} {h1 h2 h3} {K : PUnit → Prog (TpuEff nD τ sig (Elt F) Λ₀ .tc) α}
    (hR : R.o1 = slotAny woM c (rO 1)) (hs0 : R.w 3 = 0)
    (h : Ok (Stt m c n l f ((R.po1 (iprop(emp))).pw 3 1)) c (K ⟨⟩) Q) (hsm : sm = wgS 3 := by rfl) :
    Ok (Stt m c n l f R) c (Prog.lift (.enqueueDma (Memref.whole main_arg5) (.here ((woM.slice (rO 1) hr).squeeze S2048x1024 squeezes_S1x2048x1024_S2048x1024)) (.dma sm) h1 h2 h3) >>= K) Q :=
  wStart 3 (m ((c : Thread nD τ).loc main_arg5)) (foc_o1 m) hR hsm rfl rfl
    (fun _ => sep_comm.1.trans (sep_mono_right (slot_filled sco sco' rfl))) hs0 rfl h
theorem wWait3 {hr} {sm : DmaSem sig} {h1 h2} {K : PUnit → Prog (TpuEff nD τ sig (Elt F) Λ₀ .tc) α}
    (hR : R.o1 = iprop(emp)) (hs0 : R.w 3 = 1)
    (h : Ok (Stt m c n l f ((R.pw 3 2).po1 (slotV woM c (rO 1) (w1o m c 1)))) c (K ⟨⟩) Q) (hsm : sm = wgS 3 := by rfl) :
    Ok (Stt m c n l f R) c (Prog.lift (.waitDma2 sm (Memref.whole main_arg5) ((woM.slice (rO 1) hr).squeeze S2048x1024 squeezes_S1x2048x1024_S2048x1024) h1 h2) >>= K) Q :=
  wWait 3 (foc_o1 m) hR hsm rfl rfl hs0 h

theorem wStart4 {hr} {sm : DmaSem sig} {h1 h2 h3} {K : PUnit → Prog (TpuEff nD τ sig (Elt F) Λ₀ .tc) α}
    (hR : R.v0 = slotAny wvM c (rI 0)) (hs0 : R.w 4 = 0)
    (h : Ok (Stt m c n l f ((R.pv0 (iprop(emp))).pw 4 1)) c (K ⟨⟩) Q) (hsm : sm = wgS 4 := by rfl) :
    Ok (Stt m c n l f R) c (Prog.lift (.enqueueDma (Memref.whole main_arg3) (.here ((wvM.slice (rI 0) hr).squeeze S1024x2048 squeezes_S1x1024x2048_S1024x2048)) (.dma sm) h1 h2 h3) >>= K) Q :=
  wStart 4 (m ((c : Thread nD τ).loc main_arg3)) (foc_v0 m) hR hsm rfl rfl
    (fun _ => sep_comm.1.trans (sep_mono_right (slot_filled sci sci' rfl))) hs0 rfl h
theorem wWait4 {hr} {sm : DmaSem sig} {h1 h2} {K : PUnit → Prog (TpuEff nD τ sig (Elt F) Λ₀ .tc) α}
    (hR : R.v0 = iprop(emp)) (hs0 : R.w 4 = 1)
    (h : Ok (Stt m c n l f ((R.pw 4 2).pv0 (slotV wvM c (rI 0) (w1i m c 2)))) c (K ⟨⟩) Q) (hsm : sm = wgS 4 := by rfl) :
    Ok (Stt m c n l f R) c (Prog.lift (.waitDma2 sm (Memref.whole main_arg3) ((wvM.slice (rI 0) hr).squeeze S1024x2048 squeezes_S1x1024x2048_S1024x2048) h1 h2) >>= K) Q :=
  wWait 4 (foc_v0 m) hR hsm rfl rfl hs0 h

theorem wStart5 {hr} {sm : DmaSem sig} {h1 h2 h3} {K : PUnit → Prog (TpuEff nD τ sig (Elt F) Λ₀ .tc) α}
    (hR : R.o0 = slotAny woM c (rO 0)) (hs0 : R.w 5 = 0)
    (h : Ok (Stt m c n l f ((R.po0 (iprop(emp))).pw 5 1)) c (K ⟨⟩) Q) (hsm : sm = wgS 5 := by rfl) :
    Ok (Stt m c n l f R) c (Prog.lift (.enqueueDma (Memref.whole main_arg6) (.here ((woM.slice (rO 0) hr).squeeze S2048x1024 squeezes_S1x2048x1024_S2048x1024)) (.dma sm) h1 h2 h3) >>= K) Q :=
  wStart 5 (m ((c : Thread nD τ).loc main_arg6)) (foc_o0 m) hR hsm rfl rfl
    (fun _ => sep_comm.1.trans (sep_mono_right (slot_filled sco sco' rfl))) hs0 rfl h
theorem wWait5 {hr} {sm : DmaSem sig} {h1 h2} {K : PUnit → Prog (TpuEff nD τ sig (Elt F) Λ₀ .tc) α}
    (hR : R.o0 = iprop(emp)) (hs0 : R.w 5 = 1)
    (h : Ok (Stt m c n l f ((R.pw 5 2).po0 (slotV woM c (rO 0) (w1o m c 2)))) c (K ⟨⟩) Q) (hsm : sm = wgS 5 := by rfl) :
    Ok (Stt m c n l f R) c (Prog.lift (.waitDma2 sm (Memref.whole main_arg6) ((woM.slice (rO 0) hr).squeeze S2048x1024 squeezes_S1x2048x1024_S2048x1024) h1 h2) >>= K) Q :=
  wWait 5 (foc_o0 m) hR hsm rfl rfl hs0 h

end Ops

end Cert.KernelIdealProof

end
-- ==== Proof.KI.Slots.lean ====
/-
# The slots of a buffer

A buffer held whole is dealt into its slots, and the slots are put together to the whole buffer.
-/
module

public import proofs.«01_k».proof.Proof.KI.Steps2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Slots and whole buffers -/

section Slots
variable {cs : CoreSpace} {s : Shape} {e : EltTy} {n : ℕ} (M : Memref sig .tc (.core cs) s e) (c : Dev nD) (r : Fin n → Rect s)

/-- A buffer held whole, at some content. -/
abbrev anyM : sProp (MT nD τ sig ℕ (Elt F) ℕ UU ℕ) := iprop(∃ f : Buf (Elt F) (M.view.loc (c : Thread nD τ)), M.view.loc (c : Thread nD τ) ↦{fullShare} f)

omit [FloatOps F] in
theorem slotAny_eq (k : Fin n) : slotAny M c (r k) = (iprop(∃ f, (M.view.loc (c : Thread nD τ) ↦[(r k).set.map M.view.emb]{fullShare} f)) : sProp 𝕄) := by
  unfold slotAny
  rw [← View.set_slice M.view (r k)]

variable (hd : ∀ k k', k ≠ k' → Disjoint (r k).set (r k').set) (hu : Finset.univ.biUnion (fun k => (r k).set) = Finset.univ)
  (hw : M.view.set = Finset.univ)

include hd in
omit [FloatOps F] in
theorem emb_disj (k k' : Fin n) (h : k ≠ k') : Disjoint ((r k).set.map M.view.emb) ((r k').set.map M.view.emb) :=
  (Finset.disjoint_map _).mpr (hd k k' h)
include hu hw in
omit [FloatOps F] in
theorem emb_cover : Finset.univ.biUnion (fun k => (r k).set.map M.view.emb) = Finset.univ := by
  rw [← hw, View.set, ← hu, Finset.map_eq_image, Finset.biUnion_image]
  exact Finset.biUnion_congr rfl fun k _ => Finset.map_eq_image _ _

include hd hu hw in
omit [FloatOps F] in
/-- A whole buffer is dealt into its slots. -/
theorem slots_split : anyM M c ⊢ (bigSep Finset.univ fun k => slotAny (F := F) M c (r k)) := by
  have h1 : ∀ f, (M.view.loc (c : Thread nD τ) ↦{fullShare} f : sProp 𝕄)
      = bigSep Finset.univ fun k => (M.view.loc (c : Thread nD τ) ↦[(r k).set.map M.view.emb]{fullShare} f) := fun f => by
    rw [← emb_cover M r hu hw]; exact pointsTo_biUnion Finset.univ _ (fun k _ k' _ h => emb_disj M r hd k k' h)
  have h2 : ∀ f, (M.view.loc (c : Thread nD τ) ↦{fullShare} f : sProp 𝕄) ⊢ bigSep Finset.univ fun k => slotAny (F := F) M c (r k) := fun f =>
    (Entails.of_eq (h1 f)).trans (bigSep_mono fun k _ => by
      rw [slotAny_eq]
      exact exists_intro (Φ := fun f => (M.view.loc (c : Thread nD τ) ↦[(r k).set.map M.view.emb]{fullShare} f : sProp 𝕄)) f)
  iintro ⟨%f, H⟩
  iapply (h2 f)
  iexact H

include hd hu hw in
omit [FloatOps F] in
/-- The slots are put together again. -/
theorem slots_join (k₀ : Fin n) (f₀ : Buf (Elt F) (M.view.loc (c : Thread nD τ))) : (bigSep Finset.univ fun k => slotAny (F := F) M c (r k)) ⊢ anyM M c := by
  rw [bigSep_congr fun k _ => slotAny_eq M c r k]
  iintro H
  haveI : Nonempty (Buf (Elt F) (M.view.loc (c : Thread nD τ))) := ⟨f₀⟩
  ihave H := (BI.bigSep_exists_pi Finset.univ (fun (k : Fin n) (f : Buf (Elt F) (M.view.loc (c : Thread nD τ))) =>
    (M.view.loc (c : Thread nD τ) ↦[(r k).set.map M.view.emb]{fullShare} f : sProp 𝕄))) $$ H
  icases H with ⟨%fs, H⟩
  ihave H := (pointsTo_biUnion_join Finset.univ (fun k => (r k).set.map M.view.emb) fs (fs k₀) (fun k _ k' _ h => emb_disj M r hd k k' h)) $$ H
  icases H with ⟨%g, -, H⟩
  iexists g
  rw [emb_cover M r hu hw]
  iexact H
end Slots

theorem r8_disj (k k' : Fin 8) (h : k ≠ k') : Disjoint (r8 k).set (r8 k').set :=
  Finset.disjoint_left.mpr fun i h1 h2 => h (Fin.ext (by
    have h1 : k.val ≤ (i 0).val ∧ (i 0).val < k.val + 1 := Rect.mem_set_unit.mp h1 0
    have h2 : k'.val ≤ (i 0).val ∧ (i 0).val < k'.val + 1 := Rect.mem_set_unit.mp h2 0
    omega))
theorem r8_cover : Finset.univ.biUnion (fun k => (r8 k).set) = Finset.univ := by
  ext i
  refine ⟨fun _ => Finset.mem_univ _, fun _ => Finset.mem_biUnion.mpr ⟨(⟨(i 0).val, (i 0).isLt⟩ : Fin 8), Finset.mem_univ _, Rect.mem_set_unit.mpr fun a => ?_⟩⟩
  match a with
  | 0 => exact ⟨Nat.le_refl _, Nat.lt_succ_self _⟩
  | 1 => exact ⟨Nat.zero_le _, (Nat.zero_add _).symm ▸ (i 1).isLt⟩
  | 2 => exact ⟨Nat.zero_le _, (Nat.zero_add _).symm ▸ (i 2).isLt⟩
theorem rI_disj (k k' : Fin 2) (h : k ≠ k') : Disjoint (rI k).set (rI k').set :=
  Finset.disjoint_left.mpr fun i h1 h2 => h (Fin.ext (by
    have h1 : k.val ≤ (i 0).val ∧ (i 0).val < k.val + 1 := Rect.mem_set_unit.mp h1 0
    have h2 : k'.val ≤ (i 0).val ∧ (i 0).val < k'.val + 1 := Rect.mem_set_unit.mp h2 0
    omega))
theorem rI_cover : Finset.univ.biUnion (fun k => (rI k).set) = Finset.univ := by
  ext i
  refine ⟨fun _ => Finset.mem_univ _, fun _ => Finset.mem_biUnion.mpr ⟨(⟨(i 0).val, (i 0).isLt⟩ : Fin 2), Finset.mem_univ _, Rect.mem_set_unit.mpr fun a => ?_⟩⟩
  match a with
  | 0 => exact ⟨Nat.le_refl _, Nat.lt_succ_self _⟩
  | 1 => exact ⟨Nat.zero_le _, (Nat.zero_add _).symm ▸ (i 1).isLt⟩
  | 2 => exact ⟨Nat.zero_le _, (Nat.zero_add _).symm ▸ (i 2).isLt⟩
theorem rO_disj (k k' : Fin 2) (h : k ≠ k') : Disjoint (rO k).set (rO k').set :=
  Finset.disjoint_left.mpr fun i h1 h2 => h (Fin.ext (by
    have h1 : k.val ≤ (i 0).val ∧ (i 0).val < k.val + 1 := Rect.mem_set_unit.mp h1 0
    have h2 : k'.val ≤ (i 0).val ∧ (i 0).val < k'.val + 1 := Rect.mem_set_unit.mp h2 0
    omega))
theorem rO_cover : Finset.univ.biUnion (fun k => (rO k).set) = Finset.univ := by
  ext i
  refine ⟨fun _ => Finset.mem_univ _, fun _ => Finset.mem_biUnion.mpr ⟨(⟨(i 0).val, (i 0).isLt⟩ : Fin 2), Finset.mem_univ _, Rect.mem_set_unit.mpr fun a => ?_⟩⟩
  match a with
  | 0 => exact ⟨Nat.le_refl _, Nat.lt_succ_self _⟩
  | 1 => exact ⟨Nat.zero_le _, (Nat.zero_add _).symm ▸ (i 1).isLt⟩
  | 2 => exact ⟨Nat.zero_le _, (Nat.zero_add _).symm ▸ (i 2).isLt⟩

section
variable {cs : CoreSpace} {s : Shape} {e : EltTy} (M : Memref sig .tc (.core cs) s e) (c : Dev nD) (r : Fin 2 → Rect s)
  (hd : ∀ k k', k ≠ k' → Disjoint (r k).set (r k').set) (hu : Finset.univ.biUnion (fun k => (r k).set) = Finset.univ)
  (hw : M.view.set = Finset.univ)
include hd hu hw
omit [FloatOps F] in
theorem two_join (f₀ : Buf (Elt F) (M.view.loc (c : Thread nD τ))) : iprop(slotAny (F := F) M c (r 0) ∗ slotAny M c (r 1)) ⊢ anyM M c :=
  (Entails.of_eq (BI.bigSep_fin_two _).symm).trans (slots_join M c r hd hu hw 0 f₀)
omit [FloatOps F] in
theorem two_split : anyM M c ⊢ iprop(slotAny (F := F) M c (r 0) ∗ slotAny M c (r 1)) :=
  (slots_split M c r hd hu hw).trans (Entails.of_eq (BI.bigSep_fin_two _))
end

section
variable {cs : CoreSpace} {s : Shape} {e : EltTy} (M : Memref sig .tc (.core cs) s e) (c : Dev nD) (r : Rect s)
  (hr : (M.view.slice r).set = Finset.univ)
include hr
omit [FloatOps F] in
theorem one_join : slotAny (F := F) M c r ⊢ anyM M c := by
  unfold slotAny; rw [hr]
omit [FloatOps F] in
theorem one_split : anyM M c ⊢ slotAny (F := F) M c r := by
  unfold slotAny; rw [hr]
end

theorem xl_set : (xlM.view.slice rX).set = Finset.univ := by rw [View.set_slice_whole]; exact Finset.eq_univ_of_forall fun i => View.mem_set_unit_zero hz2 _ i

end Cert.KernelIdealProof

end
-- ==== Proof.KI.Bounds.lean ====
/-
# What a device holds between the pieces of the body
-/
module

public import proofs.«01_k».proof.Proof.KI.Steps2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

section
variable {m c} {α : Type} {n l : ℕ} {f f' : Fin 8 → ℕ} {R : Res F} {Q : α → sProp (MT nD τ sig ℕ (Elt F) ℕ UU ℕ)}

/-- The end of a piece. -/
theorem WP_pure {v : α} {P : sProp (MT nD τ sig ℕ (Elt F) ℕ UU ℕ)} (h : P ⊢ Q v) : Ok P c (pure v) Q := by
  unfold Ok
  refine h.trans ?_
  rw [show WP c (pure v) Q = iprop(|={Set.univ}=> Q v) from wp_ret ..]
  iintro H; imodintro; iexact H

/-- The core asks which device it is on. -/
theorem WP_device {K : Dev nD → Prog (TpuEff nD τ sig (Elt F) Λ₀ .tc) α} {P : sProp (MT nD τ sig ℕ (Elt F) ℕ UU ℕ)}
    (h : Ok P c (K c) Q) : Ok P c (Prog.lift .deviceId >>= K) Q := by
  refine Entails.trans h (Entails.of_eq ?_)
  rw [WP_lift]
  exact (wp_deviceId ..).symm

/-- The stages of the lanes and of the weight copies, written out. -/
theorem tidy (w' : Fin 6 → ℕ) (hf : f = f') (hw : R.w = w') : Stt m c n l f R ⊢ Stt m c n l f' { R with w := w' } := by
  subst hf hw; exact .rfl
omit [FloatOps F] in
theorem w_eq {w w' : Fin 6 → ℕ} (h0 : w 0 = w' 0) (h1 : w 1 = w' 1) (h2 : w 2 = w' 2) (h3 : w 3 = w' 3) (h4 : w 4 = w' 4) (h5 : w 5 = w' 5) : w = w' := by
  funext q
  match q with
  | 0 => exact h0
  | 1 => exact h1
  | 2 => exact h2
  | 3 => exact h3
  | 4 => exact h4
  | 5 => exact h5
theorem tidyf (hf : f = f') : Stt m c n l f R ⊢ Stt m c n l f' R := by
  subst hf; exact .rfl

/-- A buffer's content is forgotten. -/
theorem weak {get : Res F → sProp (MT nD τ sig ℕ (Elt F) ℕ UU ℕ)} {set : Res F → sProp (MT nD τ sig ℕ (Elt F) ℕ UU ℕ) → Res F}
    (hf : Foc m get set) {P : sProp (MT nD τ sig ℕ (Elt F) ℕ UU ℕ)} (hR : get R ⊢ P) : Stt m c n l f R ⊢ Stt m c n l f (set R P) := by
  unfold Stt
  iintro ⟨#Hr, HO, Hl, HR⟩
  ihave HR := (hf c R P) $$ HR
  icases HR with ⟨HP, HR⟩
  isplitr; · iexact Hr
  isplitl [HO]; · iexact HO
  isplitl [Hl]; · iexact Hl
  iapply HR; iapply hR; iexact HP
end

/-! ## What a device holds besides its lanes, between the pieces of the body -/

/-- What the device holds besides its lanes on entry. -/
abbrev B0 : Res F where
  x := slotV xM c rX (xin m c)
  ch := slotAny chM c rCh
  bar := iprop(cred (tallyAt (barC c) 1 7) ∗ atPos ER (barC c) 0 ∅ 0)
  w := fun _ => 0
  xl := slotAny xlM c rX
  o := slotAny oM c rX
  v0 := slotAny wvM c (rI 0)
  v1 := slotAny wvM c (rI 1)
  o0 := slotAny woM c (rO 0)
  o1 := slotAny woM c (rO 1)
  ib0 := slotAny wibM c (rI 0)
  ib1 := slotAny wibM c (rI 1)
  ob0 := slotAny wobM c (rO 0)
  ob1 := slotAny wobM c (rO 1)
/-- After part 1. -/
abbrev B1 : Res F := (((((((((B0 m c).pv0 (iprop(emp))).pw 0 1).po0 (iprop(emp))).pw 1 1).pv1 (iprop(emp))).pw 2 1).po1 (iprop(emp))).pw 3 1)
/-- After part 2. -/
abbrev B2 : Res F := (((((B1 m c).pxl (slotAny xlM c rX)).pxl (slotV xlM c rX (XV m 0 c))).pw 0 2).pv0 (slotV wvM c (rI 0) (w1i m c 0)))
/-- After part 5. -/
abbrev B3 : Res F := ((B2 m c).pbar (iprop(atPos ER (barC c) 1 ∅ 0)))
/-- After part 8. -/
abbrev B4 : Res F := ((B3 m c).pch (slotAny chM c rCh))
/-- After part 9. -/
abbrev B5 : Res F := (((B4 m c).pch (slotV chM c rCh (agc m 0 c))).pch (iprop(emp)))
/-- After part 11. -/
abbrev B6 : Res F := ((((((B5 m c).pw 2 2).pv1 (slotV wvM c (rI 1) (w1i m c 1))).pw 3 2).po1 (slotV woM c (rO 1) (w1o m c 1))).pib1 (slotAny wibM c (rI 1)))
/-- After part 12. -/
abbrev B7 : Res F := ((((((((B6 m c).pib1 (slotV wibM c (rI 1) (wib m c 1))).pob1 (slotAny wobM c (rO 1))).pob1 (slotV wobM c (rO 1) (wob m c 1))).pw 1 2).po0 (slotV woM c (rO 0) (w1o m c 0))).pxl (slotAny xlM c rX)).pxl (slotV xlM c rX (acc m 0 c 0)))
/-- After part 13. -/
abbrev B8 : Res F := (((((B7 m c).pxl (slotAny xlM c rX)).pxl (slotV xlM c rX (acc m 0 c 1))).pxl (slotAny xlM c rX)).pxl (slotV xlM c rX (acc m 0 c 2)))
/-- After part 14. -/
abbrev B9 : Res F := ((((B8 m c).pxl (slotAny xlM c rX)).pxl (slotV xlM c rX (acc m 0 c 3))).pxl (slotAny xlM c rX))
/-- After part 15. -/
abbrev B10 : Res F := ((((B9 m c).pxl (slotV xlM c rX (acc m 0 c 4))).pxl (slotAny xlM c rX)).pxl (slotV xlM c rX (acc m 0 c 5)))
/-- After part 16. -/
abbrev B11 : Res F := (((((B10 m c).pxl (slotAny xlM c rX)).pxl (slotV xlM c rX (acc m 0 c 6))).pxl (slotAny xlM c rX)).pxl (slotV xlM c rX (XV m 1 c)))
/-- After part 17. -/
abbrev B12 : Res F := (((((B11 m c).pch (slotAny chM c rCh)).pv0 (slotAny wvM c (rI 0))).pv0 (iprop(emp))).pw 4 1)
/-- After part 18. -/
abbrev B13 : Res F := ((((B12 m c).po0 (slotAny woM c (rO 0))).po0 (iprop(emp))).pw 5 1)
/-- After part 23. -/
abbrev B14 : Res F := ((((B13 m c).pch (slotAny chM c rCh)).pch (slotV chM c rCh (agc m 1 c))).pch (iprop(emp)))
/-- After part 26. -/
abbrev B15 : Res F := (((((((((B14 m c).pw 4 2).pv0 (slotV wvM c (rI 0) (w1i m c 2))).pw 5 2).po0 (slotV woM c (rO 0) (w1o m c 2))).pib0 (slotAny wibM c (rI 0))).pib0 (slotV wibM c (rI 0) (wib m c 2))).pob0 (slotAny wobM c (rO 0))).pob0 (slotV wobM c (rO 0) (wob m c 2)))
/-- After part 27. -/
abbrev B16 : Res F := (((((B15 m c).pxl (slotAny xlM c rX)).pxl (slotV xlM c rX (acc m 1 c 0))).pxl (slotAny xlM c rX)).pxl (slotV xlM c rX (acc m 1 c 1)))
/-- After part 28. -/
abbrev B17 : Res F := (((((B16 m c).pxl (slotAny xlM c rX)).pxl (slotV xlM c rX (acc m 1 c 2))).pxl (slotAny xlM c rX)).pxl (slotV xlM c rX (acc m 1 c 3)))
/-- After part 29. -/
abbrev B18 : Res F := (((((B17 m c).pxl (slotAny xlM c rX)).pxl (slotV xlM c rX (acc m 1 c 4))).pxl (slotAny xlM c rX)).pxl (slotV xlM c rX (acc m 1 c 5)))
/-- After part 30. -/
abbrev B19 : Res F := ((((B18 m c).pxl (slotAny xlM c rX)).pxl (slotV xlM c rX (acc m 1 c 6))).pxl (slotAny xlM c rX))
/-- After part 31. -/
abbrev B20 : Res F := ((B19 m c).pxl (slotV xlM c rX (XV m 2 c)))
/-- After part 32. -/
abbrev B21 : Res F := ((B20 m c).pch (slotAny chM c rCh))
/-- After part 37. -/
abbrev B22 : Res F := ((((B21 m c).pch (slotAny chM c rCh)).pch (slotV chM c rCh (agc m 2 c))).pch (iprop(emp)))
/-- After part 40. -/
abbrev B23 : Res F := (((B22 m c).po (slotAny oM c rX)).po (slotV oM c rX (acc m 2 c 0)))
/-- After part 41. -/
abbrev B24 : Res F := (((((B23 m c).po (slotAny oM c rX)).po (slotV oM c rX (acc m 2 c 1))).po (slotAny oM c rX)).po (slotV oM c rX (acc m 2 c 2)))
/-- After part 42. -/
abbrev B25 : Res F := (((((B24 m c).po (slotAny oM c rX)).po (slotV oM c rX (acc m 2 c 3))).po (slotAny oM c rX)).po (slotV oM c rX (acc m 2 c 4)))
/-- After part 43. -/
abbrev B26 : Res F := (((((B25 m c).po (slotAny oM c rX)).po (slotV oM c rX (acc m 2 c 5))).po (slotAny oM c rX)).po (slotV oM c rX (acc m 2 c 6)))
/-- After part 44. -/
abbrev B27 : Res F := (((B26 m c).po (slotAny oM c rX)).po (slotV oM c rX (XV m 3 c)))

end Cert.KernelIdealProof

end
-- ==== Proof.KI.Close.lean ====
/-
# The end of the body

From the state at the end of the body: the slots are put together to whole buffers, every cell's counter is the
device's again at zero, and the weight arrays are as at launch.
-/
module

public import proofs.«01_k».proof.Proof.KI.Slots
public import proofs.«01_k».proof.Proof.KI.Bounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## A device's cells, sorted -/

omit [FloatOps F] in
theorem bigSep_add {a b : ℕ} (Φ : Fin (a + b) → sProp (MT nD τ sig ℕ (Elt F) ℕ UU ℕ)) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  rfl

variable (X : GSem nD τ sig → sProp (MT nD τ sig ℕ (Elt F) ℕ UU ℕ)) (c : Dev nD)

/-- A device's cells: the barrier, four for each device, six for the weights. -/
def sorted : sProp 𝕄 :=
  iprop(X (barC c) ∗ (bigSep Finset.univ fun t : Fin 8 => iprop(X (s0C c t) ∗ X (s1C c t) ∗ X (rC' c t) ∗ X (aC c t)))
    ∗ bigSep Finset.univ fun q : Fin 6 => X (wC c q))

omit [FloatOps F] in
theorem cells_eq : (bigSep Finset.univ fun k : Fin 39 => X (kcell (c, k))) = sorted X c := by
  unfold sorted
  rw [bigSep_sep', bigSep_sep', bigSep_sep']
  rw [show (bigSep Finset.univ fun k : Fin 39 => X (kcell (c, k))) = _ from bigSep_add (a := 1) (b := 38) fun k => X (kcell (c, k)),
    show (bigSep Finset.univ fun i : Fin 38 => X (kcell (c, Fin.natAdd 1 i))) = _ from bigSep_add (a := 8) (b := 30) fun k => X (kcell (c, Fin.natAdd 1 k)),
    show (bigSep Finset.univ fun i : Fin 30 => X (kcell (c, Fin.natAdd 1 (Fin.natAdd 8 i)))) = _ from
      bigSep_add (a := 8) (b := 22) fun k => X (kcell (c, Fin.natAdd 1 (Fin.natAdd 8 k))),
    show (bigSep Finset.univ fun i : Fin 22 => X (kcell (c, Fin.natAdd 1 (Fin.natAdd 8 (Fin.natAdd 8 i))))) = _ from
      bigSep_add (a := 8) (b := 14) fun k => X (kcell (c, Fin.natAdd 1 (Fin.natAdd 8 (Fin.natAdd 8 k)))),
    show (bigSep Finset.univ fun i : Fin 14 => X (kcell (c, Fin.natAdd 1 (Fin.natAdd 8 (Fin.natAdd 8 (Fin.natAdd 8 i)))))) = _ from
      bigSep_add (a := 8) (b := 6) fun k => X (kcell (c, Fin.natAdd 1 (Fin.natAdd 8 (Fin.natAdd 8 (Fin.natAdd 8 k)))))]
  have hb : (bigSep Finset.univ fun i : Fin 1 => X (kcell (c, Fin.castAdd 38 i))) = X (barC c) := by
    rw [show (Finset.univ : Finset (Fin 1)) = {0} from rfl, bigSep_singleton]; rfl
  rw [hb]
  rw [bigSep_congr (Ψ := fun t : Fin 8 => X (s0C c t)) fun t _ => by rw [← kcell_s0]; exact congrArg (fun k => X (kcell (c, k))) (Fin.ext rfl)]
  rw [bigSep_congr (Φ := fun i : Fin 8 => X (kcell (c, Fin.natAdd 1 (Fin.natAdd 8 (Fin.castAdd 22 i))))) (Ψ := fun t : Fin 8 => X (s1C c t)) fun t _ => by
    rw [← kcell_s1]; exact congrArg (fun k => X (kcell (c, k))) (Fin.ext (by show 1 + (8 + t.val) = 9 + t.val; omega))]
  rw [bigSep_congr (Φ := fun i : Fin 8 => X (kcell (c, Fin.natAdd 1 (Fin.natAdd 8 (Fin.natAdd 8 (Fin.castAdd 14 i)))))) (Ψ := fun t : Fin 8 => X (rC' c t)) fun t _ => by
    rw [← kcell_r]; exact congrArg (fun k => X (kcell (c, k))) (Fin.ext (by show 1 + (8 + (8 + t.val)) = 17 + t.val; omega))]
  rw [bigSep_congr (Φ := fun i : Fin 8 => X (kcell (c, Fin.natAdd 1 (Fin.natAdd 8 (Fin.natAdd 8 (Fin.natAdd 8 (Fin.castAdd 6 i))))))) (Ψ := fun t : Fin 8 => X (aC c t)) fun t _ => by
    rw [← kcell_a]; exact congrArg (fun k => X (kcell (c, k))) (Fin.ext (by show 1 + (8 + (8 + (8 + t.val))) = 25 + t.val; omega))]
  rw [bigSep_congr (Φ := fun i : Fin 6 => X (kcell (c, Fin.natAdd 1 (Fin.natAdd 8 (Fin.natAdd 8 (Fin.natAdd 8 (Fin.natAdd 8 i))))))) (Ψ := fun t : Fin 6 => X (wC c t)) fun t _ => by
    rw [← kcell_w]; exact congrArg (fun k => X (kcell (c, k))) (Fin.ext (by show 1 + (8 + (8 + (8 + (8 + t.val)))) = 33 + t.val; omega))]
  have h1 : ∀ A B C D E G : sProp (MT nD τ sig ℕ (Elt F) ℕ UU ℕ), iprop(A ∗ B ∗ C ∗ D ∗ E ∗ G) ⊢ iprop(A ∗ (B ∗ C ∗ D ∗ E) ∗ G) := fun A B C D E G => by
    iintro ⟨H1, H2, H3, H4, H5, H6⟩; iframe
  have h2 : ∀ A B C D E G : sProp (MT nD τ sig ℕ (Elt F) ℕ UU ℕ), iprop(A ∗ (B ∗ C ∗ D ∗ E) ∗ G) ⊢ iprop(A ∗ B ∗ C ∗ D ∗ E ∗ G) := fun A B C D E G => by
    iintro ⟨H1, ⟨H2, H3, H4, H5⟩, H6⟩; iframe
  exact BI.Entails.antisymm (h1 _ _ _ _ _ _) (h2 _ _ _ _ _ _)

/-! ## Cells that are over are closed -/

/-- A cell after its last round. -/
def over (g : GSem nD τ sig) : sProp 𝕄 := iprop(∃ R : ℕ, ⌜∀ r, R ≤ r → (Rd m).duties g r = ∅⌝ ∗ atPos ER g R ∅ 0)

theorem over_intro (g : GSem nD τ sig) (R : ℕ) (h : ∀ r, R ≤ r → (Rd m).duties g r = ∅) : atPos ER g R ∅ 0 ⊢ over m g := by
  unfold over
  iintro H
  iexists R
  isplitr
  · ipureintro; exact h
  · iexact H
theorem At_over (g : GSem nD τ sig) (R : ℕ) (h : ∀ r, R ≤ r → (Rd m).duties g r = ∅) : At (F := F) g R ⊢ over m g := by
  unfold At
  exact sep_elim_left.trans (over_intro m g R h)

theorem At4_over (t : Fin 8) (R : ℕ) (h : t = c ∨ 3 ≤ R) :
    At4 (F := F) c t R R R R ⊢ iprop(over m (s0C c t) ∗ over m (s1C c t) ∗ over m (rC' c t) ∗ over m (aC c t)) := by
  unfold At4
  exact BIClass.sep_mono (At_over m _ R fun r hr => duties_s0_end m c t r R h hr) (BIClass.sep_mono (At_over m _ R fun r hr => duties_s1_end m c t r R h hr)
    (BIClass.sep_mono (At_over m _ R fun r hr => duties_r_end m c t r R h hr) (At_over m _ R fun r hr => duties_a_end m c t r R h hr)))

theorem over_close (p : Dev nD × Fin 39) : iprop(recs m ∗ over m (kcell p)) ⊢ iprop(|={Set.univ}=> semVal (kcell p) 0) := by
  have key : ∀ (κ R : ℕ), (∀ r, R ≤ r → (Rd m).duties (kcell p) r = ∅) → iprop(cellInv ER (Rd m) κ (kcell p) ∗ atPos ER (kcell p) R ∅ 0) ⊢ iprop(|={Set.univ}=> semVal (kcell p) 0) :=
    fun κ R h => Rounds.cell_close ER (Rd m) (Set.mem_univ κ) (fun h => h) h
  iintro ⟨#Hr, H⟩
  ihave HI := (recs_cell m p) $$ Hr
  icases HI with ⟨%κ, HI⟩
  unfold over
  icases H with ⟨%R, %h, H⟩
  iapply (key κ R h)
  isplitl [HI] <;> iassumption

theorem all_close : iprop(recs m ∗ sorted (over m) c) ⊢ iprop(|={Set.univ}=> bigSep Finset.univ fun k : Fin 39 => semVal (kcell (c, k)) 0) := by
  rw [← cells_eq]
  refine BIBase.Entails.trans ?_ (bigSep_fupd Finset.univ (fun k : Fin 39 => semVal (kcell (c, k)) 0))
  refine (sep_mono_left (BI.bigSep_of_persistent (Finset.univ : Finset (Fin 39)) (recs m))).trans ?_
  rw [← bigSep_sep']
  exact bigSep_mono fun k _ => over_close m (c, k)

/-! ## The buffers of the body -/

/-- The nine buffers of the body, at some contents. -/
def bufs : sProp 𝕄 :=
  iprop(anyM wvM c ∗ anyM woM c ∗ anyM wibM c ∗ anyM wobM c ∗ anyM pbM c ∗ anyM rsM c ∗ anyM agM c ∗ anyM chM c ∗ anyM xlM c)
/-- The same in their slots. -/
def slots : sProp 𝕄 :=
  iprop((slotAny wvM c (rI 0) ∗ slotAny wvM c (rI 1)) ∗ (slotAny woM c (rO 0) ∗ slotAny woM c (rO 1))
    ∗ (slotAny wibM c (rI 0) ∗ slotAny wibM c (rI 1)) ∗ (slotAny wobM c (rO 0) ∗ slotAny wobM c (rO 1))
    ∗ (bigSep Finset.univ fun t : Fin 8 => pbA c t) ∗ (bigSep Finset.univ fun t : Fin 8 => rsA c t) ∗ (bigSep Finset.univ fun t : Fin 8 => agA c t)
    ∗ slotAny chM c rCh ∗ slotAny xlM c rX)

omit [FloatOps F] in
theorem bufs_slots : bufs c ⊢ slots (F := F) c := by
  unfold bufs slots pbA rsA agA
  exact BIClass.sep_mono (two_split wvM c rI rI_disj rI_cover (View.set_whole _)) (BIClass.sep_mono (two_split woM c rO rO_disj rO_cover (View.set_whole _))
    (BIClass.sep_mono (two_split wibM c rI rI_disj rI_cover (View.set_whole _)) (BIClass.sep_mono (two_split wobM c rO rO_disj rO_cover (View.set_whole _))
    (BIClass.sep_mono (slots_split pbM c r8 r8_disj r8_cover (View.set_whole _)) (BIClass.sep_mono (slots_split rsM c r8 r8_disj r8_cover (View.set_whole _))
    (BIClass.sep_mono (slots_split agM c r8 r8_disj r8_cover (View.set_whole _)) (BIClass.sep_mono (one_split chM c rCh rCh_set) (one_split xlM c rX xl_set))))))))
omit [FloatOps F] in
include m in
theorem slots_bufs : slots (F := F) c ⊢ bufs c := by
  unfold bufs slots pbA rsA agA
  exact BIClass.sep_mono (two_join wvM c rI rI_disj rI_cover (View.set_whole _) (m _)) (BIClass.sep_mono (two_join woM c rO rO_disj rO_cover (View.set_whole _) (m _))
    (BIClass.sep_mono (two_join wibM c rI rI_disj rI_cover (View.set_whole _) (m _)) (BIClass.sep_mono (two_join wobM c rO rO_disj rO_cover (View.set_whole _) (m _))
    (BIClass.sep_mono (slots_join pbM c r8 r8_disj r8_cover (View.set_whole _) 0 (m _)) (BIClass.sep_mono (slots_join rsM c r8 r8_disj r8_cover (View.set_whole _) 0 (m _))
    (BIClass.sep_mono (slots_join agM c r8 r8_disj r8_cover (View.set_whole _) 0 (m _)) (BIClass.sep_mono (one_join chM c rCh rCh_set) (one_join xlM c rX xl_set))))))))

/-! ## From the launch to the body's first state -/

/-- What lane `t` starts from besides its slots. -/
def laneG (t : Fin 8) : sProp 𝕄 :=
  if t = c then At4 c t 0 0 0 0 else iprop(At4 c t 0 0 0 0 ∗ Fut c t 0 ∗ dutyTok ER (barC t) 0 c ∗ reached ER (barC t) 0)

theorem lane_start (t : Fin 8) : iprop(laneG c t ∗ pbA c t ∗ rsA c t ∗ agA c t) ⊢ Stg m c t 0 11 := by
  by_cases h : t = c
  · subst h
    rw [Stg_own m t t 0 11 rfl]
    unfold laneG Ost
    rw [if_pos rfl, if_neg (by decide), if_neg (by decide), if_neg (by decide), if_neg (by decide)]
    iintro H
    isplitl [H]
    · iexact H
    · iempintro
  · rw [Stg_peer m c t 0 11 h]
    unfold laneG
    rw [if_neg h]
    show _ ⊢ P11 c t 0
    unfold P11
    iintro ⟨⟨H1, H2, H3, H4⟩, H5, H6, H7⟩
    iframe

/-- What a device starts with: what it knows and owes, its lanes' starts, the barrier's credit and round, the weights'
    duties and rounds, and its buffers. -/
def first : sProp 𝕄 :=
  iprop(recs m ∗ Owe c 0 ∗ (bigSep Finset.univ fun t : Fin 8 => laneG c t) ∗ (cred (tallyAt (barC c) 1 7) ∗ atPos ER (barC c) 0 ∅ 0)
    ∗ (bigSep Finset.univ fun q : Fin 6 => Wst m c q 0) ∗ slotV xM c rX (xin m c) ∗ slotAny oM c rX ∗ bufs c)

theorem body_start : first m c ⊢ Stt m c 0 0 (fun _ => 11) (B0 m c) := by
  have hl : iprop((bigSep Finset.univ fun t : Fin 8 => laneG c t) ∗ (bigSep Finset.univ fun t : Fin 8 => pbA c t)
      ∗ (bigSep Finset.univ fun t : Fin 8 => rsA c t) ∗ (bigSep Finset.univ fun t : Fin 8 => agA c t)) ⊢ lanes m c 0 (fun _ => 11) := by
    rw [← bigSep_sep', ← bigSep_sep', ← bigSep_sep']
    unfold lanes
    exact bigSep_mono fun t _ => lane_start m c t
  unfold first Stt Res.sep
  iintro ⟨#Hr, HO, HG, Hb, Hw, Hx, Ho, HB⟩
  ihave HB := (bufs_slots c) $$ HB
  unfold slots
  icases HB with ⟨⟨Hv0, Hv1⟩, ⟨Ho0, Ho1⟩, ⟨Hib0, Hib1⟩, ⟨Hob0, Hob1⟩, Hpb, Hrs, Hag, Hch, Hxl⟩
  ihave HL := hl $$ [HG Hpb Hrs Hag]
  · iframe
  isplitr; · iexact Hr
  isplitl [HO]; · iexact HO
  isplitl [HL]; · iexact HL
  iframe

/-! ## From the body's last state -/

theorem lane_end (t : Fin 8) : Stg m c t 2 10
    ⊢ iprop((over m (s0C c t) ∗ over m (s1C c t) ∗ over m (rC' c t) ∗ over m (aC c t)) ∗ pbA c t ∗ rsA c t ∗ agA c t ∗ chP c (shr t) (agc m 2 c)) := by
  by_cases h : t = c
  · subst h
    have h4 := At4_over m t t 0 (Or.inl rfl)
    rw [Stg_own m t t 2 10 rfl]
    unfold Ost
    rw [if_pos (by decide), if_pos (by decide), if_pos (by decide), if_pos (by decide)]
    iintro ⟨⟨H4, Hp, Hr, Ha⟩, Hc⟩
    unfold pbV rsVal agVal pbA rsA agA
    isplitl [H4]; · iapply h4; iexact H4
    isplitl [Hp]; · iapply (slotV_any _ _ _ _); iexact Hp
    isplitl [Hr]; · iapply (slotV_any _ _ _ _); iexact Hr
    isplitl [Ha]; · iapply (slotV_any _ _ _ _); iexact Ha
    iexact Hc
  · have h4 := At4_over m c t 3 (Or.inr le_rfl)
    rw [Stg_peer m c t 2 10 h]
    show P10 m c t 2 ⊢ _
    unfold P10 left
    rw [if_neg (by decide)]
    iintro ⟨⟨H4, Hp, -, Hr, -, Ha⟩, Hc⟩
    unfold agVal agA
    isplitl [H4]; · iapply h4; iexact H4
    isplitl [Hp]; · iexact Hp
    isplitl [Hr]; · iexact Hr
    isplitl [Ha]; · iapply (slotV_any _ _ _ _); iexact Ha
    iexact Hc

theorem w_end (q : Fin 6) : Wst m c q 2 ⊢ iprop(argP m c (argR q) ∗ over m (wC c q)) := by
  show iprop(argP m c (argR q) ∗ At (wC c q) 1) ⊢ _
  exact sep_mono_right (At_over m _ 1 fun r hr => duties_w_end m c r q hr)

/-- What a device ends with. -/
def last : sProp 𝕄 :=
  iprop(Owe c 56 ∗ slotV xM c rX (xin m c) ∗ slotV oM c rX (XV m 3 c) ∗ bufs c ∗ (bigSep Finset.univ fun q : Fin 6 => argP m c (argR q))
    ∗ bigSep Finset.univ fun k : Fin 39 => semVal (kcell (c, k)) 0)

theorem body_end : Stt m c 56 2 (fun _ => 10) (B27 m c) ⊢ iprop(|={Set.univ}=> last m c) := by
  have hl : lanes m c 2 (fun _ => 10) ⊢ iprop((bigSep Finset.univ fun t : Fin 8 => iprop(over m (s0C c t) ∗ over m (s1C c t) ∗ over m (rC' c t) ∗ over m (aC c t)))
      ∗ (bigSep Finset.univ fun t : Fin 8 => pbA c t) ∗ (bigSep Finset.univ fun t : Fin 8 => rsA c t) ∗ (bigSep Finset.univ fun t : Fin 8 => agA c t)
      ∗ bigSep Finset.univ fun t : Fin 8 => chP c (shr t) (agc m 2 c)) := by
    rw [← bigSep_sep', ← bigSep_sep', ← bigSep_sep', ← bigSep_sep']
    unfold lanes
    exact bigSep_mono fun t _ => lane_end m c t
  have hw : (bigSep Finset.univ fun q : Fin 6 => Wst m c q ((B27 m c).w q)) ⊢ iprop((bigSep Finset.univ fun q : Fin 6 => argP m c (argR q)) ∗ bigSep Finset.univ fun q : Fin 6 => over m (wC c q)) := by
    rw [← bigSep_sep']
    refine bigSep_mono fun q _ => ?_
    have : (B27 m c).w q = 2 := by fin_cases q <;> rfl
    rw [this]
    exact w_end m c q
  have hch : (bigSep Finset.univ fun t : Fin 8 => chP c (shr t) (agc m 2 c)) ⊢ slotAny (F := F) chM c rCh := by
    rw [← ch_shares]; exact ch_any c _
  have hb : atPos ER (barC c) 1 ∅ 0 ⊢ over m (barC c) := over_intro m _ 1 fun r hr => duties_bar_end m c r hr
  have hsep : (B27 m c).sep m c = iprop(slotV xM c rX (xin m c) ∗ emp ∗ slotV xlM c rX (XV m 2 c) ∗ slotV oM c rX (XV m 3 c)
      ∗ slotV wvM c (rI 0) (w1i m c 2) ∗ slotV wvM c (rI 1) (w1i m c 1) ∗ slotV woM c (rO 0) (w1o m c 2) ∗ slotV woM c (rO 1) (w1o m c 1)
      ∗ slotV wibM c (rI 0) (wib m c 2) ∗ slotV wibM c (rI 1) (wib m c 1) ∗ slotV wobM c (rO 0) (wob m c 2) ∗ slotV wobM c (rO 1) (wob m c 1)
      ∗ atPos ER (barC c) 1 ∅ 0 ∗ bigSep Finset.univ fun q : Fin 6 => Wst m c q ((B27 m c).w q)) := rfl
  unfold Stt
  rw [hsep]
  iintro ⟨#Hr, HO, HL, Hx, -, Hxl, Ho, Hv0, Hv1, Ho0, Ho1, Hib0, Hib1, Hob0, Hob1, Hb, Hw⟩
  ihave HL := hl $$ HL
  icases HL with ⟨H4, Hpb, Hrs, Hag, Hch⟩
  ihave Hw := hw $$ Hw
  icases Hw with ⟨HA, Hw⟩
  ihave Hch := hch $$ Hch
  ihave Hb := hb $$ Hb
  ihave HC := (all_close m c) $$ [H4 Hw Hb]
  · isplitr; · iexact Hr
    unfold sorted
    iframe
  imod HC
  ihave Hxl := (slotV_any xlM c rX (XV m 2 c)) $$ Hxl
  ihave Hv0 := (slotV_any wvM c (rI 0) (w1i m c 2)) $$ Hv0
  ihave Hv1 := (slotV_any wvM c (rI 1) (w1i m c 1)) $$ Hv1
  ihave Ho0 := (slotV_any woM c (rO 0) (w1o m c 2)) $$ Ho0
  ihave Ho1 := (slotV_any woM c (rO 1) (w1o m c 1)) $$ Ho1
  ihave Hib0 := (slotV_any wibM c (rI 0) (wib m c 2)) $$ Hib0
  ihave Hib1 := (slotV_any wibM c (rI 1) (wib m c 1)) $$ Hib1
  ihave Hob0 := (slotV_any wobM c (rO 0) (wob m c 2)) $$ Hob0
  ihave Hob1 := (slotV_any wobM c (rO 1) (wob m c 1)) $$ Hob1
  ihave HB := (slots_bufs m c) $$ [Hpb Hrs Hag Hch Hxl Hv0 Hv1 Ho0 Ho1 Hib0 Hib1 Hob0 Hob1]
  · unfold slots
    iframe
  imodintro
  unfold last
  isplitl [HO]; · iexact HO
  isplitl [Hx]; · iexact Hx
  isplitl [Ho]; · iexact Ho
  iframe

end Cert.KernelIdealProof

end
-- ==== Proof.KI.Creds.lean ====
/-
# The launch's credit

What the devices owe at launch, summed, is what each device's own cells are to receive: seven units of its barrier,
and from each other device the copies of the two exchanges of the three layers.
-/
module

public import proofs.«01_k».proof.Proof.KI.Sched
public import Idealize.ShloMosaic.Lib.Pipeline.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The payments in their order, sorted by the device they go to. -/
theorem sum_blocks {A : Type} [AddCommMonoid A] (f : ℕ → A) : (∑ i ∈ Finset.Ico 0 56, f i) = ∑ s : Fin 8, ∑ b ∈ Finset.range 7, f (8 * b + s.val) := by
  have h : (∑ i ∈ Finset.range (8 * 7), f i) = ∑ b ∈ Finset.range 7, ∑ s ∈ Finset.range 8, f (8 * b + s) := by
    have hn : ∀ n : ℕ, (∑ i ∈ Finset.range (8 * n), f i) = ∑ b ∈ Finset.range n, ∑ s ∈ Finset.range 8, f (8 * b + s) := by
      intro n
      induction n with
      | zero => rfl
      | succ n ih => rw [Nat.mul_succ, Finset.sum_range_add, ih, Finset.sum_range_succ (fun b => ∑ s ∈ Finset.range 8, f (8 * b + s))]
    exact hn 7
  rw [← Finset.range_eq_Ico, h, Finset.sum_comm, Finset.sum_range]

/-- Payment `b` of device `d` to device `c`. -/
theorem pay_at (d c : Dev nD) (b : ℕ) : pay d (8 * b + c.val)
    = if c = d then 0 else if b = 0 then tallyAt (barC c) (1 + b) 1 else if b % 2 = 1 then tallyAt (rC' c d) (1 + b) Nc else tallyAt (aC c d) (1 + b) Nc := by
  have h1 : (Fin.ofNat 8 (8 * b + c.val) : Fin 8) = c := Fin.ext (by have := c.isLt; show (8 * b + c.val) % 8 = c.val; have h8 : c.val < 8 := c.isLt; omega)
  have h2 : (8 * b + c.val) / 8 = b := by have h8 : c.val < 8 := c.isLt; omega
  unfold pay
  rw [h1, h2]

/-- What device `c`'s cells are to receive from device `d`. -/
def due (c d : Dev nD) : CellTallies nD τ sig ℕ := ∑ b ∈ Finset.range 7, pay d (8 * b + c.val)

theorem due_sum : (∑ d : Dev nD, Od d 0) = ∑ c : Dev nD, ∑ d : Dev nD, due c d := by
  rw [Finset.sum_comm]
  exact Finset.sum_congr rfl fun d _ => sum_blocks (pay d)

theorem tallyAt_cell {g g' : GSem nD τ sig} {ι k : ℕ} (h : (tallyAt g ι k : CellTallies nD τ sig ℕ) g' ≠ 0) : g' = g := by
  by_contra hne
  exact h (tallyAt_ne_cell hne ι k)

theorem due_own (c : Dev nD) (g : GSem nD τ sig) (h : (∑ d : Dev nD, due c d) g ≠ 0) : g.1 = (c.tc : Thread nD τ) := by
  rw [Finset.sum_apply] at h
  obtain ⟨d, -, h⟩ := Finset.exists_ne_zero_of_sum_ne_zero h
  unfold due at h
  rw [Finset.sum_apply] at h
  obtain ⟨b, -, h⟩ := Finset.exists_ne_zero_of_sum_ne_zero h
  rw [pay_at] at h
  split at h
  · exact absurd rfl h
  split at h
  · rw [tallyAt_cell h]
  split at h
  · rw [tallyAt_cell h]
  · rw [tallyAt_cell h]

omit [FloatOps F] in
theorem cred_fam {A : Type} [DecidableEq A] (s : Finset A) (f : A → CellTallies nD τ sig ℕ) : (cred (∑ a ∈ s, f a) : sProp 𝕄) ⊢ bigSep s fun a => cred (f a) := by
  induction s using Finset.induction with
  | empty => rw [bigSep_empty]; exact Entails.of_eq cred_zero
  | insert a s ha ih =>
    rw [Finset.sum_insert ha, bigSep_insert ha]
    exact (cred_add _ _).1.trans (sep_mono_right ih)

/-- The credits of layer `l`'s copies from device `t`. -/
def layC (c : Dev nD) (t : Fin 8) (l : ℕ) : sProp 𝕄 := iprop(cred (tallyAt (rC' c t) (2 + 2 * l) Nc) ∗ cred (tallyAt (aC c t) (3 + 2 * l) Nc))
/-- The credits of device `c`'s copies from device `t`. -/
def laneC (c : Dev nD) (t : Fin 8) : sProp 𝕄 := if t = c then iprop(emp) else iprop(layC c t 0 ∗ layC c t 1 ∗ layC c t 2)

theorem due_eq (c d : Dev nD) (h : d ≠ c) : due c d = tallyAt (barC c) 1 1
    + ((tallyAt (rC' c d) 2 Nc + tallyAt (aC c d) 3 Nc) + ((tallyAt (rC' c d) 4 Nc + tallyAt (aC c d) 5 Nc) + (tallyAt (rC' c d) 6 Nc + tallyAt (aC c d) 7 Nc))) := by
  unfold due
  rw [Finset.sum_congr rfl fun b _ => pay_at d c b]
  simp only [if_neg (Ne.symm h)]
  simp only [Finset.sum_range_succ, Finset.sum_range_zero, zero_add, add_assoc]
  rfl
theorem due_self (c : Dev nD) : due c c = 0 := by
  unfold due
  rw [Finset.sum_congr rfl fun b _ => pay_at c c b]
  simp only [if_true, Finset.sum_const_zero]

/-- A unit of the barrier from another device. -/
def barT (c d : Dev nD) : CellTallies nD τ sig ℕ := if d = c then 0 else tallyAt (barC c) 1 1
/-- The copies from another device. -/
def laneT (c d : Dev nD) : CellTallies nD τ sig ℕ := if d = c then 0
  else (tallyAt (rC' c d) 2 Nc + tallyAt (aC c d) 3 Nc) + ((tallyAt (rC' c d) 4 Nc + tallyAt (aC c d) 5 Nc) + (tallyAt (rC' c d) 6 Nc + tallyAt (aC c d) 7 Nc))
theorem due_split (c d : Dev nD) : due c d = barT c d + laneT c d := by
  by_cases h : d = c
  · subst h; rw [due_self, barT, laneT, if_pos rfl, if_pos rfl, add_zero]
  · rw [due_eq c d h, barT, laneT, if_neg h, if_neg h]

theorem bar_units (g : GSem nD τ sig) (n : ℕ) : (∑ _i ∈ Finset.range n, (tallyAt g 1 1 : CellTallies nD τ sig ℕ)) = tallyAt g 1 n := by
  induction n with
  | zero => rw [Finset.sum_range_zero]; unfold tallyAt tallyOn; rw [Finsupp.single_zero, Pi.single_zero]
  | succ n ih => rw [Finset.sum_range_succ, ih, tallyAt_add]
theorem bar_sum (c : Dev nD) : (∑ d : Dev nD, barT c d) = tallyAt (barC c) 1 7 := by
  unfold barT
  rw [← Finset.add_sum_erase Finset.univ _ (Finset.mem_univ c), if_pos rfl, zero_add,
    Finset.sum_congr rfl fun d hd => if_neg (Finset.ne_of_mem_erase hd), Finset.sum_const, Finset.card_erase_of_mem (Finset.mem_univ _),
    Finset.card_univ, Fintype.card_fin, ← bar_units (barC c) 7, Finset.sum_const, Finset.card_range]
  exact congrArg (fun n : ℕ => n • (tallyAt (barC c) 1 1 : CellTallies nD τ sig ℕ)) (show nD - 1 = 7 by decide)

omit [FloatOps F] in
theorem lane_cred (c d : Dev nD) : (cred (laneT c d) : sProp 𝕄) ⊢ laneC c d := by
  unfold laneT laneC layC
  by_cases h : d = c
  · rw [if_pos h, if_pos h]; exact Entails.of_eq cred_zero
  · rw [if_neg h, if_neg h]
    exact (cred_add _ _).1.trans (BIClass.sep_mono (cred_add _ _).1 ((cred_add _ _).1.trans (BIClass.sep_mono (cred_add _ _).1 (cred_add _ _).1)))

omit [FloatOps F] in
/-- A device's credit at launch. -/
theorem creds (c : Dev nD) : (Pipeline.launchCred (fun d => Od d 0) c : sProp 𝕄)
    ⊢ iprop(cred (tallyAt (barC c) 1 7) ∗ bigSep Finset.univ fun d : Fin 8 => laneC c d) := by
  rw [Pipeline.launchCred_of_sum (fun d => Od d 0) (fun c => ∑ d, due c d) due_sum due_own c, Finset.sum_congr rfl fun d _ => due_split c d,
    Finset.sum_add_distrib, bar_sum]
  exact (cred_add _ _).1.trans (sep_mono_right ((cred_fam _ _).trans (bigSep_mono fun d _ => lane_cred c d)))

end Cert.KernelIdealProof

end
-- ==== Proof.KI.Ghost.lean ====
/-
# The ghost state at launch

The rounds of the cells and the tokens of their duties are made for every device at once, the cells' invariants are
allocated, and the tokens are dealt to the devices that do the duties.
-/
module

public import proofs.«01_k».proof.Proof.KI.Close
public import proofs.«01_k».proof.Proof.KI.Creds
public import Idealize.ShloMosaic.Lib.Pipeline.Launch
public import Idealize.ShloMosaic.Lib.Pipeline.Kit
public import proofs.«01_k».proof.Proof.Gen.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem kcell_injective : Function.Injective (kcell : Dev nD × Fin 39 → GSem nD τ sig) := by
  rintro ⟨c, k⟩ ⟨c', k'⟩ h
  have h1 : c = c' := congrArg (fun g : GSem nD τ sig => g.1.1) h
  subst h1
  have h2 := congrArg Prod.snd h
  unfold kcell at h2
  have : k = k' := by
    apply Fin.ext
    by_cases hk : k.val = 0 <;> by_cases hk' : k'.val = 0
    · omega
    · simp only [hk, hk', dite_true, dite_false] at h2; cases h2
    · simp only [hk, hk', dite_true, dite_false] at h2; cases h2
    · simp only [hk, hk', dite_false] at h2
      injection h2 with h2
      have h3 : k.val + 1 = k'.val + 1 := congrArg (fun i : Fin 40 => i.val) h2
      omega
  subst this; rfl
def kCells : Finset (GSem nD τ sig) := Finset.univ.map ⟨kcell, kcell_injective⟩

/-- The duties' tokens: of device `c`, with device `t` (or, for the weights, numbered), of a kind and a layer. -/
def tokOf (x : (Dev nD × Fin 8) × (Fin 6 × Fin 3)) : GSem nD τ sig × ℕ × Fin 8 :=
  match x.2.1 with
  | 0 => (barC x.1.1, x.2.2.val, x.1.2)
  | 1 => (s0C x.1.1 x.1.2, x.2.2.val, 0)
  | 2 => (s1C x.1.1 x.1.2, x.2.2.val, 0)
  | 3 => (rC' x.1.1 x.1.2, x.2.2.val, 0)
  | 4 => (aC x.1.1 x.1.2, x.2.2.val, 0)
  | 5 => (wC x.1.1 ⟨x.1.2.val % 6, Nat.mod_lt _ (by decide)⟩, 3 * (x.1.2.val / 6) + x.2.2.val, 0)
theorem tokOf_injective : Function.Injective tokOf := by
  have hc : ∀ x, (tokOf x).1.1.1 = x.1.1 := by
    rintro ⟨⟨c, t⟩, k, l⟩
    fin_cases k <;> rfl
  have hk : ∀ x, ck (tokOf x).1.2 = match x.2.1 with
      | 0 => .bar | 1 => .s0 x.1.2 | 2 => .s1 x.1.2 | 3 => .rs x.1.2 | 4 => .ag x.1.2 | 5 => .w ⟨x.1.2.val % 6, Nat.mod_lt _ (by decide)⟩ := by
    rintro ⟨⟨c, t⟩, k, l⟩
    fin_cases k
    · exact ck_bar
    · exact ck_s0 t
    · exact ck_s1 t
    · exact ck_r t
    · exact ck_a t
    · exact ck_w _
  intro x y h
  have h1 := (hc x).symm.trans ((congrArg (fun z : GSem nD τ sig × ℕ × Fin 8 => z.1.1.1) h).trans (hc y))
  have h2 := (hk x).symm.trans ((congrArg (fun z : GSem nD τ sig × ℕ × Fin 8 => ck z.1.2) h).trans (hk y))
  have h3 : (tokOf x).2.1 = (tokOf y).2.1 := congrArg (fun z : GSem nD τ sig × ℕ × Fin 8 => z.2.1) h
  have h4 : (tokOf x).2.2 = (tokOf y).2.2 := congrArg (fun z : GSem nD τ sig × ℕ × Fin 8 => z.2.2) h
  clear h hc hk
  obtain ⟨⟨c, t⟩, k, l⟩ := x
  obtain ⟨⟨c', t'⟩, k', l'⟩ := y
  obtain rfl : c = c' := h1
  have key : t = t' ∧ k = k' ∧ l = l' := by
    fin_cases k <;> fin_cases k' <;> first
      | exact ⟨h4, rfl, Fin.ext h3⟩
      | (have h5 : t.val % 6 = t'.val % 6 := congrArg Fin.val (CK.w.inj h2)
         have h6 : 3 * (t.val / 6) + l.val = 3 * (t'.val / 6) + l'.val := h3
         have := l.isLt; have := l'.isLt
         exact ⟨Fin.ext (by omega), rfl, Fin.ext (by omega)⟩)
      | (cases h2; exact ⟨rfl, rfl, Fin.ext h3⟩)
      | cases h2
  obtain ⟨rfl, rfl, rfl⟩ := key
  rfl
def kToks : Finset (GSem nD τ sig × ℕ × Fin 8) := Finset.univ.map ⟨tokOf, tokOf_injective⟩

/-! ## The tokens of one device -/

/-- The tokens made of device `c` with device `t`. -/
def toks (c : Dev nD) (t : Fin 8) : sProp 𝕄 :=
  bigSep Finset.univ fun y : Fin 6 × Fin 3 => dutyTok ER (tokOf ((c, t), y)).1 (tokOf ((c, t), y)).2.1 (tokOf ((c, t), y)).2.2
/-- The duties of the send cells towards `t`, which the device does itself, -/
def ownT (c : Dev nD) (t : Fin 8) : sProp 𝕄 :=
  iprop((dutyTok ER (s0C c t) 0 0 ∗ dutyTok ER (s0C c t) 1 0 ∗ dutyTok ER (s0C c t) 2 0)
    ∗ (dutyTok ER (s1C c t) 0 0 ∗ dutyTok ER (s1C c t) 1 0 ∗ dutyTok ER (s1C c t) 2 0))
/-- those that device `t` does on `c`'s barrier and receive cells, -/
def farT (c : Dev nD) (t : Fin 8) : sProp 𝕄 :=
  iprop(dutyTok ER (barC c) 0 t ∗ (dutyTok ER (rC' c t) 0 0 ∗ dutyTok ER (rC' c t) 1 0 ∗ dutyTok ER (rC' c t) 2 0)
    ∗ (dutyTok ER (aC c t) 0 0 ∗ dutyTok ER (aC c t) 1 0 ∗ dutyTok ER (aC c t) 2 0))
/-- and those of the weights. -/
def wT (c : Dev nD) (t : Fin 8) : sProp 𝕄 := dutyTok ER (wC c ⟨t.val % 6, Nat.mod_lt _ (by decide)⟩) (3 * (t.val / 6) + 0) 0

omit [FloatOps F] in
theorem bigSep_three (Φ : Fin 3 → sProp (MT nD τ sig ℕ (Elt F) ℕ UU ℕ)) : bigSep Finset.univ Φ = iprop(Φ 0 ∗ Φ 1 ∗ Φ 2) :=
  bigSep_univ_eq_bigSepL [0, 1, 2] (by decide) (by decide) Φ
omit [FloatOps F] in
theorem bigSep_six (Φ : Fin 6 → sProp (MT nD τ sig ℕ (Elt F) ℕ UU ℕ)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem toks_deal (c : Dev nD) (t : Fin 8) : toks (F := F) c t ⊢ iprop(ownT c t ∗ farT c t ∗ wT c t) := by
  have h : toks (F := F) c t = iprop((dutyTok ER (barC c) 0 t ∗ dutyTok ER (barC c) 1 t ∗ dutyTok ER (barC c) 2 t)
      ∗ (dutyTok ER (s0C c t) 0 0 ∗ dutyTok ER (s0C c t) 1 0 ∗ dutyTok ER (s0C c t) 2 0)
      ∗ (dutyTok ER (s1C c t) 0 0 ∗ dutyTok ER (s1C c t) 1 0 ∗ dutyTok ER (s1C c t) 2 0)
      ∗ (dutyTok ER (rC' c t) 0 0 ∗ dutyTok ER (rC' c t) 1 0 ∗ dutyTok ER (rC' c t) 2 0)
      ∗ (dutyTok ER (aC c t) 0 0 ∗ dutyTok ER (aC c t) 1 0 ∗ dutyTok ER (aC c t) 2 0)
      ∗ (wT c t ∗ dutyTok ER (wC c ⟨t.val % 6, Nat.mod_lt _ (by decide)⟩) (3 * (t.val / 6) + 1) 0
        ∗ dutyTok ER (wC c ⟨t.val % 6, Nat.mod_lt _ (by decide)⟩) (3 * (t.val / 6) + 2) 0)) := by
    unfold toks
    rw [bigSep_univ_prod, bigSep_six, bigSep_three, bigSep_three, bigSep_three, bigSep_three, bigSep_three, bigSep_three]
    rfl
  rw [h]
  unfold ownT farT
  iintro ⟨⟨Hb, -⟩, H0, H1, Hr, Ha, ⟨Hw, -⟩⟩
  iframe

omit [FloatOps F] in
theorem wT_all (c : Dev nD) : (bigSep Finset.univ fun t : Fin 8 => wT (F := F) c t) ⊢ bigSep Finset.univ fun q : Fin 6 => dutyTok ER (wC c q) 0 0 := by
  rw [show (bigSep Finset.univ fun t : Fin 8 => wT (F := F) c t) = _ from bigSep_add (a := 6) (b := 2) fun t => wT c t]
  refine sep_elim_left.trans (Entails.of_eq (bigSep_congr fun q _ => ?_))
  unfold wT
  fin_cases q <;> rfl

/-! ## One device's part of the launch -/

/-- What the ghost state at launch is for device `c`. -/
def G (c : Dev nD) : sProp 𝕄 :=
  iprop((bigSep Finset.univ fun k : Fin 39 => roundState ER (Rd m) (kcell (c, k)) 0)
    ∗ (bigSep Finset.univ fun k : Fin 39 => At (kcell (c, k)) 0) ∗ bigSep Finset.univ fun t : Fin 8 => toks c t)

theorem fund_all : BI.own (ER (initOf kCells kToks)) ⊢ (|==> bigSep Finset.univ (G m) : sProp 𝕄) := by
  have hX (Φ : GSem nD τ sig → sProp (MT nD τ sig ℕ (Elt F) ℕ UU ℕ)) : bigSep kCells Φ = bigSep Finset.univ fun c : Dev nD => bigSep Finset.univ fun k : Fin 39 => Φ (kcell (c, k)) := by
    unfold kCells; rw [bigSep_map, bigSep_univ_prod]; rfl
  have hT : bigSep kToks (fun x => (dutyTok ER x.1 x.2.1 x.2.2 : sProp 𝕄)) = bigSep Finset.univ fun c : Dev nD => bigSep Finset.univ fun t : Fin 8 => toks c t := by
    unfold kToks; rw [bigSep_map, bigSep_univ_prod, bigSep_univ_prod]; rfl
  have hG : bigSep Finset.univ (G m) = iprop((bigSep Finset.univ fun c : Dev nD => bigSep Finset.univ fun k : Fin 39 => roundState ER (Rd m) (kcell (c, k)) 0)
      ∗ ((bigSep Finset.univ fun c : Dev nD => bigSep Finset.univ fun k : Fin 39 => atPos ER (kcell (c, k)) 0 ∅ 0)
        ∗ (bigSep Finset.univ fun c : Dev nD => bigSep Finset.univ fun k : Fin 39 => reached ER (kcell (c, k)) 0))
      ∗ bigSep Finset.univ fun c : Dev nD => bigSep Finset.univ fun t : Fin 8 => toks c t) := by
    unfold G At
    simp only [bigSep_sep']
  rw [hG]
  iintro HX
  imod (Rounds.fund ER (Rd m) kCells kToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  iframe

/-- The thirty-eight semaphores of the kernel's own. -/
def osem : Fin 38 → SemLoc sig := fun k => .dma (⟨k.val + 2, by have := k.isLt; show k.val + 2 < 40; omega⟩ : Fin 40)

theorem kcell_osem (c : Dev nD) (k : Fin 38) : kcell (c, Fin.natAdd 1 k) = ((c : Thread nD τ), osem k) := by
  unfold kcell osem
  have h : ¬ (Fin.natAdd 1 k).val = 0 := by show ¬ 1 + k.val = 0; omega
  rw [dif_neg h]
  exact Prod.ext rfl (congrArg SemLoc.dma (Fin.ext (by show 1 + k.val + 1 = k.val + 2; omega)))

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The counters of all its cells are the barrier's and those of its own semaphores. -/
theorem sems0_eq (c : Dev nD) : (bigSep Finset.univ fun k : Fin 39 => semVal (kcell (c, k)) 0 : sProp 𝕄)
    = iprop(unscopedSems0 c ∗ Pipeline.ownSems0 (Ix := ℕ) (Name := ℕ) (U := UU) (Lvl := ℕ) (Val := Elt F) (τ := τ) osem c) := by
  rw [show (bigSep Finset.univ fun k : Fin 39 => (semVal (kcell (c, k)) 0 : sProp 𝕄)) = _ from bigSep_add (a := 1) (b := 38) fun k => semVal (kcell (c, k)) 0,
    show (Finset.univ : Finset (Fin 1)) = {0} from rfl, bigSep_singleton, unscopedSems0_eq]
  unfold Pipeline.ownSems0
  rw [bigSep_congr fun (k : Fin 38) _ => by rw [kcell_osem]]
  rfl

/-- The cells of one device get their invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 39 => iprop(∃ κ : ℕ, cellInv ER (Rd m) κ (kcell (c, k))))
          ∗ (bigSep Finset.univ fun k : Fin 39 => At (kcell (c, k)) 0) ∗ bigSep Finset.univ fun t : Fin 8 => toks c t) := by
  have hi : iprop((bigSep Finset.univ fun k : Fin 39 => semVal (kcell (c, k)) 0) ∗ bigSep Finset.univ fun k : Fin 39 => roundState ER (Rd m) (kcell (c, k)) 0)
      ⊢ (|={Set.univ}=> bigSep Finset.univ fun k : Fin 39 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod hi $$ [Hv Hst] with Hinv
  · isplitl [Hv] <;> iassumption
  imodintro
  isplitl [Hinv]; · iexact Hinv
  isplitl [Hat]; · iexact Hat
  iexact Htok

/-! ## All devices together -/

/-- What every device knows: all cells' invariants, and that the barriers' round is on. -/
def known : sProp 𝕄 :=
  iprop((bigSep Finset.univ fun p : Dev nD × Fin 39 => iprop(∃ κ : ℕ, cellInv ER (Rd m) κ (kcell p)))
    ∗ bigSep Finset.univ fun c : Dev nD => reached ER (barC c) 0)
instance known_persistent : BI.Persistent (known m) := by unfold known; infer_instance

/-- What is device `c`'s alone. -/
def alone (c : Dev nD) : sProp 𝕄 :=
  iprop(sorted (fun g => At g 0) c ∗ (bigSep Finset.univ fun t : Fin 8 => ownT c t) ∗ (bigSep Finset.univ fun t : Fin 8 => farT t c)
    ∗ bigSep Finset.univ fun q : Fin 6 => dutyTok ER (wC c q) 0 0)

/-- What device `c` starts from, of the ghost state. -/
def G' (c : Dev nD) : sProp 𝕄 := iprop(known m ∗ alone c)

omit [FloatOps F] in
theorem bigSep_with_persistent {I : Type} [DecidableEq I] {S : Finset I} {R : sProp (MT nD τ sig ℕ (Elt F) ℕ UU ℕ)} [BI.Persistent R] {Φ Ψ : I → sProp (MT nD τ sig ℕ (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The tokens go to the devices that do the duties. -/
theorem toks_around : (bigSep Finset.univ fun c : Dev nD => bigSep Finset.univ fun t : Fin 8 => toks (F := F) c t)
    ⊢ bigSep Finset.univ fun c : Dev nD => iprop((bigSep Finset.univ fun t : Fin 8 => ownT c t) ∗ (bigSep Finset.univ fun t : Fin 8 => farT t c)
      ∗ bigSep Finset.univ fun q : Fin 6 => dutyTok ER (wC c q) 0 0) := by
  have h : (bigSep Finset.univ fun c : Dev nD => bigSep Finset.univ fun t : Fin 8 => toks (F := F) c t)
      ⊢ bigSep Finset.univ fun c : Dev nD => iprop((bigSep Finset.univ fun t : Fin 8 => ownT c t) ∗ (bigSep Finset.univ fun t : Fin 8 => farT c t)
        ∗ bigSep Finset.univ fun q : Fin 6 => dutyTok ER (wC c q) 0 0) := by
    refine bigSep_mono fun c _ => ?_
    refine (bigSep_mono fun t _ => toks_deal c t).trans ?_
    rw [bigSep_sep', bigSep_sep']
    exact sep_mono_right (sep_mono_right (wT_all c))
  refine h.trans ?_
  rw [bigSep_sep', bigSep_sep', bigSep_sep', bigSep_sep']
  exact sep_mono_right (sep_mono_left (Entails.of_eq (Pipeline.bigSep_univ_comm fun (c : Dev nD) (t : Fin 8) => farT c t)))

omit [FloatOps F] in
theorem reached_out (c : Dev nD) : sorted (F := F) (fun g => At g 0) c ⊢ iprop(reached ER (barC c) 0 ∗ sorted (fun g => At g 0) c) := by
  unfold sorted At
  iintro ⟨⟨Hb, #Hr⟩, H⟩
  isplitr; · iexact Hr
  isplitl [Hb]
  · isplitl [Hb]; · iexact Hb
    iexact Hr
  iexact H

theorem regroup :
    (bigSep Finset.univ fun c : Dev nD => iprop((bigSep Finset.univ fun k : Fin 39 => iprop(∃ κ : ℕ, cellInv ER (Rd m) κ (kcell (c, k))))
          ∗ (bigSep Finset.univ fun k : Fin 39 => At (kcell (c, k)) 0) ∗ bigSep Finset.univ fun t : Fin 8 => toks c t) : sProp 𝕄)
      ⊢ bigSep Finset.univ (G' m) := by
  have hA : (bigSep Finset.univ fun c : Dev nD => bigSep Finset.univ fun k : Fin 39 => At (F := F) (kcell (c, k)) 0)
      ⊢ iprop((bigSep Finset.univ fun c : Dev nD => reached ER (barC c) 0) ∗ bigSep Finset.univ fun c : Dev nD => sorted (fun g => At g 0) c) := by
    rw [← bigSep_sep']
    exact bigSep_mono fun c _ => (Entails.of_eq (cells_eq (fun g => At g 0) c)).trans (reached_out c)
  have hJ : iprop((bigSep Finset.univ fun c : Dev nD => sorted (F := F) (fun g => At g 0) c)
      ∗ bigSep Finset.univ fun c : Dev nD => iprop((bigSep Finset.univ fun t : Fin 8 => ownT c t) ∗ (bigSep Finset.univ fun t : Fin 8 => farT t c)
        ∗ bigSep Finset.univ fun q : Fin 6 => dutyTok ER (wC c q) 0 0)) ⊢ bigSep Finset.univ fun c : Dev nD => alone c := by
    rw [← bigSep_sep']
    exact Entails.of_eq rfl
  rw [bigSep_sep', bigSep_sep', ← bigSep_univ_prod (fun p : Dev nD × Fin 39 => iprop(∃ κ : ℕ, cellInv ER (Rd m) κ (kcell p)))]
  iintro ⟨#HI, Hat, Htok⟩
  ihave Htok := (toks_around (F := F)) $$ Htok
  ihave Hat := hA $$ Hat
  icases Hat with ⟨#HR, Hat⟩
  ihave HJ := hJ $$ [Hat Htok]
  · isplitl [Hat] <;> iassumption
  iapply (bigSep_with_persistent (R := known m) (Φ := fun c : Dev nD => alone c) fun c _ => Entails.of_eq rfl)
  isplitr
  · unfold known
    isplitl; · iexact HI
    iexact HR
  · iexact HJ

/-- The launch's step over all devices. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.KI.PartsA.lean ====
/-
# The body in pieces

The printed body is a sequence of pieces; each takes a device from one state to another.
-/
module

public import proofs.«01_k».proof.Proof.KI.Bounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-- Piece 1. -/
theorem part1 {Q : (Σ' (d0 : Dev nD) (v2 : BitVec 32) (v19 : Sems sig S_), BitVec 32) → sProp (MT nD τ sig ℕ (Elt F) ℕ UU ℕ)}
    (h : Stt m c 2 0 ![12, 12, 11, 11, 11, 11, 11, 11] (B1 m c) ⊢ Q ⟨c, (V2 c), (SemArray.scalar (sig.barrier 0 rfl)), 2#32⟩) :
    Ok (Stt m c 0 0 (fun _ => 11) (B0 m c)) c (k0_part1 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS ) Q := by
  rw [k0_part1_eq_skeleton]; unfold k0_part1_skel
  refine WP_device ?_
  refine wStart0 rfl rfl ?_
  refine wStart1 rfl rfl ?_
  refine wStart2 rfl rfl ?_
  refine wStart3 rfl rfl ?_
  refine barSignal 0 k0_dev1_eq ?_
  refine barSignal 1 k0_dev2_eq ?_
  exact WP_pure ((tidyf (by decide)).trans h)

/-- Piece 2. -/
theorem part2 {Q : (Vec F S64x1024 .f32) → sProp (MT nD τ sig ℕ (Elt F) ℕ UU ℕ)}
    (h : Stt m c 8 0 (fun _ => 12) (B2 m c) ⊢ Q ((XV m 0 c))) :
    Ok (Stt m c 2 0 ![12, 12, 11, 11, 11, 11, 11, 11] (B1 m c)) c (k0_part2 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (SemArray.scalar (sig.barrier 0 rfl)) (2#32)) Q := by
  rw [k0_part2_eq_skeleton]; unfold k0_part2_skel
  refine barSignal 2 k0_dev3_eq ?_
  refine barSignal 3 k0_dev4_eq ?_
  refine barSignal 4 k0_dev5_eq ?_
  refine barSignal 5 k0_dev6_eq ?_
  refine barSignal 6 k0_dev7_eq ?_
  refine barSignal 7 k0_dev8_eq ?_
  refine ld (foc_x m) rfl ?_
  refine ldD (foc_xl m) .rfl (fun _ => ?_)
  refine st (XV m 0 c) (foc_xl m) rfl (by rfl) ?_
  refine wWait0 rfl rfl ?_
  refine ld (foc_xl m) rfl ?_
  exact WP_pure ((tidyf (by decide)).trans h)

/-- Piece 3. -/
theorem part3 {Q : (PUnit) → sProp (MT nD τ sig ℕ (Elt F) ℕ UU ℕ)}
    (h : Stt m c 8 0 ![13, 13, 13, 12, 12, 12, 12, 12] (B2 m c) ⊢ Q ⟨⟩) :
    Ok (Stt m c 8 0 (fun _ => 12) (B2 m c)) c (k0_part3 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (((XV m 0 c)))) Q := by
  rw [k0_part3_eq_skeleton]; unfold k0_part3_skel
  refine ldC 0 0 (foc_v0 m) rfl ?_
  refine ldPb 0 (fun _ => ?_)
  refine stPb 0 13 (by rfl) ?_
  refine ld (foc_xl m) rfl ?_
  refine ldC 0 1 (foc_v0 m) rfl ?_
  refine ldPb 1 (fun _ => ?_)
  refine stPb 1 13 (by rfl) ?_
  refine ld (foc_xl m) rfl ?_
  refine ldC 0 2 (foc_v0 m) rfl ?_
  refine ldPb 2 (fun _ => ?_)
  refine stPb 2 13 (by rfl) ?_
  exact WP_pure ((tidyf (by decide)).trans h)

/-- Piece 4. -/
theorem part4 {Q : (FVec F S1x64x256 .bf16) → sProp (MT nD τ sig ℕ (Elt F) ℕ UU ℕ)}
    (h : Stt m c 8 0 ![13, 13, 13, 13, 13, 12, 12, 12] (B2 m c) ⊢ Q (k0_pay7 (XV m 0 c) (cin (w1i m c 0) 5))) :
    Ok (Stt m c 8 0 ![13, 13, 13, 12, 12, 12, 12, 12] (B2 m c)) c (k0_part4 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS ) Q := by
  rw [k0_part4_eq_skeleton]; unfold k0_part4_skel
  refine ld (foc_xl m) rfl ?_
  refine ldC 0 3 (foc_v0 m) rfl ?_
  refine ldPb 3 (fun _ => ?_)
  refine stPb 3 13 (by rfl) ?_
  refine ld (foc_xl m) rfl ?_
  refine ldC 0 4 (foc_v0 m) rfl ?_
  refine ldPb 4 (fun _ => ?_)
  refine stPb 4 13 (by rfl) ?_
  refine ld (foc_xl m) rfl ?_
  refine ldC 0 5 (foc_v0 m) rfl ?_
  refine ldPb 5 (fun _ => ?_)
  exact WP_pure ((tidyf (by decide)).trans h)

/-- Piece 5. -/
theorem part5 {Q : (BitVec 32) → sProp (MT nD τ sig ℕ (Elt F) ℕ UU ℕ)}
    (h : Stt m c 9 0 ![2, 1, 1, 1, 1, 1, 1, 1] (B3 m c) ⊢ Q ((Scalar.extui (Scalar.cmpi .ne (V2 c) 1#32 : BitVec 1) : BitVec 32))) :
    Ok (Stt m c 8 0 ![13, 13, 13, 13, 13, 12, 12, 12] (B2 m c)) c (k0_part5 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (SemArray.scalar (sig.barrier 0 rfl)) ((k0_pay7 (XV m 0 c) (cin (w1i m c 0) 5)))) Q := by
  rw [k0_part5_eq_skeleton]; unfold k0_part5_skel
  refine stPb 5 13 (by rfl) ?_
  refine ld (foc_xl m) rfl ?_
  refine ldC 0 6 (foc_v0 m) rfl ?_
  refine ldPb 6 (fun _ => ?_)
  refine stPb 6 13 (by rfl) ?_
  refine ld (foc_xl m) rfl ?_
  refine ldC 0 7 (foc_v0 m) rfl ?_
  refine ldPb 7 (fun _ => ?_)
  refine stPb 7 13 (by rfl) ?_
  refine barWait rfl ?_
  refine rsStart (hsS := sem_s0 0) 0 k0_dev9_eq (k0_off2_eq _) ?_
  exact WP_pure ((tidyf (by decide)).trans h)

/-- Piece 6. -/
theorem part6 {Q : (BitVec 1) → sProp (MT nD τ sig ℕ (Elt F) ℕ UU ℕ)}
    (h : Stt m c 16 0 (fun _ => 2) (B3 m c) ⊢ Q ((Scalar.cmpi .ne (V2 c) 0#32 : BitVec 1))) :
    Ok (Stt m c 9 0 ![2, 1, 1, 1, 1, 1, 1, 1] (B3 m c)) c (k0_part6 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.extui (Scalar.cmpi .ne (V2 c) 1#32 : BitVec 1) : BitVec 32)))) Q := by
  rw [k0_part6_eq_skeleton]; unfold k0_part6_skel
  refine rsStart (hsS := sem_s0 1) 1 k0_dev10_eq (k0_off4_eq _) ?_
  refine rsStart (hsS := sem_s0 2) 2 k0_dev11_eq (k0_off6_eq _) ?_
  refine rsStart (hsS := sem_s0 3) 3 k0_dev12_eq (k0_off8_eq _) ?_
  refine rsStart (hsS := sem_s0 4) 4 k0_dev13_eq (k0_off10_eq _) ?_
  refine rsStart (hsS := sem_s0 5) 5 k0_dev14_eq (k0_off12_eq _) ?_
  refine rsStart (hsS := sem_s0 6) 6 k0_dev15_eq (k0_off14_eq _) ?_
  refine rsStart (hsS := sem_s0 7) 7 k0_dev16_eq (k0_off16_eq _) ?_
  exact WP_pure ((tidyf (by decide)).trans h)

/-- Piece 7. -/
theorem part7 {Q : (PUnit) → sProp (MT nD τ sig ℕ (Elt F) ℕ UU ℕ)}
    (h : Stt m c 16 0 (fun _ => 4) (B3 m c) ⊢ Q ⟨⟩) :
    Ok (Stt m c 16 0 (fun _ => 2) (B3 m c)) c (k0_part7 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.cmpi .ne (V2 c) 0#32 : BitVec 1)))) Q := by
  rw [k0_part7_eq_skeleton]; unfold k0_part7_skel
  refine rsWait (hsm := fun _ => sem_r 0) 0 ?_
  refine rsWait (hsm := fun _ => sem_r 1) 1 ?_
  refine rsWait (hsm := fun _ => sem_r 2) 2 ?_
  refine rsWait (hsm := fun _ => sem_r 3) 3 ?_
  refine rsWait (hsm := fun _ => sem_r 4) 4 ?_
  refine rsWait (hsm := fun _ => sem_r 5) 5 ?_
  refine rsWait (hsm := fun _ => sem_r 6) 6 ?_
  refine rsWait (hsm := fun _ => sem_r 7) 7 ?_
  refine ownPb (k0_off17_eq _) ?_
  refine ownRs (k0_off17_eq _) (fun _ => ?_)
  refine ownStRs (k0_off17_eq _) rfl ?_
  exact WP_pure ((tidyf (by decide)).trans h)

/-- Piece 8. -/
theorem part8 {Q : (Σ' (v213 : FVec F S64x256 .bf16), Vec F S64x256 .bf16) → sProp (MT nD τ sig ℕ (Elt F) ℕ UU ℕ)}
    (h : ∀ v214, Stt m c 16 0 (fun _ => 4) (B4 m c) ⊢ Q ⟨(k0_pay11 (rsv m 0 c 0) (rsv m 0 c 1) (rsv m 0 c 2) (rsv m 0 c 3) (rsv m 0 c 4) (rsv m 0 c 5) (rsv m 0 c 6) (rsv m 0 c 7)), (v214)⟩) :
    Ok (Stt m c 16 0 (fun _ => 4) (B3 m c)) c (k0_part8 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS ) Q := by
  rw [k0_part8_eq_skeleton]; unfold k0_part8_skel
  refine ldRs 0 ?_
  refine ldRs 1 ?_
  refine ldRs 2 ?_
  refine ldRs 3 ?_
  refine ldRs 4 ?_
  refine ldRs 5 ?_
  refine ldRs 6 ?_
  refine ldRs 7 ?_
  refine ldD (foc_ch m) .rfl (fun v214 => ?_)
  exact WP_pure ((tidyf (by decide)).trans (h v214))

/-- Piece 9. -/
theorem part9 {Q : (BitVec 32) → sProp (MT nD τ sig ℕ (Elt F) ℕ UU ℕ)} (v214 : Vec F S64x256 .bf16)
    (h : Stt m c 23 0 ![6, 6, 6, 6, 6, 6, 6, 5] (B5 m c) ⊢ Q 7#32) :
    Ok (Stt m c 16 0 (fun _ => 4) (B4 m c)) c (k0_part9 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay11 (rsv m 0 c 0) (rsv m 0 c 1) (rsv m 0 c 2) (rsv m 0 c 3) (rsv m 0 c 4) (rsv m 0 c 5) (rsv m 0 c 6) (rsv m 0 c 7))) ((v214))) Q := by
  rw [k0_part9_eq_skeleton]; unfold k0_part9_skel
  refine st (agc m 0 c) (foc_ch m) rfl (by rfl) ?_
  refine Ok_pre (lend (by decide) rfl) ?_
  refine agStart (hsS := sem_s1 0) 0 k0_dev17_eq (k0_off19_eq _) ?_
  refine agStart (hsS := sem_s1 1) 1 k0_dev18_eq (k0_off21_eq _) ?_
  refine agStart (hsS := sem_s1 2) 2 k0_dev19_eq (k0_off23_eq _) ?_
  refine agStart (hsS := sem_s1 3) 3 k0_dev20_eq (k0_off25_eq _) ?_
  refine agStart (hsS := sem_s1 4) 4 k0_dev21_eq (k0_off27_eq _) ?_
  refine agStart (hsS := sem_s1 5) 5 k0_dev22_eq (k0_off29_eq _) ?_
  refine agStart (hsS := sem_s1 6) 6 k0_dev23_eq (k0_off31_eq _) ?_
  exact WP_pure ((tidyf (by decide)).trans h)

/-- Piece 10. -/
theorem part10 {Q : (PUnit) → sProp (MT nD τ sig ℕ (Elt F) ℕ UU ℕ)}
    (h : Stt m c 24 0 ![7, 7, 7, 7, 7, 6, 6, 6] (B5 m c) ⊢ Q ⟨⟩) :
    Ok (Stt m c 23 0 ![6, 6, 6, 6, 6, 6, 6, 5] (B5 m c)) c (k0_part10 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (7#32)) Q := by
  rw [k0_part10_eq_skeleton]; unfold k0_part10_skel
  refine agStart (hsS := sem_s1 7) 7 k0_dev24_eq (k0_off33_eq _) ?_
  refine rsSent (hsm := fun _ => sem_s0 0) 0 ?_
  refine rsSent (hsm := fun _ => sem_s0 1) 1 ?_
  refine rsSent (hsm := fun _ => sem_s0 2) 2 ?_
  refine rsSent (hsm := fun _ => sem_s0 3) 3 ?_
  refine rsSent (hsm := fun _ => sem_s0 4) 4 ?_
  exact WP_pure ((tidyf (by decide)).trans h)

/-- Piece 11. -/
theorem part11 {Q : (FVec F S1024x2048 .bf16) → sProp (MT nD τ sig ℕ (Elt F) ℕ UU ℕ)}
    (h : Stt m c 24 0 (fun _ => 8) (B6 m c) ⊢ Q (k0_pay14 (w1i m c 1))) :
    Ok (Stt m c 24 0 ![7, 7, 7, 7, 7, 6, 6, 6] (B5 m c)) c (k0_part11 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c)) Q := by
  rw [k0_part11_eq_skeleton]; unfold k0_part11_skel
  refine rsSent (hsm := fun _ => sem_s0 5) 5 ?_
  refine rsSent (hsm := fun _ => sem_s0 6) 6 ?_
  refine rsSent (hsm := fun _ => sem_s0 7) 7 ?_
  refine ownCh ?_
  refine ownAg (k0_off17_eq _) (fun _ => ?_)
  refine ownStAg (k0_off17_eq _) rfl ?_
  refine wWait2 rfl rfl ?_
  refine wWait3 rfl rfl ?_
  refine ld (foc_v1 m) rfl ?_
  refine ldD (foc_ib1 m) .rfl (fun _ => ?_)
  exact WP_pure ((tidyf (by decide)).trans h)

end Cert.KernelIdealProof

end
-- ==== Proof.KI.PartsB.lean ====
/-
# The body in pieces

The printed body is a sequence of pieces; each takes a device from one state to another.
-/
module

public import proofs.«01_k».proof.Proof.KI.Bounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-- Piece 12. -/
theorem part12 {Q : (PUnit) → sProp (MT nD τ sig ℕ (Elt F) ℕ UU ℕ)}
    (h : Stt m c 24 0 ![9, 9, 8, 8, 8, 8, 8, 8] (B7 m c) ⊢ Q ⟨⟩) :
    Ok (Stt m c 24 0 (fun _ => 8) (B6 m c)) c (k0_part12 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) ((k0_pay14 (w1i m c 1)))) Q := by
  rw [k0_part12_eq_skeleton]; unfold k0_part12_skel
  refine st (wib m c 1) (foc_ib1 m) rfl (by rfl) ?_
  refine ld (foc_o1 m) rfl ?_
  refine ldD (foc_ob1 m) .rfl (fun _ => ?_)
  refine st (wob m c 1) (foc_ob1 m) rfl (by rfl) ?_
  refine wWait1 rfl rfl ?_
  refine agWait (hsm := fun _ => sem_a 0) 0 ?_
  refine ldAg 0 ?_
  refine ldR 0 0 (foc_o0 m) rfl ?_
  refine ldD (foc_xl m) (slotV_any _ _ _ _) (fun _ => ?_)
  refine st (acc m 0 c 0) (foc_xl m) rfl (by rfl) ?_
  refine agWait (hsm := fun _ => sem_a 1) 1 ?_
  exact WP_pure ((tidyf (by decide)).trans h)

/-- Piece 13. -/
theorem part13 {Q : (BitVec 32) → sProp (MT nD τ sig ℕ (Elt F) ℕ UU ℕ)}
    (h : Stt m c 24 0 ![9, 9, 9, 8, 8, 8, 8, 8] (B8 m c) ⊢ Q ((Scalar.extui (Scalar.cmpi .ne (V2 c) 3#32 : BitVec 1) : BitVec 32))) :
    Ok (Stt m c 24 0 ![9, 9, 8, 8, 8, 8, 8, 8] (B7 m c)) c (k0_part13 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c)) Q := by
  rw [k0_part13_eq_skeleton]; unfold k0_part13_skel
  refine ldAg 1 ?_
  refine ldR 0 1 (foc_o0 m) rfl ?_
  refine ld (foc_xl m) rfl ?_
  refine ldD (foc_xl m) (slotV_any _ _ _ _) (fun _ => ?_)
  refine st (acc m 0 c 1) (foc_xl m) rfl (by rfl) ?_
  refine agWait (hsm := fun _ => sem_a 2) 2 ?_
  refine ldAg 2 ?_
  refine ldR 0 2 (foc_o0 m) rfl ?_
  refine ld (foc_xl m) rfl ?_
  refine ldD (foc_xl m) (slotV_any _ _ _ _) (fun _ => ?_)
  refine st (acc m 0 c 2) (foc_xl m) rfl (by rfl) ?_
  exact WP_pure ((tidyf (by decide)).trans h)

/-- Piece 14. -/
theorem part14 {Q : (FVec F S64x1024 .f32) → sProp (MT nD τ sig ℕ (Elt F) ℕ UU ℕ)}
    (h : Stt m c 24 0 ![9, 9, 9, 9, 9, 8, 8, 8] (B9 m c) ⊢ Q (k0_pay21 (agv m 0 4) (rout (w1o m c 0) 4) (acc m 0 c 3))) :
    Ok (Stt m c 24 0 ![9, 9, 9, 8, 8, 8, 8, 8] (B8 m c)) c (k0_part14 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) (((Scalar.extui (Scalar.cmpi .ne (V2 c) 3#32 : BitVec 1) : BitVec 32)))) Q := by
  rw [k0_part14_eq_skeleton]; unfold k0_part14_skel
  refine agWait (hsm := fun _ => sem_a 3) 3 ?_
  refine ldAg 3 ?_
  refine ldR 0 3 (foc_o0 m) rfl ?_
  refine ld (foc_xl m) rfl ?_
  refine ldD (foc_xl m) (slotV_any _ _ _ _) (fun _ => ?_)
  refine st (acc m 0 c 3) (foc_xl m) rfl (by rfl) ?_
  refine agWait (hsm := fun _ => sem_a 4) 4 ?_
  refine ldAg 4 ?_
  refine ldR 0 4 (foc_o0 m) rfl ?_
  refine ld (foc_xl m) rfl ?_
  refine ldD (foc_xl m) (slotV_any _ _ _ _) (fun _ => ?_)
  exact WP_pure ((tidyf (by decide)).trans h)

/-- Piece 15. -/
theorem part15 {Q : (FVec F S64x1024 .f32) → sProp (MT nD τ sig ℕ (Elt F) ℕ UU ℕ)}
    (h : Stt m c 24 0 ![9, 9, 9, 9, 9, 9, 9, 8] (B10 m c) ⊢ Q (k0_pay23 (agv m 0 6) (rout (w1o m c 0) 6) (acc m 0 c 5))) :
    Ok (Stt m c 24 0 ![9, 9, 9, 9, 9, 8, 8, 8] (B9 m c)) c (k0_part15 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) ((k0_pay21 (agv m 0 4) (rout (w1o m c 0) 4) (acc m 0 c 3)))) Q := by
  rw [k0_part15_eq_skeleton]; unfold k0_part15_skel
  refine st (acc m 0 c 4) (foc_xl m) rfl (by rfl) ?_
  refine agWait (hsm := fun _ => sem_a 5) 5 ?_
  refine ldAg 5 ?_
  refine ldR 0 5 (foc_o0 m) rfl ?_
  refine ld (foc_xl m) rfl ?_
  refine ldD (foc_xl m) (slotV_any _ _ _ _) (fun _ => ?_)
  refine st (acc m 0 c 5) (foc_xl m) rfl (by rfl) ?_
  refine agWait (hsm := fun _ => sem_a 6) 6 ?_
  refine ldAg 6 ?_
  refine ldR 0 6 (foc_o0 m) rfl ?_
  refine ld (foc_xl m) rfl ?_
  exact WP_pure ((tidyf (by decide)).trans h)

/-- Piece 16. -/
theorem part16 {Q : (PUnit) → sProp (MT nD τ sig ℕ (Elt F) ℕ UU ℕ)}
    (h : Stt m c 24 0 ![10, 10, 9, 9, 9, 9, 9, 9] (B11 m c) ⊢ Q ⟨⟩) :
    Ok (Stt m c 24 0 ![9, 9, 9, 9, 9, 9, 9, 8] (B10 m c)) c (k0_part16 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay23 (agv m 0 6) (rout (w1o m c 0) 6) (acc m 0 c 5)))) Q := by
  rw [k0_part16_eq_skeleton]; unfold k0_part16_skel
  refine ldD (foc_xl m) (slotV_any _ _ _ _) (fun _ => ?_)
  refine st (acc m 0 c 6) (foc_xl m) rfl (by rfl) ?_
  refine agWait (hsm := fun _ => sem_a 7) 7 ?_
  refine ldAg 7 ?_
  refine ldR 0 7 (foc_o0 m) rfl ?_
  refine ld (foc_xl m) rfl ?_
  refine ldD (foc_xl m) (slotV_any _ _ _ _) (fun _ => ?_)
  refine st (XV m 1 c) (foc_xl m) rfl (by rfl) ?_
  refine agSent (hsm := fun _ => sem_s1 0) 0 ?_
  refine agSent (hsm := fun _ => sem_s1 1) 1 ?_
  exact WP_pure ((tidyf (by decide)).trans h)

/-- Piece 17. -/
theorem part17 {Q : (PUnit) → sProp (MT nD τ sig ℕ (Elt F) ℕ UU ℕ)}
    (h : Stt m c 24 1 (fun _ => 0) (B12 m c) ⊢ Q ⟨⟩) :
    Ok (Stt m c 24 0 ![10, 10, 9, 9, 9, 9, 9, 9] (B11 m c)) c (k0_part17 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c)) Q := by
  rw [k0_part17_eq_skeleton]; unfold k0_part17_skel
  refine agSent (hsm := fun _ => sem_s1 2) 2 ?_
  refine agSent (hsm := fun _ => sem_s1 3) 3 ?_
  refine agSent (hsm := fun _ => sem_s1 4) 4 ?_
  refine agSent (hsm := fun _ => sem_s1 5) 5 ?_
  refine agSent (hsm := fun _ => sem_s1 6) 6 ?_
  refine agSent (hsm := fun _ => sem_s1 7) 7 ?_
  refine Ok_pre (nextLayer (by decide) (by decide) rfl) ?_
  refine Ok_pre (weak (foc_v0 m) (slotV_any _ _ _ _)) ?_
  refine wStart4 rfl rfl ?_
  exact WP_pure ((tidyf (by decide)).trans h)

/-- Piece 18. -/
theorem part18 {Q : (FVec F S64x1024 .bf16) → sProp (MT nD τ sig ℕ (Elt F) ℕ UU ℕ)}
    (h : Stt m c 26 1 ![2, 2, 0, 0, 0, 0, 0, 0] (B13 m c) ⊢ Q (k0_pay26 (XV m 1 c))) :
    Ok (Stt m c 24 1 (fun _ => 0) (B12 m c)) c (k0_part18 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c)) Q := by
  rw [k0_part18_eq_skeleton]; unfold k0_part18_skel
  refine Ok_pre (weak (foc_o0 m) (slotV_any _ _ _ _)) ?_
  refine wStart5 rfl rfl ?_
  refine ld (foc_xl m) rfl ?_
  refine ldC 1 0 (foc_ib1 m) rfl ?_
  refine ldPb 0 (fun _ => ?_)
  refine stPb 0 1 (by rfl) ?_
  refine rsStart (hsS := sem_s0 0) 0 k0_dev25_eq (k0_off51_eq _) ?_
  refine ldC 1 1 (foc_ib1 m) rfl ?_
  refine ldPb 1 (fun _ => ?_)
  refine stPb 1 1 (by rfl) ?_
  refine rsStart (hsS := sem_s0 1) 1 k0_dev26_eq (k0_off53_eq _) ?_
  exact WP_pure ((tidyf (by decide)).trans h)

/-- Piece 19. -/
theorem part19 {Q : (PUnit) → sProp (MT nD τ sig ℕ (Elt F) ℕ UU ℕ)}
    (h : Stt m c 28 1 ![2, 2, 2, 2, 0, 0, 0, 0] (B13 m c) ⊢ Q ⟨⟩) :
    Ok (Stt m c 26 1 ![2, 2, 0, 0, 0, 0, 0, 0] (B13 m c)) c (k0_part19 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay26 (XV m 1 c)))) Q := by
  rw [k0_part19_eq_skeleton]; unfold k0_part19_skel
  refine ldC 1 2 (foc_ib1 m) rfl ?_
  refine ldPb 2 (fun _ => ?_)
  refine stPb 2 1 (by rfl) ?_
  refine rsStart (hsS := sem_s0 2) 2 k0_dev27_eq (k0_off55_eq _) ?_
  refine ldC 1 3 (foc_ib1 m) rfl ?_
  refine ldPb 3 (fun _ => ?_)
  refine stPb 3 1 (by rfl) ?_
  refine rsStart (hsS := sem_s0 3) 3 k0_dev28_eq (k0_off57_eq _) ?_
  exact WP_pure ((tidyf (by decide)).trans h)

/-- Piece 20. -/
theorem part20 {Q : (FVec F S64x256 .bf16) → sProp (MT nD τ sig ℕ (Elt F) ℕ UU ℕ)}
    (h : Stt m c 30 1 ![2, 2, 2, 2, 2, 2, 0, 0] (B13 m c) ⊢ Q (k0_pay33 (k0_pay26 (XV m 1 c)) (cin (wib m c 1) 6))) :
    Ok (Stt m c 28 1 ![2, 2, 2, 2, 0, 0, 0, 0] (B13 m c)) c (k0_part20 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay26 (XV m 1 c)))) Q := by
  rw [k0_part20_eq_skeleton]; unfold k0_part20_skel
  refine ldC 1 4 (foc_ib1 m) rfl ?_
  refine ldPb 4 (fun _ => ?_)
  refine stPb 4 1 (by rfl) ?_
  refine rsStart (hsS := sem_s0 4) 4 k0_dev29_eq (k0_off59_eq _) ?_
  refine ldC 1 5 (foc_ib1 m) rfl ?_
  refine ldPb 5 (fun _ => ?_)
  refine stPb 5 1 (by rfl) ?_
  refine rsStart (hsS := sem_s0 5) 5 k0_dev30_eq (k0_off61_eq _) ?_
  refine ldC 1 6 (foc_ib1 m) rfl ?_
  exact WP_pure ((tidyf (by decide)).trans h)

/-- Piece 21. -/
theorem part21 {Q : (BitVec 32) → sProp (MT nD τ sig ℕ (Elt F) ℕ UU ℕ)}
    (h : Stt m c 32 1 ![3, 3, 3, 2, 2, 2, 2, 2] (B13 m c) ⊢ Q 3#32) :
    Ok (Stt m c 30 1 ![2, 2, 2, 2, 2, 2, 0, 0] (B13 m c)) c (k0_part21 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay26 (XV m 1 c))) ((k0_pay33 (k0_pay26 (XV m 1 c)) (cin (wib m c 1) 6)))) Q := by
  rw [k0_part21_eq_skeleton]; unfold k0_part21_skel
  refine ldPb 6 (fun _ => ?_)
  refine stPb 6 1 (by rfl) ?_
  refine rsStart (hsS := sem_s0 6) 6 k0_dev31_eq (k0_off63_eq _) ?_
  refine ldC 1 7 (foc_ib1 m) rfl ?_
  refine ldPb 7 (fun _ => ?_)
  refine stPb 7 1 (by rfl) ?_
  refine rsStart (hsS := sem_s0 7) 7 k0_dev32_eq (k0_off65_eq _) ?_
  refine rsWait (hsm := fun _ => sem_r 0) 0 ?_
  refine rsWait (hsm := fun _ => sem_r 1) 1 ?_
  refine rsWait (hsm := fun _ => sem_r 2) 2 ?_
  exact WP_pure ((tidyf (by decide)).trans h)

/-- Piece 22. -/
theorem part22 {Q : (Σ' (v571 : FVec F S64x256 .f32), FVec F S64x256 .f32) → sProp (MT nD τ sig ℕ (Elt F) ℕ UU ℕ)}
    (h : Stt m c 32 1 (fun _ => 4) (B13 m c) ⊢ Q ⟨(k0_pay37 (rsv m 1 c 0) (rsv m 1 c 1)), (k0_pay38 (rsv m 1 c 2))⟩) :
    Ok (Stt m c 32 1 ![3, 3, 3, 2, 2, 2, 2, 2] (B13 m c)) c (k0_part22 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (3#32)) Q := by
  rw [k0_part22_eq_skeleton]; unfold k0_part22_skel
  refine rsWait (hsm := fun _ => sem_r 3) 3 ?_
  refine rsWait (hsm := fun _ => sem_r 4) 4 ?_
  refine rsWait (hsm := fun _ => sem_r 5) 5 ?_
  refine rsWait (hsm := fun _ => sem_r 6) 6 ?_
  refine rsWait (hsm := fun _ => sem_r 7) 7 ?_
  refine ownPb (k0_off17_eq _) ?_
  refine ownRs (k0_off17_eq _) (fun _ => ?_)
  refine ownStRs (k0_off17_eq _) rfl ?_
  refine ldRs 0 ?_
  refine ldRs 1 ?_
  refine ldRs 2 ?_
  exact WP_pure ((tidyf (by decide)).trans h)

end Cert.KernelIdealProof

end
-- ==== Proof.KI.PartsC.lean ====
/-
# The body in pieces

The printed body is a sequence of pieces; each takes a device from one state to another.
-/
module

public import proofs.«01_k».proof.Proof.KI.Bounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-- Piece 23. -/
theorem part23 {Q : (Σ' (v606 : BitVec 32), BitVec 32) → sProp (MT nD τ sig ℕ (Elt F) ℕ UU ℕ)}
    (h : Stt m c 33 1 ![6, 5, 5, 5, 5, 5, 5, 5] (B14 m c) ⊢ Q ⟨((Scalar.extui (Scalar.cmpi .ne (V2 c) 1#32 : BitVec 1) : BitVec 32)), 0#32⟩) :
    Ok (Stt m c 32 1 (fun _ => 4) (B13 m c)) c (k0_part23 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay37 (rsv m 1 c 0) (rsv m 1 c 1))) ((k0_pay38 (rsv m 1 c 2)))) Q := by
  rw [k0_part23_eq_skeleton]; unfold k0_part23_skel
  refine ldRs 3 ?_
  refine ldRs 4 ?_
  refine ldRs 5 ?_
  refine ldRs 6 ?_
  refine ldRs 7 ?_
  refine ldD (foc_ch m) .rfl (fun _ => ?_)
  refine st (agc m 1 c) (foc_ch m) rfl (by rfl) ?_
  refine Ok_pre (lend (by decide) rfl) ?_
  refine agStart (hsS := sem_s1 0) 0 k0_dev33_eq (k0_off67_eq _) ?_
  exact WP_pure ((tidyf (by decide)).trans h)

/-- Piece 24. -/
theorem part24 {Q : (BitVec 32) → sProp (MT nD τ sig ℕ (Elt F) ℕ UU ℕ)}
    (h : Stt m c 40 1 ![7, 6, 6, 6, 6, 6, 6, 6] (B14 m c) ⊢ Q 1#32) :
    Ok (Stt m c 33 1 ![6, 5, 5, 5, 5, 5, 5, 5] (B14 m c)) c (k0_part24 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.extui (Scalar.cmpi .ne (V2 c) 1#32 : BitVec 1) : BitVec 32))) (0#32)) Q := by
  rw [k0_part24_eq_skeleton]; unfold k0_part24_skel
  refine agStart (hsS := sem_s1 1) 1 k0_dev34_eq (k0_off69_eq _) ?_
  refine agStart (hsS := sem_s1 2) 2 k0_dev35_eq (k0_off71_eq _) ?_
  refine agStart (hsS := sem_s1 3) 3 k0_dev36_eq (k0_off73_eq _) ?_
  refine agStart (hsS := sem_s1 4) 4 k0_dev37_eq (k0_off75_eq _) ?_
  refine agStart (hsS := sem_s1 5) 5 k0_dev38_eq (k0_off77_eq _) ?_
  refine agStart (hsS := sem_s1 6) 6 k0_dev39_eq (k0_off79_eq _) ?_
  refine agStart (hsS := sem_s1 7) 7 k0_dev40_eq (k0_off81_eq _) ?_
  refine rsSent (hsm := fun _ => sem_s0 0) 0 ?_
  exact WP_pure ((tidyf (by decide)).trans h)

/-- Piece 25. -/
theorem part25 {Q : (Σ' (v648 : BitVec 32), BitVec 32) → sProp (MT nD τ sig ℕ (Elt F) ℕ UU ℕ)}
    (h : Stt m c 40 1 ![7, 7, 7, 7, 7, 7, 7, 6] (B14 m c) ⊢ Q ⟨((Scalar.extui (Scalar.cmpi .ne (V2 c) 7#32 : BitVec 1) : BitVec 32)), 0#32⟩) :
    Ok (Stt m c 40 1 ![7, 6, 6, 6, 6, 6, 6, 6] (B14 m c)) c (k0_part25 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (1#32)) Q := by
  rw [k0_part25_eq_skeleton]; unfold k0_part25_skel
  refine rsSent (hsm := fun _ => sem_s0 1) 1 ?_
  refine rsSent (hsm := fun _ => sem_s0 2) 2 ?_
  refine rsSent (hsm := fun _ => sem_s0 3) 3 ?_
  refine rsSent (hsm := fun _ => sem_s0 4) 4 ?_
  refine rsSent (hsm := fun _ => sem_s0 5) 5 ?_
  refine rsSent (hsm := fun _ => sem_s0 6) 6 ?_
  exact WP_pure ((tidyf (by decide)).trans h)

/-- Piece 26. -/
theorem part26 {Q : (BitVec 1) → sProp (MT nD τ sig ℕ (Elt F) ℕ UU ℕ)}
    (h : Stt m c 40 1 (fun _ => 8) (B15 m c) ⊢ Q ((Scalar.cmpi .ne (V2 c) 0#32 : BitVec 1))) :
    Ok (Stt m c 40 1 ![7, 7, 7, 7, 7, 7, 7, 6] (B14 m c)) c (k0_part26 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.extui (Scalar.cmpi .ne (V2 c) 7#32 : BitVec 1) : BitVec 32))) (0#32)) Q := by
  rw [k0_part26_eq_skeleton]; unfold k0_part26_skel
  refine rsSent (hsm := fun _ => sem_s0 7) 7 ?_
  refine ownCh ?_
  refine ownAg (k0_off17_eq _) (fun _ => ?_)
  refine ownStAg (k0_off17_eq _) rfl ?_
  refine wWait4 rfl rfl ?_
  refine wWait5 rfl rfl ?_
  refine ld (foc_v0 m) rfl ?_
  refine ldD (foc_ib0 m) .rfl (fun _ => ?_)
  refine st (wib m c 2) (foc_ib0 m) rfl (by rfl) ?_
  refine ld (foc_o0 m) rfl ?_
  refine ldD (foc_ob0 m) .rfl (fun _ => ?_)
  refine st (wob m c 2) (foc_ob0 m) rfl (by rfl) ?_
  exact WP_pure ((tidyf (by decide)).trans h)

/-- Piece 27. -/
theorem part27 {Q : (Σ' (v702 : BitVec 32), BitVec 32) → sProp (MT nD τ sig ℕ (Elt F) ℕ UU ℕ)}
    (h : Stt m c 40 1 ![9, 9, 8, 8, 8, 8, 8, 8] (B16 m c) ⊢ Q ⟨((Scalar.extui (Scalar.cmpi .ne (V2 c) 2#32 : BitVec 1) : BitVec 32)), 0#32⟩) :
    Ok (Stt m c 40 1 (fun _ => 8) (B15 m c)) c (k0_part27 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) (((Scalar.cmpi .ne (V2 c) 0#32 : BitVec 1)))) Q := by
  rw [k0_part27_eq_skeleton]; unfold k0_part27_skel
  refine agWait (hsm := fun _ => sem_a 0) 0 ?_
  refine ldAg 0 ?_
  refine ldR 1 0 (foc_ob1 m) rfl ?_
  refine ldD (foc_xl m) (slotV_any _ _ _ _) (fun _ => ?_)
  refine st (acc m 1 c 0) (foc_xl m) rfl (by rfl) ?_
  refine agWait (hsm := fun _ => sem_a 1) 1 ?_
  refine ldAg 1 ?_
  refine ldR 1 1 (foc_ob1 m) rfl ?_
  refine ld (foc_xl m) rfl ?_
  refine ldD (foc_xl m) (slotV_any _ _ _ _) (fun _ => ?_)
  refine st (acc m 1 c 1) (foc_xl m) rfl (by rfl) ?_
  exact WP_pure ((tidyf (by decide)).trans h)

/-- Piece 28. -/
theorem part28 {Q : (BitVec 1) → sProp (MT nD τ sig ℕ (Elt F) ℕ UU ℕ)}
    (h : Stt m c 40 1 ![9, 9, 9, 9, 8, 8, 8, 8] (B17 m c) ⊢ Q ((Scalar.cmpi .ne (V2 c) 4#32 : BitVec 1))) :
    Ok (Stt m c 40 1 ![9, 9, 8, 8, 8, 8, 8, 8] (B16 m c)) c (k0_part28 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) (((Scalar.extui (Scalar.cmpi .ne (V2 c) 2#32 : BitVec 1) : BitVec 32))) (0#32)) Q := by
  rw [k0_part28_eq_skeleton]; unfold k0_part28_skel
  refine agWait (hsm := fun _ => sem_a 2) 2 ?_
  refine ldAg 2 ?_
  refine ldR 1 2 (foc_ob1 m) rfl ?_
  refine ld (foc_xl m) rfl ?_
  refine ldD (foc_xl m) (slotV_any _ _ _ _) (fun _ => ?_)
  refine st (acc m 1 c 2) (foc_xl m) rfl (by rfl) ?_
  refine agWait (hsm := fun _ => sem_a 3) 3 ?_
  refine ldAg 3 ?_
  refine ldR 1 3 (foc_ob1 m) rfl ?_
  refine ld (foc_xl m) rfl ?_
  refine ldD (foc_xl m) (slotV_any _ _ _ _) (fun _ => ?_)
  refine st (acc m 1 c 3) (foc_xl m) rfl (by rfl) ?_
  exact WP_pure ((tidyf (by decide)).trans h)

/-- Piece 29. -/
theorem part29 {Q : (PUnit) → sProp (MT nD τ sig ℕ (Elt F) ℕ UU ℕ)}
    (h : Stt m c 40 1 ![9, 9, 9, 9, 9, 9, 8, 8] (B18 m c) ⊢ Q ⟨⟩) :
    Ok (Stt m c 40 1 ![9, 9, 9, 9, 8, 8, 8, 8] (B17 m c)) c (k0_part29 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) (((Scalar.cmpi .ne (V2 c) 4#32 : BitVec 1)))) Q := by
  rw [k0_part29_eq_skeleton]; unfold k0_part29_skel
  refine agWait (hsm := fun _ => sem_a 4) 4 ?_
  refine ldAg 4 ?_
  refine ldR 1 4 (foc_ob1 m) rfl ?_
  refine ld (foc_xl m) rfl ?_
  refine ldD (foc_xl m) (slotV_any _ _ _ _) (fun _ => ?_)
  refine st (acc m 1 c 4) (foc_xl m) rfl (by rfl) ?_
  refine agWait (hsm := fun _ => sem_a 5) 5 ?_
  refine ldAg 5 ?_
  refine ldR 1 5 (foc_ob1 m) rfl ?_
  refine ld (foc_xl m) rfl ?_
  refine ldD (foc_xl m) (slotV_any _ _ _ _) (fun _ => ?_)
  refine st (acc m 1 c 5) (foc_xl m) rfl (by rfl) ?_
  exact WP_pure ((tidyf (by decide)).trans h)

/-- Piece 30. -/
theorem part30 {Q : (FVec F S64x1024 .f32) → sProp (MT nD τ sig ℕ (Elt F) ℕ UU ℕ)}
    (h : Stt m c 40 1 (fun _ => 9) (B19 m c) ⊢ Q (k0_pay50 (agv m 1 7) (rout (wob m c 1) 7) (acc m 1 c 6))) :
    Ok (Stt m c 40 1 ![9, 9, 9, 9, 9, 9, 8, 8] (B18 m c)) c (k0_part30 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c)) Q := by
  rw [k0_part30_eq_skeleton]; unfold k0_part30_skel
  refine agWait (hsm := fun _ => sem_a 6) 6 ?_
  refine ldAg 6 ?_
  refine ldR 1 6 (foc_ob1 m) rfl ?_
  refine ld (foc_xl m) rfl ?_
  refine ldD (foc_xl m) (slotV_any _ _ _ _) (fun _ => ?_)
  refine st (acc m 1 c 6) (foc_xl m) rfl (by rfl) ?_
  refine agWait (hsm := fun _ => sem_a 7) 7 ?_
  refine ldAg 7 ?_
  refine ldR 1 7 (foc_ob1 m) rfl ?_
  refine ld (foc_xl m) rfl ?_
  refine ldD (foc_xl m) (slotV_any _ _ _ _) (fun _ => ?_)
  exact WP_pure ((tidyf (by decide)).trans h)

/-- Piece 31. -/
theorem part31 {Q : (BitVec 1) → sProp (MT nD τ sig ℕ (Elt F) ℕ UU ℕ)}
    (h : Stt m c 40 1 ![10, 10, 10, 10, 10, 10, 10, 9] (B20 m c) ⊢ Q ((Scalar.cmpi .ne (V2 c) 7#32 : BitVec 1))) :
    Ok (Stt m c 40 1 (fun _ => 9) (B19 m c)) c (k0_part31 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay50 (agv m 1 7) (rout (wob m c 1) 7) (acc m 1 c 6)))) Q := by
  rw [k0_part31_eq_skeleton]; unfold k0_part31_skel
  refine st (XV m 2 c) (foc_xl m) rfl (by rfl) ?_
  refine agSent (hsm := fun _ => sem_s1 0) 0 ?_
  refine agSent (hsm := fun _ => sem_s1 1) 1 ?_
  refine agSent (hsm := fun _ => sem_s1 2) 2 ?_
  refine agSent (hsm := fun _ => sem_s1 3) 3 ?_
  refine agSent (hsm := fun _ => sem_s1 4) 4 ?_
  refine agSent (hsm := fun _ => sem_s1 5) 5 ?_
  refine agSent (hsm := fun _ => sem_s1 6) 6 ?_
  exact WP_pure ((tidyf (by decide)).trans h)

/-- Piece 32. -/
theorem part32 {Q : (Σ' (v810 : FVec F S64x1024 .bf16), BitVec 32) → sProp (MT nD τ sig ℕ (Elt F) ℕ UU ℕ)}
    (h : Stt m c 41 2 ![2, 1, 0, 0, 0, 0, 0, 0] (B21 m c) ⊢ Q ⟨(k0_pay52 (XV m 2 c)), ((Scalar.extui (Scalar.cmpi .ne (V2 c) 1#32 : BitVec 1) : BitVec 32))⟩) :
    Ok (Stt m c 40 1 ![10, 10, 10, 10, 10, 10, 10, 9] (B20 m c)) c (k0_part32 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.cmpi .ne (V2 c) 7#32 : BitVec 1)))) Q := by
  rw [k0_part32_eq_skeleton]; unfold k0_part32_skel
  refine agSent (hsm := fun _ => sem_s1 7) 7 ?_
  refine Ok_pre (nextLayer (by decide) (by decide) rfl) ?_
  refine ld (foc_xl m) rfl ?_
  refine ldC 0 0 (foc_ib0 m) rfl ?_
  refine ldPb 0 (fun _ => ?_)
  refine stPb 0 1 (by rfl) ?_
  refine rsStart (hsS := sem_s0 0) 0 k0_dev41_eq (k0_off99_eq _) ?_
  refine ldC 0 1 (foc_ib0 m) rfl ?_
  refine ldPb 1 (fun _ => ?_)
  refine stPb 1 1 (by rfl) ?_
  exact WP_pure ((tidyf (by decide)).trans h)

/-- Piece 33. -/
theorem part33 {Q : (PUnit) → sProp (MT nD τ sig ℕ (Elt F) ℕ UU ℕ)}
    (h : Stt m c 44 2 ![2, 2, 2, 2, 0, 0, 0, 0] (B21 m c) ⊢ Q ⟨⟩) :
    Ok (Stt m c 41 2 ![2, 1, 0, 0, 0, 0, 0, 0] (B21 m c)) c (k0_part33 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay52 (XV m 2 c))) (((Scalar.extui (Scalar.cmpi .ne (V2 c) 1#32 : BitVec 1) : BitVec 32)))) Q := by
  rw [k0_part33_eq_skeleton]; unfold k0_part33_skel
  refine rsStart (hsS := sem_s0 1) 1 k0_dev42_eq (k0_off101_eq _) ?_
  refine ldC 0 2 (foc_ib0 m) rfl ?_
  refine ldPb 2 (fun _ => ?_)
  refine stPb 2 1 (by rfl) ?_
  refine rsStart (hsS := sem_s0 2) 2 k0_dev43_eq (k0_off103_eq _) ?_
  refine ldC 0 3 (foc_ib0 m) rfl ?_
  refine ldPb 3 (fun _ => ?_)
  refine stPb 3 1 (by rfl) ?_
  refine rsStart (hsS := sem_s0 3) 3 k0_dev44_eq (k0_off105_eq _) ?_
  exact WP_pure ((tidyf (by decide)).trans h)

end Cert.KernelIdealProof

end
-- ==== Proof.KI.PartsD.lean ====
/-
# The body in pieces

The printed body is a sequence of pieces; each takes a device from one state to another.
-/
module

public import proofs.«01_k».proof.Proof.KI.Bounds

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-- Piece 34. -/
theorem part34 {Q : (Vec F S1024x256 .bf16) → sProp (MT nD τ sig ℕ (Elt F) ℕ UU ℕ)}
    (h : Stt m c 46 2 ![2, 2, 2, 2, 2, 2, 0, 0] (B21 m c) ⊢ Q ((cin (wib m c 2) 6))) :
    Ok (Stt m c 44 2 ![2, 2, 2, 2, 0, 0, 0, 0] (B21 m c)) c (k0_part34 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay52 (XV m 2 c)))) Q := by
  rw [k0_part34_eq_skeleton]; unfold k0_part34_skel
  refine ldC 0 4 (foc_ib0 m) rfl ?_
  refine ldPb 4 (fun _ => ?_)
  refine stPb 4 1 (by rfl) ?_
  refine rsStart (hsS := sem_s0 4) 4 k0_dev45_eq (k0_off107_eq _) ?_
  refine ldC 0 5 (foc_ib0 m) rfl ?_
  refine ldPb 5 (fun _ => ?_)
  refine stPb 5 1 (by rfl) ?_
  refine rsStart (hsS := sem_s0 5) 5 k0_dev46_eq (k0_off109_eq _) ?_
  refine ldC 0 6 (foc_ib0 m) rfl ?_
  exact WP_pure ((tidyf (by decide)).trans h)

/-- Piece 35. -/
theorem part35 {Q : (BitVec 1) → sProp (MT nD τ sig ℕ (Elt F) ℕ UU ℕ)}
    (h : Stt m c 48 2 ![3, 3, 2, 2, 2, 2, 2, 2] (B21 m c) ⊢ Q ((Scalar.cmpi .ne (V2 c) 2#32 : BitVec 1))) :
    Ok (Stt m c 46 2 ![2, 2, 2, 2, 2, 2, 0, 0] (B21 m c)) c (k0_part35 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay52 (XV m 2 c))) (((cin (wib m c 2) 6)))) Q := by
  rw [k0_part35_eq_skeleton]; unfold k0_part35_skel
  refine ldPb 6 (fun _ => ?_)
  refine stPb 6 1 (by rfl) ?_
  refine rsStart (hsS := sem_s0 6) 6 k0_dev47_eq (k0_off111_eq _) ?_
  refine ldC 0 7 (foc_ib0 m) rfl ?_
  refine ldPb 7 (fun _ => ?_)
  refine stPb 7 1 (by rfl) ?_
  refine rsStart (hsS := sem_s0 7) 7 k0_dev48_eq (k0_off113_eq _) ?_
  refine rsWait (hsm := fun _ => sem_r 0) 0 ?_
  refine rsWait (hsm := fun _ => sem_r 1) 1 ?_
  exact WP_pure ((tidyf (by decide)).trans h)

/-- Piece 36. -/
theorem part36 {Q : (FVec F S64x256 .f32) → sProp (MT nD τ sig ℕ (Elt F) ℕ UU ℕ)}
    (h : Stt m c 48 2 (fun _ => 4) (B21 m c) ⊢ Q (k0_pay62 (rsv m 2 c 0) (rsv m 2 c 1))) :
    Ok (Stt m c 48 2 ![3, 3, 2, 2, 2, 2, 2, 2] (B21 m c)) c (k0_part36 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.cmpi .ne (V2 c) 2#32 : BitVec 1)))) Q := by
  rw [k0_part36_eq_skeleton]; unfold k0_part36_skel
  refine rsWait (hsm := fun _ => sem_r 2) 2 ?_
  refine rsWait (hsm := fun _ => sem_r 3) 3 ?_
  refine rsWait (hsm := fun _ => sem_r 4) 4 ?_
  refine rsWait (hsm := fun _ => sem_r 5) 5 ?_
  refine rsWait (hsm := fun _ => sem_r 6) 6 ?_
  refine rsWait (hsm := fun _ => sem_r 7) 7 ?_
  refine ownPb (k0_off17_eq _) ?_
  refine ownRs (k0_off17_eq _) (fun _ => ?_)
  refine ownStRs (k0_off17_eq _) rfl ?_
  refine ldRs 0 ?_
  refine ldRs 1 ?_
  exact WP_pure ((tidyf (by decide)).trans h)

/-- Piece 37. -/
theorem part37 {Q : (BitVec 32) → sProp (MT nD τ sig ℕ (Elt F) ℕ UU ℕ)}
    (h : Stt m c 49 2 ![6, 5, 5, 5, 5, 5, 5, 5] (B22 m c) ⊢ Q 1#32) :
    Ok (Stt m c 48 2 (fun _ => 4) (B21 m c)) c (k0_part37 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay62 (rsv m 2 c 0) (rsv m 2 c 1)))) Q := by
  rw [k0_part37_eq_skeleton]; unfold k0_part37_skel
  refine ldRs 2 ?_
  refine ldRs 3 ?_
  refine ldRs 4 ?_
  refine ldRs 5 ?_
  refine ldRs 6 ?_
  refine ldRs 7 ?_
  refine ldD (foc_ch m) .rfl (fun _ => ?_)
  refine st (agc m 2 c) (foc_ch m) rfl (by rfl) ?_
  refine Ok_pre (lend (by decide) rfl) ?_
  refine agStart (hsS := sem_s1 0) 0 k0_dev49_eq (k0_off115_eq _) ?_
  exact WP_pure ((tidyf (by decide)).trans h)

/-- Piece 38. -/
theorem part38 {Q : (BitVec 32) → sProp (MT nD τ sig ℕ (Elt F) ℕ UU ℕ)}
    (h : Stt m c 56 2 (fun _ => 6) (B22 m c) ⊢ Q ((Scalar.extui (Scalar.cmpi .ne (V2 c) 0#32 : BitVec 1) : BitVec 32))) :
    Ok (Stt m c 49 2 ![6, 5, 5, 5, 5, 5, 5, 5] (B22 m c)) c (k0_part38 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (1#32)) Q := by
  rw [k0_part38_eq_skeleton]; unfold k0_part38_skel
  refine agStart (hsS := sem_s1 1) 1 k0_dev50_eq (k0_off117_eq _) ?_
  refine agStart (hsS := sem_s1 2) 2 k0_dev51_eq (k0_off119_eq _) ?_
  refine agStart (hsS := sem_s1 3) 3 k0_dev52_eq (k0_off121_eq _) ?_
  refine agStart (hsS := sem_s1 4) 4 k0_dev53_eq (k0_off123_eq _) ?_
  refine agStart (hsS := sem_s1 5) 5 k0_dev54_eq (k0_off125_eq _) ?_
  refine agStart (hsS := sem_s1 6) 6 k0_dev55_eq (k0_off127_eq _) ?_
  refine agStart (hsS := sem_s1 7) 7 k0_dev56_eq (k0_off129_eq _) ?_
  exact WP_pure ((tidyf (by decide)).trans h)

/-- Piece 39. -/
theorem part39 {Q : (BitVec 1) → sProp (MT nD τ sig ℕ (Elt F) ℕ UU ℕ)}
    (h : Stt m c 56 2 ![7, 7, 7, 7, 7, 7, 7, 6] (B22 m c) ⊢ Q ((Scalar.cmpi .ne (V2 c) 7#32 : BitVec 1))) :
    Ok (Stt m c 56 2 (fun _ => 6) (B22 m c)) c (k0_part39 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.extui (Scalar.cmpi .ne (V2 c) 0#32 : BitVec 1) : BitVec 32)))) Q := by
  rw [k0_part39_eq_skeleton]; unfold k0_part39_skel
  refine rsSent (hsm := fun _ => sem_s0 0) 0 ?_
  refine rsSent (hsm := fun _ => sem_s0 1) 1 ?_
  refine rsSent (hsm := fun _ => sem_s0 2) 2 ?_
  refine rsSent (hsm := fun _ => sem_s0 3) 3 ?_
  refine rsSent (hsm := fun _ => sem_s0 4) 4 ?_
  refine rsSent (hsm := fun _ => sem_s0 5) 5 ?_
  refine rsSent (hsm := fun _ => sem_s0 6) 6 ?_
  exact WP_pure ((tidyf (by decide)).trans h)

/-- Piece 40. -/
theorem part40 {Q : (FVec F S64x256 .bf16) → sProp (MT nD τ sig ℕ (Elt F) ℕ UU ℕ)}
    (h : Stt m c 56 2 ![9, 9, 8, 8, 8, 8, 8, 8] (B23 m c) ⊢ Q (k0_pay66 (agv m 2 1))) :
    Ok (Stt m c 56 2 ![7, 7, 7, 7, 7, 7, 7, 6] (B22 m c)) c (k0_part40 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) (((Scalar.cmpi .ne (V2 c) 7#32 : BitVec 1)))) Q := by
  rw [k0_part40_eq_skeleton]; unfold k0_part40_skel
  refine rsSent (hsm := fun _ => sem_s0 7) 7 ?_
  refine ownCh ?_
  refine ownAg (k0_off17_eq _) (fun _ => ?_)
  refine ownStAg (k0_off17_eq _) rfl ?_
  refine agWait (hsm := fun _ => sem_a 0) 0 ?_
  refine ldAg 0 ?_
  refine ldR 0 0 (foc_ob0 m) rfl ?_
  refine ldD (foc_o m) .rfl (fun _ => ?_)
  refine st (acc m 2 c 0) (foc_o m) rfl (by rfl) ?_
  refine agWait (hsm := fun _ => sem_a 1) 1 ?_
  refine ldAg 1 ?_
  exact WP_pure ((tidyf (by decide)).trans h)

/-- Piece 41. -/
theorem part41 {Q : (FVec F S64x256 .bf16) → sProp (MT nD τ sig ℕ (Elt F) ℕ UU ℕ)}
    (h : Stt m c 56 2 ![9, 9, 9, 9, 8, 8, 8, 8] (B24 m c) ⊢ Q (k0_pay69 (agv m 2 3))) :
    Ok (Stt m c 56 2 ![9, 9, 8, 8, 8, 8, 8, 8] (B23 m c)) c (k0_part41 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) ((k0_pay66 (agv m 2 1)))) Q := by
  rw [k0_part41_eq_skeleton]; unfold k0_part41_skel
  refine ldR 0 1 (foc_ob0 m) rfl ?_
  refine ld (foc_o m) rfl ?_
  refine ldD (foc_o m) (slotV_any _ _ _ _) (fun _ => ?_)
  refine st (acc m 2 c 1) (foc_o m) rfl (by rfl) ?_
  refine agWait (hsm := fun _ => sem_a 2) 2 ?_
  refine ldAg 2 ?_
  refine ldR 0 2 (foc_ob0 m) rfl ?_
  refine ld (foc_o m) rfl ?_
  refine ldD (foc_o m) (slotV_any _ _ _ _) (fun _ => ?_)
  refine st (acc m 2 c 2) (foc_o m) rfl (by rfl) ?_
  refine agWait (hsm := fun _ => sem_a 3) 3 ?_
  refine ldAg 3 ?_
  exact WP_pure ((tidyf (by decide)).trans h)

/-- Piece 42. -/
theorem part42 {Q : (FVec F S64x256 .bf16) → sProp (MT nD τ sig ℕ (Elt F) ℕ UU ℕ)}
    (h : Stt m c 56 2 ![9, 9, 9, 9, 9, 9, 8, 8] (B25 m c) ⊢ Q (k0_pay72 (agv m 2 5))) :
    Ok (Stt m c 56 2 ![9, 9, 9, 9, 8, 8, 8, 8] (B24 m c)) c (k0_part42 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) ((k0_pay69 (agv m 2 3)))) Q := by
  rw [k0_part42_eq_skeleton]; unfold k0_part42_skel
  refine ldR 0 3 (foc_ob0 m) rfl ?_
  refine ld (foc_o m) rfl ?_
  refine ldD (foc_o m) (slotV_any _ _ _ _) (fun _ => ?_)
  refine st (acc m 2 c 3) (foc_o m) rfl (by rfl) ?_
  refine agWait (hsm := fun _ => sem_a 4) 4 ?_
  refine ldAg 4 ?_
  refine ldR 0 4 (foc_ob0 m) rfl ?_
  refine ld (foc_o m) rfl ?_
  refine ldD (foc_o m) (slotV_any _ _ _ _) (fun _ => ?_)
  refine st (acc m 2 c 4) (foc_o m) rfl (by rfl) ?_
  refine agWait (hsm := fun _ => sem_a 5) 5 ?_
  refine ldAg 5 ?_
  exact WP_pure ((tidyf (by decide)).trans h)

/-- Piece 43. -/
theorem part43 {Q : (FVec F S64x256 .bf16) → sProp (MT nD τ sig ℕ (Elt F) ℕ UU ℕ)}
    (h : Stt m c 56 2 (fun _ => 9) (B26 m c) ⊢ Q (k0_pay75 (agv m 2 7))) :
    Ok (Stt m c 56 2 ![9, 9, 9, 9, 9, 9, 8, 8] (B25 m c)) c (k0_part43 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS (V2 c) ((k0_pay72 (agv m 2 5)))) Q := by
  rw [k0_part43_eq_skeleton]; unfold k0_part43_skel
  refine ldR 0 5 (foc_ob0 m) rfl ?_
  refine ld (foc_o m) rfl ?_
  refine ldD (foc_o m) (slotV_any _ _ _ _) (fun _ => ?_)
  refine st (acc m 2 c 5) (foc_o m) rfl (by rfl) ?_
  refine agWait (hsm := fun _ => sem_a 6) 6 ?_
  refine ldAg 6 ?_
  refine ldR 0 6 (foc_ob0 m) rfl ?_
  refine ld (foc_o m) rfl ?_
  refine ldD (foc_o m) (slotV_any _ _ _ _) (fun _ => ?_)
  refine st (acc m 2 c 6) (foc_o m) rfl (by rfl) ?_
  refine agWait (hsm := fun _ => sem_a 7) 7 ?_
  refine ldAg 7 ?_
  exact WP_pure ((tidyf (by decide)).trans h)

/-- Piece 44. -/
theorem part44 {Q : (PUnit) → sProp (MT nD τ sig ℕ (Elt F) ℕ UU ℕ)}
    (h : Stt m c 56 2 ![10, 10, 10, 10, 10, 10, 9, 9] (B27 m c) ⊢ Q ⟨⟩) :
    Ok (Stt m c 56 2 (fun _ => 9) (B26 m c)) c (k0_part44 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS c (V2 c) ((k0_pay75 (agv m 2 7)))) Q := by
  rw [k0_part44_eq_skeleton]; unfold k0_part44_skel
  refine ldR 0 7 (foc_ob0 m) rfl ?_
  refine ld (foc_o m) rfl ?_
  refine ldD (foc_o m) (slotV_any _ _ _ _) (fun _ => ?_)
  refine st (XV m 3 c) (foc_o m) rfl (by rfl) ?_
  refine agSent (hsm := fun _ => sem_s1 0) 0 ?_
  refine agSent (hsm := fun _ => sem_s1 1) 1 ?_
  refine agSent (hsm := fun _ => sem_s1 2) 2 ?_
  refine agSent (hsm := fun _ => sem_s1 3) 3 ?_
  refine agSent (hsm := fun _ => sem_s1 4) 4 ?_
  refine agSent (hsm := fun _ => sem_s1 5) 5 ?_
  exact WP_pure ((tidyf (by decide)).trans h)

end Cert.KernelIdealProof

end
-- ==== Proof.KI.Root.lean ====
/-
# The whole body
-/
module

public import proofs.«01_k».proof.Proof.KI.PartsA
public import proofs.«01_k».proof.Proof.KI.PartsB
public import proofs.«01_k».proof.Proof.KI.PartsC
public import proofs.«01_k».proof.Proof.KI.PartsD

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

section
variable {m c} {α β : Type} {Q : β → sProp (MT nD τ sig ℕ (Elt F) ℕ UU ℕ)}

/-- One piece after the other. -/
theorem Ok_seq {S S' : sProp (MT nD τ sig ℕ (Elt F) ℕ UU ℕ)} {v : α} {p : Prog (TpuEff nD τ sig (Elt F) Λ₀ .tc) α} {K : α → Prog (TpuEff nD τ sig (Elt F) Λ₀ .tc) β}
    (hp : ∀ Q' : α → sProp (MT nD τ sig ℕ (Elt F) ℕ UU ℕ), (S' ⊢ Q' v) → Ok S c p Q') (h : Ok S' c (K v) Q) : Ok S c (p >>= K) Q := by
  have := hp (fun a => WP c (K a) Q) h
  unfold Ok at this ⊢
  rw [show WP c (p >>= K) Q = WP c p (fun a => WP c (K a) Q) from wp_bind ..]
  exact this

/-- The same when the piece returns a value that is never used. -/
theorem Ok_seq_all {ι : Type} {S S' : sProp (MT nD τ sig ℕ (Elt F) ℕ UU ℕ)} {v : ι → α} {p : Prog (TpuEff nD τ sig (Elt F) Λ₀ .tc) α} {K : α → Prog (TpuEff nD τ sig (Elt F) Λ₀ .tc) β}
    (hp : ∀ Q' : α → sProp (MT nD τ sig ℕ (Elt F) ℕ UU ℕ), (∀ i, S' ⊢ Q' (v i)) → Ok S c p Q') (h : ∀ i, Ok S' c (K (v i)) Q) : Ok S c (p >>= K) Q := by
  have := hp (fun a => WP c (K a) Q) h
  unfold Ok at this ⊢
  rw [show WP c (p >>= K) Q = WP c p (fun a => WP c (K a) Q) from wp_bind ..]
  exact this
end

set_option maxHeartbeats 4000000 in
set_option maxRecDepth 20000 in
/-- The whole body, up to the last semaphore it waits on. -/
theorem body_ok {Q : PUnit → sProp (MT nD τ sig ℕ (Elt F) ℕ UU ℕ)} (h : Stt m c 56 2 (fun _ => 10) (B27 m c) ⊢ Q ⟨⟩) :
    Ok (Stt m c 0 0 (fun _ => 11) (B0 m c)) c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS) Q := by
  rw [cc0_body_eq_skeleton]; unfold cc0_body_skel
  rw [k0_part45_eq_skeleton]; unfold k0_part45_skel
  refine Ok_seq (S' := Stt m c 56 2 (fun _ => 10) (B27 m c)) (v := PUnit.unit) (fun Q' h' => ?_) (WP_pure h)
  refine Ok_seq (fun _ => part1 m c) ?_
  refine Ok_seq (fun _ => part2 m c) ?_
  refine Ok_seq (fun _ => part3 m c) ?_
  refine Ok_seq (fun _ => part4 m c) ?_
  refine Ok_seq (fun _ => part5 m c) ?_
  refine Ok_seq (fun _ => part6 m c) ?_
  refine Ok_seq (fun _ => part7 m c) ?_
  refine Ok_seq_all (fun _ => part8 m c) (fun v214 => ?_)
  refine Ok_seq (fun _ => part9 m c v214) ?_
  refine Ok_seq (fun _ => part10 m c) ?_
  refine Ok_seq (fun _ => part11 m c) ?_
  refine Ok_seq (fun _ => part12 m c) ?_
  refine Ok_seq (fun _ => part13 m c) ?_
  refine Ok_seq (fun _ => part14 m c) ?_
  refine Ok_seq (fun _ => part15 m c) ?_
  refine Ok_seq (fun _ => part16 m c) ?_
  refine Ok_seq (fun _ => part17 m c) ?_
  refine Ok_seq (fun _ => part18 m c) ?_
  refine Ok_seq (fun _ => part19 m c) ?_
  refine Ok_seq (fun _ => part20 m c) ?_
  refine Ok_seq (fun _ => part21 m c) ?_
  refine Ok_seq (fun _ => part22 m c) ?_
  refine Ok_seq (fun _ => part23 m c) ?_
  refine Ok_seq (fun _ => part24 m c) ?_
  refine Ok_seq (fun _ => part25 m c) ?_
  refine Ok_seq (fun _ => part26 m c) ?_
  refine Ok_seq (fun _ => part27 m c) ?_
  refine Ok_seq (fun _ => part28 m c) ?_
  refine Ok_seq (fun _ => part29 m c) ?_
  refine Ok_seq (fun _ => part30 m c) ?_
  refine Ok_seq (fun _ => part31 m c) ?_
  refine Ok_seq (fun _ => part32 m c) ?_
  refine Ok_seq (fun _ => part33 m c) ?_
  refine Ok_seq (fun _ => part34 m c) ?_
  refine Ok_seq (fun _ => part35 m c) ?_
  refine Ok_seq (fun _ => part36 m c) ?_
  refine Ok_seq (fun _ => part37 m c) ?_
  refine Ok_seq (fun _ => part38 m c) ?_
  refine Ok_seq (fun _ => part39 m c) ?_
  refine Ok_seq (fun _ => part40 m c) ?_
  refine Ok_seq (fun _ => part41 m c) ?_
  refine Ok_seq (fun _ => part42 m c) ?_
  refine Ok_seq (fun _ => part43 m c) ?_
  refine Ok_seq (fun _ => part44 m c) ?_
  refine agSent (hsm := fun _ => sem_s1 6) 6 ?_
  refine agSent (hsm := fun _ => sem_s1 7) 7 ?_
  exact WP_pure ((tidyf (by decide)).trans h')

end Cert.KernelIdealProof

end
-- ==== Proof.KI.Launch.lean ====
/-
# From the launch to the body, and back

What each device holds when the body starts and when it has ended, in the terms of the launch: the proof data of the
one pipeline, the body's obligation, and the waits of the pipeline's own copies.
-/
module

public import proofs.«01_k».proof.Proof.KI.Ghost
public import proofs.«01_k».proof.Proof.KI.Root
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The arguments the body copies from -/

/-- The six weight arrays, as launched. -/
def args (c : Dev nD) : sProp 𝕄 := bigSep Finset.univ fun q : Fin 6 => argP m c (argR q)

omit [FloatOps F] in
theorem args_intro (c : Dev nD) : Pipeline.unscopedRest (Ix := ℕ) (Name := ℕ) (U := UU) (Lvl := ℕ) cfg0.spec c (fun b => m ((c : Thread nD τ).loc b))
    ⊢ args m c := by
  have h (b : Ref sig .tc) : argP m c b = ((c : Thread nD τ).loc b ↦{fullShare} m ((c : Thread nD τ).loc b) : sProp (MT nD τ sig ℕ (Elt F) ℕ UU ℕ)) := by
    unfold argP; rw [View.set_whole]
  rw [show Pipeline.unscopedRest (Ix := ℕ) (Name := ℕ) (U := UU) (Lvl := ℕ) cfg0.spec c (fun b => m ((c : Thread nD τ).loc b)) = _ from unscopedRest0_eq c _]
  unfold args
  rw [bigSep_six, show argR 0 = main_arg1 from rfl, show argR 1 = main_arg4 from rfl, show argR 2 = main_arg2 from rfl, show argR 3 = main_arg5 from rfl,
    show argR 4 = main_arg3 from rfl, show argR 5 = main_arg6 from rfl, h, h, h, h, h, h]
  iintro ⟨H1, H2, H3, H4, H5, H6⟩
  iframe

omit [FloatOps F] in
/-- After the run they hold what they held. -/
theorem args_read (c : Dev nD) (s' : _) : iprop(args m c ∗ SI s') ⊢ (iprop(⌜∀ q : Fin 6, s'.mem.mem ((c : Thread nD τ).loc (argR q)) = m ((c : Thread nD τ).loc (argR q))⌝ ∗ SI s') : sProp 𝕄) := by
  have h (b : Ref sig .tc) : argP m c b = ((c : Thread nD τ).loc b ↦{fullShare} m ((c : Thread nD τ).loc b) : sProp (MT nD τ sig ℕ (Elt F) ℕ UU ℕ)) := by
    unfold argP; rw [View.set_whole]
  unfold args
  rw [bigSep_congr fun (q : Fin 6) _ => h (argR q)]
  have key := pointsTo_read_all (Val := Elt F) (Ix := ℕ) (Name := ℕ) (U := UU) (Lvl := ℕ) (Finset.univ : Finset (Fin 6)) (fun q => (c : Thread nD τ).loc (argR q)) (fun q => m ((c : Thread nD τ).loc (argR q))) s'
  iintro H
  ihave H := key $$ H
  icases H with ⟨%hr, H⟩
  isplitr
  · ipureintro; exact fun q => hr q (Finset.mem_univ _)
  · iexact H

/-! ## The body's start -/

/-- What device `c` starts from, its buffers aside. -/
def start (c : Dev nD) : sProp 𝕄 :=
  iprop(G' m c ∗ levAts L lv ∗ (cred (tallyAt (barC c) 1 7) ∗ bigSep Finset.univ fun d : Fin 8 => laneC c d) ∗ args m c)
def Φ₀ (c : Dev nD) : sProp 𝕄 := iprop(start m c ∗ bufs c)
/-- What it ends with: its counters at zero, the arguments, its buffers. -/
def Φ₁ (c : Dev nD) : sProp 𝕄 := iprop((bigSep Finset.univ fun k : Fin 39 => semVal (kcell (c, k)) 0) ∗ args m c ∗ bufs c)

/-- Lane `t`'s start out of what the launch dealt. -/
theorem lane_deal (c : Dev nD) (t : Fin 8) :
    iprop(known m ∗ ((At (s0C c t) 0 ∗ At (s1C c t) 0 ∗ At (rC' c t) 0 ∗ At (aC c t) 0) ∗ ownT c t ∗ farT t c ∗ laneC c t)) ⊢ laneG (F := F) c t := by
  unfold known
  by_cases h : t = c
  · unfold laneG; rw [if_pos h]; unfold At4
    iintro ⟨-, H, -⟩
    iexact H
  · unfold laneG laneC; rw [if_neg h, if_neg h]
    have hr : (bigSep Finset.univ fun d : Dev nD => reached ER (barC d) 0) ⊢ (reached ER (barC t) 0 : sProp (MT nD τ sig ℕ (Elt F) ℕ UU ℕ)) := BI.bigSep_elim (Finset.mem_univ t)
    rw [show Fut (F := F) c t 0 = iprop(Lay c t 0 ∗ Lay c t 1 ∗ Lay c t 2 ∗ emp) from rfl]
    unfold At4 ownT farT layC Lay
    iintro ⟨⟨-, HR⟩, H4, ⟨⟨A0, A1, A2⟩, B0, B1, B2⟩, ⟨Hb, ⟨C0, C1, C2⟩, D0, D1, D2⟩, ⟨E0, F0⟩, ⟨E1, F1⟩, E2, F2⟩
    ihave HR := hr $$ HR
    iframe

theorem first_intro (c : Dev nD) : iprop(Φ₀ m c ∗ Owe c 0 ∗ slotV xM c rX (xin m c) ∗ slotAny oM c rX) ⊢ first m c := by
  have hl : iprop(known m ∗ ((bigSep Finset.univ fun t : Fin 8 => iprop(At (s0C c t) 0 ∗ At (s1C c t) 0 ∗ At (rC' c t) 0 ∗ At (aC c t) 0))
      ∗ (bigSep Finset.univ fun t : Fin 8 => ownT c t) ∗ (bigSep Finset.univ fun t : Fin 8 => farT t c) ∗ bigSep Finset.univ fun t : Fin 8 => laneC c t))
      ⊢ bigSep Finset.univ fun t : Fin 8 => laneG (F := F) c t := by
    rw [← bigSep_sep', ← bigSep_sep', ← bigSep_sep']
    exact bigSep_with_persistent fun t _ => lane_deal m c t
  have hw : iprop(args m c ∗ (bigSep Finset.univ fun q : Fin 6 => dutyTok ER (wC c q) 0 0) ∗ bigSep Finset.univ fun q : Fin 6 => At (wC c q) 0)
      ⊢ (bigSep Finset.univ fun q : Fin 6 => Wst m c q 0 : sProp (MT nD τ sig ℕ (Elt F) ℕ UU ℕ)) := by
    unfold args
    rw [← bigSep_sep', ← bigSep_sep']
    exact Entails.of_eq rfl
  have hb : At (F := F) (barC c) 0 ⊢ atPos ER (barC c) 0 ∅ 0 := by unfold At; exact sep_elim_left
  have hk : iprop(known m ∗ levAts L lv) ⊢ recs m := by
    unfold known recs
    iintro ⟨⟨H, -⟩, HL⟩
    iframe
  unfold Φ₀ start G' alone sorted first
  iintro ⟨⟨⟨⟨#HK, ⟨HAb, HA4, HAw⟩, HO, HF, HW⟩, #HL, ⟨Hcb, Hcl⟩, Hargs⟩, Hbufs⟩, Howe, Hx, Ho⟩
  isplitr
  · iapply hk
    isplitr; · iexact HK
    iexact HL
  isplitl [Howe]; · iexact Howe
  isplitl [HA4 HO HF Hcl]
  · iapply hl
    isplitr; · iexact HK
    iframe
  isplitl [Hcb HAb]
  · isplitl [Hcb]; · iexact Hcb
    iapply hb; iexact HAb
  isplitl [Hargs HW HAw]
  · iapply hw
    iframe
  iframe

/-! ## The pipeline's proof data -/

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m c
    | ⟨1, _⟩ => XV m 3 c
  Φ t := match t with
    | ⟨0, _⟩ => Φ₀ m c
    | ⟨_ + 1, _⟩ => Φ₁ m c
  q _ := fullShare
  owed t := match t with
    | ⟨0, _⟩ => Od c 0
    | ⟨_ + 1, _⟩ => 0

abbrev point : Fin cfg0.N := t0_0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem x_read (f : Vec F S64x1024 .f32) : (xM : Memref sig .tc .vmem S64x1024 .f32).view.readAt (Elt F) rX.toLoadRect f = f :=
  Memref.readAt_unit_zero (Elt F) cc0_stg0_0 hz2 _ f
omit [FloatOps F] in
theorem o_read (f : Vec F S64x1024 .f32) : (oM : Memref sig .tc .vmem S64x1024 .f32).view.readAt (Elt F) rX.toLoadRect f = f :=
  Memref.readAt_unit_zero (Elt F) cc0_stg1_0 hz2 _ f
theorem x_set : ((xM : Memref sig .tc .vmem S64x1024 .f32).view.slice rX).set = Finset.univ :=
  (View.set_slice_whole _ _).trans (Finset.eq_univ_of_forall fun i => View.mem_set_unit_zero hz2 _ i)
theorem o_set : ((oM : Memref sig .tc .vmem S64x1024 .f32).view.slice rX).set = Finset.univ :=
  (View.set_slice_whole _ _).trans (Finset.eq_univ_of_forall fun i => View.mem_set_unit_zero hz2 _ i)

omit [FloatOps F] in
theorem stg_x (c : Dev nD) (w : Vec F S64x1024 .f32) : stg c cc0_stg0_0 w ⊢ slotV xM c rX w := by
  unfold slotV
  iintro ⟨%f, %hf, H⟩
  subst hf
  iexists f
  rw [x_set]
  isplitl [H]; · iexact H
  ipureintro; exact x_read f
omit [FloatOps F] in
theorem x_stg (c : Dev nD) (w : Vec F S64x1024 .f32) : slotV xM c rX w ⊢ stg c cc0_stg0_0 w := by
  unfold slotV
  iintro ⟨%f, H, %hf⟩
  rw [x_read] at hf
  rw [x_set]
  iexists f
  isplitr; · ipureintro; exact hf
  iexact H
omit [FloatOps F] in
theorem stg_o (c : Dev nD) (w : Vec F S64x1024 .f32) : stg c cc0_stg1_0 w ⊢ slotAny oM c rX := by
  unfold slotAny
  iintro ⟨%f, %hf, H⟩
  iexists f
  rw [o_set]
  iexact H
omit [FloatOps F] in
theorem o_stg (c : Dev nD) (w : Vec F S64x1024 .f32) : slotV oM c rX w ⊢ stg c cc0_stg1_0 w := by
  unfold slotV
  iintro ⟨%f, H, %hf⟩
  rw [o_read] at hf
  rw [o_set]
  iexists f
  isplitr; · ipureintro; exact hf
  iexact H

def bodyPre (c : Dev nD) : sProp 𝕄 :=
  iprop(Φ₀ m c ∗ (dats m ρ 0 c).owesAt 0 point.castSucc
    ∗ (∃ d, stg c cc0_stg0_0 ((dats m ρ 0 c).before (0 : Fin 2) point d))
    ∗ (∃ d, stg c cc0_stg1_0 ((dats m ρ 0 c).before (1 : Fin 2) point d)))
def bodyPost (c : Dev nD) : sProp 𝕄 :=
  iprop(Φ₁ m c ∗ (dats m ρ 0 c).owesAt 0 point.succ ∗ stg c cc0_stg0_0 (xin m c) ∗ stg c cc0_stg1_0 (XV m 3 c))

theorem pre_start (c : Dev nD) : bodyPre m ρ c ⊢ first m c := by
  have hx (d) : stg c cc0_stg0_0 ((dats m ρ 0 c).before (0 : Fin 2) point d) ⊢ (slotV xM c rX (xin m c) : sProp (MT nD τ sig ℕ (Elt F) ℕ UU ℕ)) := by
    have : (dats m ρ 0 c).before (0 : Fin 2) point d = xin m c := by unfold Dat.before; rw [if_pos (fetch0_0 point)]; rfl
    rw [this]; exact stg_x c _
  have ho (d) : stg c cc0_stg1_0 ((dats m ρ 0 c).before (1 : Fin 2) point d) ⊢ (slotAny oM c rX : sProp (MT nD τ sig ℕ (Elt F) ℕ UU ℕ)) := stg_o c _
  have hO : (dats m ρ 0 c).owesAt 0 point.castSucc ⊢ (Owe c 0 : sProp (MT nD τ sig ℕ (Elt F) ℕ UU ℕ)) := by
    unfold Dat.owesAt Pipeline.owesWithin Owe
    rw [show (dats m ρ 0 c).owed point.castSucc = Od c 0 from rfl]
    iintro ⟨%W, -, HO⟩
    iexists W
    iexact HO
  unfold bodyPre
  iintro ⟨HΦ, HO, ⟨%d0, Hx⟩, ⟨%d1, Ho⟩⟩
  iapply (first_intro m c)
  isplitl [HΦ]; · iexact HΦ
  isplitl [HO]; · iapply hO; iexact HO
  isplitl [Hx]; · iapply (hx d0); iexact Hx
  iapply (ho d1); iexact Ho

theorem post_end (c : Dev nD) : last m c ⊢ bodyPost m ρ c := by
  have hO : (Owe c 56 : sProp (MT nD τ sig ℕ (Elt F) ℕ UU ℕ)) ⊢ (dats m ρ 0 c).owesAt 0 point.succ := by
    unfold Dat.owesAt Pipeline.owesWithin Owe
    rw [show (dats m ρ 0 c).owed point.succ = 0 from rfl, Od_end]
    iintro ⟨%W, HO⟩
    iexists W
    isplitr; · ipureintro; exact fun _ _ => Or.inl trivial
    iexact HO
  unfold bodyPost last Φ₁
  iintro ⟨HO, Hx, Ho, HB, HA, HS⟩
  isplitl [HB HA HS]
  · isplitl [HS]; · iexact HS
    isplitl [HA]
    · unfold args; iexact HA
    iexact HB
  isplitl [HO]; · iapply hO; iexact HO
  isplitl [Hx]; · iapply (x_stg c _); iexact Hx
  iapply (o_stg c _); iexact Ho

set_option maxRecDepth 20000 in
set_option maxHeartbeats 4000000 in
/-- The library's body obligation on device `c`. -/
theorem body_obligation (c : Dev nD) : BodyObligation (dats (F := F) m ρ 0 c) (defs₀ (F := F)) 𝒱₀ 0 Set.univ := fun t => by
  rw [show t = point from fin_N0 t]
  rw [show ∀ Φ : Fin cfg0.W → sProp (MT nD τ sig ℕ (Elt F) ℕ UU ℕ), bigSep Finset.univ Φ = iprop(Φ (0 : Fin 2) ∗ Φ (1 : Fin 2)) from fun Φ => bigSep_W0 Φ,
    show ∀ Φ : Fin cfg0.W → sProp (MT nD τ sig ℕ (Elt F) ℕ UU ℕ), bigSep Finset.univ Φ = iprop(Φ (0 : Fin 2) ∗ Φ (1 : Fin 2)) from fun Φ => bigSep_W0 Φ]
  simp only [owns_whole_eq]
  show bodyPre m ρ c ⊢ wp frame (wpE (defs₀ (F := F)) 𝒱₀ c none) Set.univ
    (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) wvM (Memref.isWhole_whole _) woM (Memref.isWhole_whole _) wibM (Memref.isWhole_whole _) wobM (Memref.isWhole_whole _) pbM (Memref.isWhole_whole _) rsM (Memref.isWhole_whole _) agM (Memref.isWhole_whole _) chM (Memref.isWhole_whole _) xlM (Memref.isWhole_whole _) sendS rsS agS wS) (fun _ => bodyPost m ρ c)
  have hb := body_ok m c (Q := fun _ => iprop(|={Set.univ}=> bodyPost m ρ c)) ((body_end m c).trans (BI.fupd_mono (post_end m ρ c)))
  unfold Ok at hb
  exact (((pre_start m ρ c).trans (body_start m c)).trans hb).trans (wp_fupd _ _ _ _ _)

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Od d 0) c ∗ prngReg c (ρ c) ∗ G' m c)
      ⊢ (|={Set.univ}=> iprop(start m c ∗ emp) : sProp 𝕄) := by
  rw [Pipeline.unscopedRestP_none]
  iintro ⟨HA, HL, HC, -, HG⟩
  ihave HA := (args_intro m c) $$ HA
  ihave HC := (creds (F := F) c) $$ HC
  imodintro
  unfold start
  isplitl
  · iframe
  · iempintro

theorem start_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have hs : Pipeline.scopedRest (Ix := ℕ) (Name := ℕ) (U := UU) (Lvl := ℕ) (Val := Elt F) cfg0.spec c ⊢ bufs c := Entails.of_eq (scopedRest0_eq c)
  rw [show (dats m ρ 0 c).Φ 0 = Φ₀ m c from rfl]
  unfold Φ₀
  iintro ⟨Hs, -, Hr⟩
  isplitl [Hs]; · iexact Hs
  iapply hs; iexact Hr

/-- What is left for the launch to read: the runtime's counters and the arguments. -/
def rest (c : Dev nD) : sProp 𝕄 := iprop(unscopedSems0 c ∗ args m c)

theorem end_out (c : Dev nD) :
    (dats m ρ 0 c).Φ (Fin.last cfg0.N) ⊢ iprop(rest m c ∗ Pipeline.ownSems0 osem c ∗ Pipeline.scopedRest cfg0.spec c) := by
  have hs : bufs c ⊢ Pipeline.scopedRest (Ix := ℕ) (Name := ℕ) (U := UU) (Lvl := ℕ) (Val := Elt F) cfg0.spec c := Entails.of_eq (scopedRest0_eq c).symm
  rw [show (dats m ρ 0 c).Φ (Fin.last cfg0.N) = Φ₁ m c from rfl]
  unfold Φ₁ rest
  rw [sems0_eq]
  iintro ⟨⟨Hu, Ho⟩, HA, HB⟩
  ihave HB := hs $$ HB
  iframe

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 (by decide) (by decide)
    · show _ ⊢ MayWait _ _ _ 0
      rw [MayWait_zero]
      iintro -; iempintro

end Cert.KernelIdealProof

end
-- ==== Proof.KI.Run.lean ====
/-
# The run

At any float values: every weakly fair execution of the program terminates, each device's result array holds the last
layer's output, its arguments are unchanged and every semaphore counter is zero.
-/
module

public import proofs.«01_k».proof.Proof.KI.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

def u₀ : UU := (initOf (Pipeline.cells cfgs cellOf_inj) (Pipeline.launchToks cfgs cellOf_inj), initOf kCells kToks)

/-- What a run ends with: the windows' arrays as the pipeline leaves them, and the weight arrays as launched. -/
def RunEnd : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ ∀ q : Fin 6, r.2.mem ((c : Thread nD τ).loc (argR q)) = m ((c : Thread nD τ).loc (argR q))

set_option maxRecDepth 8000 in
theorem run_region : θ_run defs (onTc (τ := τ) (main (F := F))) (s₀ m ρ) (fun r => RunEnd m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Od d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := start_in m ρ) (hout := end_out m ρ)
    (QY := fun c s => (∀ sm : SemLoc sig, sm.isScoped .tc = false → s.sem ((c.tc : Thread nD τ), sm) = 0)
      ∧ ∀ q : Fin 6, s.mem ((c : Thread nD τ).loc (argR q)) = m ((c : Thread nD τ).loc (argR q)))
    (hY := fun c s' => by
      unfold rest
      iintro ⟨⟨Hu, HA⟩, -, HSI⟩
      ihave HA := (args_read m c s') $$ [HA HSI]
      · isplitl [HA] <;> iassumption
      icases HA with ⟨%ha, HSI⟩
      imod (Pipeline.unscopedSems0_read (X := unscopedSems0 c) (c := c) fupd_intro s') $$ [Hu HSI] with ⟨%hu, HSI⟩
      · isplitl [Hu] <;> iassumption
      imodintro
      isplitr
      · ipureintro; exact ⟨hu, ha⟩
      · iexact HSI)
    (hQ := fun _ h hs => ⟨fun c => ⟨fun w => (h c).1 w, (h c).2.2.2⟩, sem_eq_zero hs fun c => (h c).2.2.1⟩)

omit [FloatOps F] in
theorem out_read (f : Vec F S64x1024 .f32) : (win0_1.blk (0 : Fin 1)).view.read (Elt F) f = f :=
  Memref.read_access_unit_zero (Elt F) main_v1 (funext fun a => Nat.zero_mul _) _ f
omit [FloatOps F] in
theorem in_read (f : Vec F S64x1024 .f32) : (win0_0.blk (0 : Fin 1)).view.read (Elt F) f = f :=
  Memref.read_access_unit_zero (Elt F) main_arg0 (funext fun a => Nat.zero_mul _) _ f

/-- The result array's one block is the whole array: it ends holding what the body left in the staging buffer. -/
theorem result_end (c : Dev nD) : (dats m ρ 0 c).arrAt (1 : Fin 2) cfg0.N = XV m 3 c := by
  have h : (win0_1.blk (0 : Fin 1)).view.read (Elt F) ((dats m ρ 0 c).arrAt (1 : Fin 2) cfg0.N) = XV m 3 c := by
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (out_read _).symm.trans h

/-- Each argument and the result, by name. -/
theorem run_main : θ_run defs (onTc (τ := τ) (main (F := F))) (s₀ m ρ) (fun r =>
    (∀ c : Dev nD, r.2.mem ((c.tc : Thread nD τ).loc main_v1) = XV m 3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨((h.1 c).1 (1 : Fin 2)).trans (result_end m ρ c),
    ((h.1 c).1 (0 : Fin 2)).trans ((dats (F := F) m ρ 0 c).arrAt_in (0 : Fin 2) rfl _),
    (h.1 c).2 0, (h.1 c).2 2, (h.1 c).2 4, (h.1 c).2 1, (h.1 c).2 3, (h.1 c).2 5⟩, h.2⟩) (run_region m ρ)

end Cert.KernelIdealProof

end
-- ==== Proof.KI.Frames.lean ====
/-
# The three frames

The program at the extended reals by `run_main`; the bit-exact program is the same text, so that its run is `run_main` at
the bit-exact floats, by unfolding both; the reference by its own run.
-/
module

public import proofs.«01_k».proof.Defs
public import proofs.«01_k».proof.Proof.KI.Run
public import proofs.«01_k».proof.Proof.Gen.Kernel
public import proofs.«01_k».proof.Proof.Gen.ReferenceIdeal
public import proofs.«01_k».proof.Proof.Gen.ReferenceIdeal.Run
public import Idealize.ShloMosaic.Adequacy

@[expose] public section

noncomputable section

namespace Cert.KernelIdealProof

open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).2, h.2⟩) (run_main (F := Ideal) m ρ)

set_option maxRecDepth 100000 in
set_option maxHeartbeats 4000000 in
/-- The two programs' kernels are the same text, -/
theorem defs_same₀ : @Cert.Kernel.defs₀ Bits _ _ = @Cert.KernelIdeal.defs₀ Bits _ _ := by
  unfold Cert.Kernel.defs₀ Cert.KernelIdeal.defs₀
  refine congrArg _ (funext fun l => funext fun a => ?_)
  fin_cases l
  rfl
set_option maxRecDepth 100000 in
/-- and so are the programs. -/
theorem defs_same : @Cert.Kernel.defs Bits _ _ = @Cert.KernelIdeal.defs Bits _ _ := by
  unfold Cert.Kernel.defs Cert.KernelIdeal.defs
  rw [defs_same₀]
  rfl

/-- The bit-exact program's run, at its own names. -/
theorem run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD, r.2.mem ((c.tc : Thread Cert.Kernel.nD Cert.Kernel.τ).loc Cert.Kernel.main_v1) = XV (F := Bits) m 3 c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  have key : θ_run (Cert.Kernel.defs (F := Bits)) (onTc (τ := Cert.Kernel.τ) (Cert.Kernel.main (F := Bits)))
      = θ_run (Cert.KernelIdeal.defs (F := Bits)) (onTc (τ := Cert.KernelIdeal.τ) (Cert.KernelIdeal.main (F := Bits))) :=
    congrArg (fun D => θ_run D (onTc (τ := Cert.KernelIdeal.τ) (Cert.KernelIdeal.main (F := Bits)))) defs_same
  rw [key]
  exact run_main (F := Bits) m ρ

theorem frame_bits : Cert.quiescent_Kernel := fun m ρ _ =>
  (θ_run Cert.Kernel.defs _ _).mono (fun _ h => ⟨fun c => (h.1 c).2, h.2⟩) (run_bits m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdealProof

end
-- ==== Proof.KI.Math.lean ====
/-
# The kernel's values at the extended reals

At the extended reals a change of format is the identity and a product of matrices is the sum over the contracted
coordinate, so a layer of the kernel, read at one element, is a double sum. Regrouping the sums (addition of extended
reals is associative and commutative; nothing else is used) makes it a block of the reference's layer.
-/
module

public import proofs.«01_k».proof.Proof.KI.Values
public import Idealize.ShloMosaic.Lib.MatmulPlain
public import Idealize.ShloMosaic.Lib.ValueLayout
public import Idealize.ShloMosaic.Lib.Pointwise.Sums
public import Idealize.ShloMosaic.Lib.Layout

@[expose] public section

noncomputable section

namespace Cert.KernelIdealProof

open Cert.KernelIdeal Cert.KernelIdeal.Gen
open Idealize.ShloMosaic hiding ix2 ix3 eq_ix2
open Idealize.ShloMosaic.TcCoe
open Idealize.ShloMosaic.ValueIdx
open scoped BigOperators

/-! ## The two products of matrices -/

theorem prodIn_apply {φ₁ φ₂ : FTy} (X : FVec Ideal S64x1024 φ₁) (w : FVec Ideal S1024x256 φ₂) (i : Fin 64) (j : Fin 256) :
    matmul dot_S64x1024_S1024x256_S64x256_1_0_0_1_n_n none X w (constant S64x256 .f32 0x00000000#32) (ix2 i j)
      = ∑ k : Fin 1024, X (ix2 i k) * w (ix2 k j) := by
  refine (Ideal.matmul_plain_apply (M := 64) (K := 1024) (N := 256) none X w _ i j).trans ?_
  show Ideal.ofBits .f32 0x00000000#32 + _ = _
  rw [Ideal.ofBits_zero_f32, zero_add]

theorem prodOut_apply {φ₁ φ₂ : FTy} (h : FVec Ideal S64x256 φ₁) (w : FVec Ideal S256x1024 φ₂) (i : Fin 64) (j : Fin 1024) :
    matmul dot_S64x256_S256x1024_S64x1024_1_0_0_1_n_n none h w (constant S64x1024 .f32 0x00000000#32) (ix2 i j)
      = ∑ k : Fin 256, h (ix2 i k) * w (ix2 k j) := by
  refine (Ideal.matmul_plain_apply (M := 64) (K := 256) (N := 1024) none h w _ i j).trans ?_
  show Ideal.ofBits .f32 0x00000000#32 + _ = _
  rw [Ideal.ofBits_zero_f32, zero_add]

/-! ## The operations of a layer -/

theorem pay1_eq (x : Vec Ideal S64x1024 .f32) : k0_pay1 x = x := by
  unfold k0_pay1
  simp only [shapeCast_self]

theorem pay2_apply (X : Vec Ideal S64x1024 .f32) (w : Vec Ideal S1024x256 .f32) (i : Fin 64) (j : Fin 256) :
    k0_pay2 X w (ix3 (0 : Fin 1) i j) = ∑ k : Fin 1024, X (ix2 i k) * w (ix2 k j) := by
  unfold k0_pay2
  exact (shapeCast_ab_1ab_apply _ _ _ i j).trans (prodIn_apply (φ₁ := .f32) (φ₂ := .f32) X w i j)

theorem pay27_apply (X : Vec Ideal S64x1024 .f32) (w : Vec Ideal S1024x256 .bf16) (i : Fin 64) (j : Fin 256) :
    k0_pay27 X w (ix3 (0 : Fin 1) i j) = ∑ k : Fin 1024, X (ix2 i k) * w (ix2 k j) := by
  unfold k0_pay27
  exact (shapeCast_ab_1ab_apply _ _ _ i j).trans (prodIn_apply (φ₁ := .bf16) (φ₂ := .bf16) X w i j)

theorem pay10_apply (v : Vec Ideal S1x64x256 .bf16) (i : Fin 64) (j : Fin 256) :
    k0_pay10 v (ix3 (0 : Fin 1) i j) = v (ix3 (0 : Fin 1) i j) := by
  unfold k0_pay10
  exact (shapeCast_ab_1ab_apply _ _ _ i j).trans (shapeCast_1ab_ab_apply v _ i j)

theorem pay13_apply (v : Vec Ideal S64x256 .bf16) (i : Fin 64) (j : Fin 256) :
    k0_pay13 v (ix3 (0 : Fin 1) i j) = v (ix2 i j) :=
  shapeCast_ab_1ab_apply _ _ _ i j

/-- Dropping the unit axis of a chunk. -/
theorem sq_apply (v : Vec Ideal S1x64x256 .bf16) (i : Fin 64) (j : Fin 256) :
    shapeCast S64x256 v shapeCasts_S1x64x256_S64x256 (ix2 i j) = v (ix3 (0 : Fin 1) i j) :=
  shapeCast_1ab_ab_apply v _ i j

theorem pay11_apply (a b c d e f g h : Vec Ideal S1x64x256 .bf16) (i : Fin 64) (j : Fin 256) :
    k0_pay11 a b c d e f g h (ix2 i j)
      = max (a (ix3 (0 : Fin 1) i j) + b (ix3 (0 : Fin 1) i j) + c (ix3 (0 : Fin 1) i j) + d (ix3 (0 : Fin 1) i j)
          + e (ix3 (0 : Fin 1) i j) + f (ix3 (0 : Fin 1) i j) + g (ix3 (0 : Fin 1) i j) + h (ix3 (0 : Fin 1) i j)) 0 := by
  simp only [← sq_apply]
  rw [← Ideal.ofBits_zero_f32]
  rfl

theorem sumF_apply (r : Fin 8 → Vec Ideal S1x64x256 .bf16) (i : Fin 64) (j : Fin 256) :
    sumF r (ix2 i j) = max (∑ s : Fin 8, r s (ix3 (0 : Fin 1) i j)) 0 := by
  unfold sumF k0_pay12
  simp only [shapeCast_self]
  rw [pay11_apply, Fin.sum_univ_eight]

theorem pay17_apply (a : Vec Ideal S1x64x256 .bf16) (w : Vec Ideal S256x1024 .f32) (i : Fin 64) (j : Fin 1024) :
    k0_pay17 a w (ix2 i j) = ∑ k : Fin 256, a (ix3 (0 : Fin 1) i k) * w (ix2 k j) := by
  unfold k0_pay17
  simp only [shapeCast_self, ← sq_apply]
  exact prodOut_apply (φ₁ := .f32) _ w i j

theorem pay18_apply (a : Vec Ideal S1x64x256 .bf16) (w : Vec Ideal S256x1024 .f32) (v : Vec Ideal S64x1024 .f32)
    (i : Fin 64) (j : Fin 1024) :
    k0_pay18 a w v (ix2 i j) = v (ix2 i j) + ∑ k : Fin 256, a (ix3 (0 : Fin 1) i k) * w (ix2 k j) := by
  unfold k0_pay18
  simp only [shapeCast_self, ← sq_apply]
  exact congrArg (v (ix2 i j) + ·) (prodOut_apply (φ₁ := .f32) _ w i j)

theorem pay43_apply (a : Vec Ideal S1x64x256 .bf16) (w : Vec Ideal S256x1024 .bf16) (i : Fin 64) (j : Fin 1024) :
    k0_pay43 a w (ix2 i j) = ∑ k : Fin 256, a (ix3 (0 : Fin 1) i k) * w (ix2 k j) := by
  unfold k0_pay43
  simp only [shapeCast_self, ← sq_apply]
  exact prodOut_apply (φ₁ := .bf16) _ w i j

theorem pay44_apply (a : Vec Ideal S1x64x256 .bf16) (w : Vec Ideal S256x1024 .bf16) (v : Vec Ideal S64x1024 .f32)
    (i : Fin 64) (j : Fin 1024) :
    k0_pay44 a w v (ix2 i j) = v (ix2 i j) + ∑ k : Fin 256, a (ix3 (0 : Fin 1) i k) * w (ix2 k j) := by
  unfold k0_pay44
  simp only [shapeCast_self, ← sq_apply]
  exact congrArg (v (ix2 i j) + ·) (prodOut_apply (φ₁ := .bf16) _ w i j)

theorem pay65_apply (a : Vec Ideal S1x64x256 .bf16) (w : Vec Ideal S256x1024 .bf16) (i : Fin 64) (j : Fin 1024) :
    k0_pay65 a w (ix2 i j) = ∑ k : Fin 256, a (ix3 (0 : Fin 1) i k) * w (ix2 k j) := by
  unfold k0_pay65
  simp only [← sq_apply]
  exact prodOut_apply (φ₁ := .bf16) _ w i j

theorem pay68_apply (a : Vec Ideal S1x64x256 .bf16) (w : Vec Ideal S256x1024 .bf16) (v : Vec Ideal S64x1024 .f32)
    (i : Fin 64) (j : Fin 1024) :
    k0_pay68 a w v (ix2 i j) = v (ix2 i j) + ∑ k : Fin 256, a (ix3 (0 : Fin 1) i k) * w (ix2 k j) := by
  unfold k0_pay68
  simp only [shapeCast_self, ← sq_apply]
  exact congrArg (v (ix2 i j) + ·) (prodOut_apply (φ₁ := .bf16) _ w i j)

/-! ## The weights -/

/-- Column `256 t + j` of an input weight, row `256 t + k` of an output weight. -/
abbrev at256 (t : Fin 8) (j : Fin 256) : Fin 2048 := ⟨t.val * 256 + j.val, by have := t.isLt; have := j.isLt; omega⟩

theorem cin_apply {e : EltTy} (w : Vec Ideal S1x1024x2048 e) (t : Fin 8) (k : Fin 1024) (j : Fin 256) :
    cin w t (ix2 k j) = w (ix3 (0 : Fin 1) k (at256 t j)) := by
  have h : (rC t).emb (ix2 k j) = ix2 k (at256 t j) := by
    funext a
    apply Fin.ext
    match a with
    | ⟨0, _⟩ => exact (Nat.zero_add _).trans (Nat.one_mul _)
    | ⟨1, _⟩ => exact congrArg₂ (· + ·) (Nat.mul_comm _ _) (Nat.one_mul _)
  unfold cin sqI
  rw [h]
  exact shapeCast_1ab_ab_apply w _ k _

theorem rout_apply {e : EltTy} (w : Vec Ideal S1x2048x1024 e) (t : Fin 8) (k : Fin 256) (j : Fin 1024) :
    rout w t (ix2 k j) = w (ix3 (0 : Fin 1) (at256 t k) j) := by
  have h : (rR t).emb (ix2 k j) = ix2 (at256 t k) j := by
    funext a
    apply Fin.ext
    match a with
    | ⟨0, _⟩ => exact congrArg₂ (· + ·) (Nat.mul_comm _ _) (Nat.one_mul _)
    | ⟨1, _⟩ => exact (Nat.zero_add _).trans (Nat.one_mul _)
  unfold rout sqO
  rw [h]
  exact shapeCast_1ab_ab_apply w _ _ j

variable (m : (ℓ : Loc nD τ sig) → Buf (Elt Ideal) ℓ)

theorem w1i_apply (c : Dev nD) (l : Fin 3) (k : Fin 1024) (j : Fin 2048) :
    w1i m c l (ix3 (0 : Fin 1) k j) = winA m c l (ix2 k j) := shapeCast_ab_1ab_apply _ _ _ k j
theorem w1o_apply (c : Dev nD) (l : Fin 3) (k : Fin 2048) (j : Fin 1024) :
    w1o m c l (ix3 (0 : Fin 1) k j) = woutA m c l (ix2 k j) := shapeCast_ab_1ab_apply _ _ _ k j

theorem wib_apply (c : Dev nD) (l : Fin 3) (k : Fin 1024) (j : Fin 2048) :
    wib m c l (ix3 (0 : Fin 1) k j) = winA m c l (ix2 k j) := by
  unfold wib k0_pay41
  exact (shapeCast_ab_1ab_apply _ _ _ k j).trans ((shapeCast_1ab_ab_apply (w1i m c l) _ k j).trans (w1i_apply m c l k j))
theorem wob_apply (c : Dev nD) (l : Fin 3) (k : Fin 2048) (j : Fin 1024) :
    wob m c l (ix3 (0 : Fin 1) k j) = woutA m c l (ix2 k j) := by
  unfold wob k0_pay42
  exact (shapeCast_ab_1ab_apply _ _ _ k j).trans ((shapeCast_1ab_ab_apply (w1o m c l) _ k j).trans (w1o_apply m c l k j))

/-! ## A layer at one element -/

theorem partF_apply (l : Fin 3) (X : Vec Ideal S64x1024 .f32) (c : Dev nD) (t : Fin 8) (i : Fin 64) (j : Fin 256) :
    partF m l.val X c t (ix3 (0 : Fin 1) i j) = ∑ k : Fin 1024, X (ix2 i k) * winA m c l (ix2 k (at256 t j)) := by
  match l with
  | 0 => exact (pay2_apply X _ i j).trans (Finset.sum_congr rfl fun k _ => by rw [cin_apply, w1i_apply])
  | 1 => exact (pay27_apply X _ i j).trans (Finset.sum_congr rfl fun k _ => by rw [cin_apply, wib_apply])
  | 2 => exact (pay27_apply X _ i j).trans (Finset.sum_congr rfl fun k _ => by rw [cin_apply, wib_apply])

theorem rsF_apply (l : Fin 3) (X : Dev nD → Vec Ideal S64x1024 .f32) (t s : Fin 8) (i : Fin 64) (j : Fin 256) :
    rsF m l.val X t s (ix3 (0 : Fin 1) i j) = ∑ k : Fin 1024, X s (ix2 i k) * winA m s l (ix2 k (at256 t j)) := by
  unfold rsF
  split
  · rename_i h; subst h; rw [pay10_apply, partF_apply]
  · rw [partF_apply]

/-- One chunk's term of the second product. -/
def term (l : Fin 3) (a : Fin 8 → Vec Ideal S1x64x256 .bf16) (c : Dev nD) (i : Fin 64) (j : Fin 1024) (t : Fin 8) : EReal :=
  ∑ k : Fin 256, a t (ix3 (0 : Fin 1) i k) * woutA m c l (ix2 (at256 t k) j)

theorem accF_zero (l : Fin 3) (a : Fin 8 → Vec Ideal S1x64x256 .bf16) (c : Dev nD) (i : Fin 64) (j : Fin 1024) :
    accF m l.val a c 0 (ix2 i j) = term m l a c i j 0 := by
  match l with
  | 0 => exact (pay17_apply _ _ i j).trans (Finset.sum_congr rfl fun k _ => by rw [rout_apply, w1o_apply])
  | 1 => exact (pay43_apply _ _ i j).trans (Finset.sum_congr rfl fun k _ => by rw [rout_apply, wob_apply])
  | 2 => exact (pay65_apply _ _ i j).trans (Finset.sum_congr rfl fun k _ => by rw [rout_apply, wob_apply])

theorem accF_succ (l : Fin 3) (a : Fin 8 → Vec Ideal S1x64x256 .bf16) (c : Dev nD) (n : ℕ) (i : Fin 64) (j : Fin 1024) :
    accF m l.val a c (n + 1) (ix2 i j) = accF m l.val a c n (ix2 i j) + term m l a c i j (Fin.ofNat 8 (n + 1)) := by
  match l with
  | 0 => exact (pay18_apply _ _ _ i j).trans (congrArg _ (Finset.sum_congr rfl fun k _ => by rw [rout_apply, w1o_apply]))
  | 1 => exact (pay44_apply _ _ _ i j).trans (congrArg _ (Finset.sum_congr rfl fun k _ => by rw [rout_apply, wob_apply]))
  | 2 => exact (pay68_apply _ _ _ i j).trans (congrArg _ (Finset.sum_congr rfl fun k _ => by rw [rout_apply, wob_apply]))

theorem accF_apply (l : Fin 3) (a : Fin 8 → Vec Ideal S1x64x256 .bf16) (c : Dev nD) (i : Fin 64) (j : Fin 1024) :
    accF m l.val a c 7 (ix2 i j) = ∑ t : Fin 8, term m l a c i j t := by
  rw [Fin.sum_univ_eight]
  simp only [accF_succ m l, accF_zero m l]
  rfl

/-! ## A layer as a block of the reference's -/

/-- The reference's layer, of whole arrays. -/
def hidden (X : Vec Ideal ⟨2, ![64, 8192]⟩ .f32) (W : Vec Ideal ⟨2, ![8192, 2048]⟩ .f32) (i : Fin 64) (j : Fin 2048) : EReal :=
  max (∑ k : Fin 8192, X (ix2 i k) * W (ix2 k j)) 0
def layer (X : Vec Ideal ⟨2, ![64, 8192]⟩ .f32) (W : Vec Ideal ⟨2, ![8192, 2048]⟩ .f32) (V : Vec Ideal ⟨2, ![2048, 8192]⟩ .f32) :
    Vec Ideal ⟨2, ![64, 8192]⟩ .f32 :=
  fun x => ∑ k : Fin 2048, hidden X W (x 0) k * V (ix2 k (x 1))

/-- A position of block `c` in the whole of the long axis. -/
abbrev at1024 (c : Fin 8) (j : Fin 1024) : Fin 8192 := ⟨c.val * 1024 + j.val, by have := c.isLt; have := j.isLt; omega⟩

theorem blockX (c : Fin 8) (X : Vec Ideal ⟨2, ![64, 8192]⟩ .f32) (i : Fin 64) (j : Fin 1024) :
    Layout.block ⟨2, ![64, 1024]⟩ ⟨2, ![64, 8192]⟩ 1 8 c X (by decide) (ix2 i j) = X (ix2 i (at1024 c j)) :=
  congrArg X (funext fun a => Fin.ext (match a with | ⟨0, _⟩ => rfl | ⟨1, _⟩ => rfl))
theorem blockW (c : Fin 8) (W : Vec Ideal ⟨2, ![8192, 2048]⟩ .f32) (i : Fin 1024) (j : Fin 2048) :
    Layout.block ⟨2, ![1024, 2048]⟩ ⟨2, ![8192, 2048]⟩ 0 8 c W (by decide) (ix2 i j) = W (ix2 (at1024 c i) j) :=
  congrArg W (funext fun a => Fin.ext (match a with | ⟨0, _⟩ => rfl | ⟨1, _⟩ => rfl))
theorem blockV (c : Fin 8) (V : Vec Ideal ⟨2, ![2048, 8192]⟩ .f32) (i : Fin 2048) (j : Fin 1024) :
    Layout.block ⟨2, ![2048, 1024]⟩ ⟨2, ![2048, 8192]⟩ 1 8 c V (by decide) (ix2 i j) = V (ix2 i (at1024 c j)) :=
  congrArg V (funext fun a => Fin.ext (match a with | ⟨0, _⟩ => rfl | ⟨1, _⟩ => rfl))

/-- If on every device the layer's input and weights are blocks of whole arrays, so is its result of the layer of those. -/
theorem layF_block (l : Fin 3) (X : Dev nD → Vec Ideal S64x1024 .f32) (X' : Vec Ideal ⟨2, ![64, 8192]⟩ .f32)
    (W : Vec Ideal ⟨2, ![8192, 2048]⟩ .f32) (V : Vec Ideal ⟨2, ![2048, 8192]⟩ .f32)
    (hX : ∀ c : Dev nD, X c = Layout.block ⟨2, ![64, 1024]⟩ ⟨2, ![64, 8192]⟩ 1 8 c X')
    (hW : ∀ c : Dev nD, winA m c l = Layout.block ⟨2, ![1024, 2048]⟩ ⟨2, ![8192, 2048]⟩ 0 8 c W)
    (hV : ∀ c : Dev nD, woutA m c l = Layout.block ⟨2, ![2048, 1024]⟩ ⟨2, ![2048, 8192]⟩ 1 8 c V) (c : Dev nD) :
    layF m l.val X c = Layout.block ⟨2, ![64, 1024]⟩ ⟨2, ![64, 8192]⟩ 1 8 c (layer X' W V) := by
  have hh : ∀ (t : Fin 8) (i : Fin 64) (j : Fin 256),
      k0_pay13 (sumF (rsF m l.val X t)) (ix3 (0 : Fin 1) i j) = hidden X' W i (at256 t j) := fun t i j => by
    rw [pay13_apply, sumF_apply]
    unfold hidden
    rw [Fin.sum_univ_tiles 8 1024 rfl]
    refine congrArg (max · (0 : EReal)) (Finset.sum_congr rfl fun s _ => ?_)
    rw [rsF_apply]
    refine Finset.sum_congr rfl fun k _ => ?_
    rw [hX s, hW s, blockX, blockW]
  funext x
  obtain ⟨i, j, rfl⟩ : ∃ (i : Fin 64) (j : Fin 1024), x = ix2 i j := ⟨x 0, x 1, eq_ix2 x⟩
  rw [blockX]
  unfold layF
  rw [accF_apply]
  show _ = ∑ k : Fin 2048, hidden X' W i k * V (ix2 k (at1024 c j))
  rw [Fin.sum_univ_tiles 8 256 rfl]
  refine Finset.sum_congr rfl fun t _ => ?_
  unfold term
  exact Finset.sum_congr rfl fun k _ => congrArg₂ (· * ·) (hh t i k) ((congrFun (hV c) _).trans (blockV c V _ j))

end Cert.KernelIdealProof

end
-- ==== Proof.KI.Algebraic.lean ====
/-
# The kernel computes the reference

The reference's run ends with three layers of whole arrays; the kernel's with, on every device, its block of them.
-/
module

public import proofs.«01_k».proof.Defs
public import proofs.«01_k».proof.Proof.KI.Run
public import proofs.«01_k».proof.Proof.KI.Math
public import proofs.«01_k».proof.Proof.Gen.ReferenceIdeal
public import proofs.«01_k».proof.Proof.Gen.ReferenceIdeal.Run
public import Idealize.ShloMosaic.Lib.StackMember

@[expose] public section

noncomputable section

namespace Cert.KernelIdealProof

open Idealize.ShloMosaic hiding ix2 ix3 eq_ix2
open Idealize.ShloMosaic.TcCoe
open Idealize.ShloMosaic.ValueIdx
open Idealize.SL.Sem

/-- The reference's layer as its program writes it. -/
def refLayer (X : FVec Ideal Cert.ReferenceIdeal.S64x8192 .f32) (W : FVec Ideal Cert.ReferenceIdeal.S8192x2048 .f32)
    (V : FVec Ideal Cert.ReferenceIdeal.S2048x8192 .f32) : FVec Ideal Cert.ReferenceIdeal.S64x8192 .f32 :=
  Host.dotGeneral Cert.ReferenceIdeal.dot_S64x2048_S2048x8192_S64x8192_1_0_0_1_n_n none
    (maximumf (Host.dotGeneral Cert.ReferenceIdeal.dot_S64x8192_S8192x2048_S64x2048_1_0_0_1_n_n none X W)
      (broadcastInDim Cert.ReferenceIdeal.S64x2048 ![] Cert.ReferenceIdeal.Gen.bcast_S_S64x2048
        (constant Cert.ReferenceIdeal.S_ .f32 0x00000000#32))) V

/-- It is the layer. -/
theorem refLayer_eq (X : FVec Ideal Cert.ReferenceIdeal.S64x8192 .f32) (W : FVec Ideal Cert.ReferenceIdeal.S8192x2048 .f32)
    (V : FVec Ideal Cert.ReferenceIdeal.S2048x8192 .f32) : refLayer X W V = layer X W V := by
  funext x
  obtain ⟨i, j, rfl⟩ : ∃ (i : Fin 64) (j : Fin 8192), x = ix2 i j := ⟨x 0, x 1, eq_ix2 x⟩
  unfold refLayer
  refine (StackMember.dotGeneral_plain_apply (m := 64) (n := 8192) (k := 2048) none _ V i j).trans ?_
  show _ = ∑ k : Fin 2048, hidden X W i k * V (ix2 k j)
  refine Finset.sum_congr rfl fun k _ => congrArg (· * V (ix2 k j)) ?_
  unfold hidden
  refine congrArg₂ max (StackMember.dotGeneral_plain_apply (m := 64) (n := 2048) (k := 8192) none X W i k) ?_
  exact Ideal.ofBits_zero_f32

/-- The block of `x` a device stages is the whole of its argument. -/
theorem xin_eq (m : (ℓ : Loc Cert.KernelIdeal.nD Cert.KernelIdeal.τ Cert.KernelIdeal.sig) → Buf (Elt Ideal) ℓ) (c : Dev Cert.KernelIdeal.nD) :
    xin m c = m ((c.tc : Thread Cert.KernelIdeal.nD Cert.KernelIdeal.τ).loc Cert.KernelIdeal.main_arg0) := by
  unfold xin
  exact in_read (F := Ideal) (m ((c.tc : Thread Cert.KernelIdeal.nD Cert.KernelIdeal.τ).loc Cert.KernelIdeal.main_arg0))

/-- From arguments that are blocks of whole arrays, the result on every device is its block of the three layers of those. -/
theorem result_block (m : (ℓ : Loc Cert.KernelIdeal.nD Cert.KernelIdeal.τ Cert.KernelIdeal.sig) → Buf (Elt Ideal) ℓ)
    (X : FVec Ideal Cert.ReferenceIdeal.S64x8192 .f32)
    (W : Fin 3 → FVec Ideal Cert.ReferenceIdeal.S8192x2048 .f32) (V : Fin 3 → FVec Ideal Cert.ReferenceIdeal.S2048x8192 .f32)
    (hX : ∀ c : Dev Cert.KernelIdeal.nD, m ((c.tc : Thread Cert.KernelIdeal.nD Cert.KernelIdeal.τ).loc Cert.KernelIdeal.main_arg0)
      = Layout.block ⟨2, ![64, 1024]⟩ ⟨2, ![64, 8192]⟩ 1 8 c X)
    (hW : ∀ (l : Fin 3) (c : Dev Cert.KernelIdeal.nD), winA m c l = Layout.block ⟨2, ![1024, 2048]⟩ ⟨2, ![8192, 2048]⟩ 0 8 c (W l))
    (hV : ∀ (l : Fin 3) (c : Dev Cert.KernelIdeal.nD), woutA m c l = Layout.block ⟨2, ![2048, 1024]⟩ ⟨2, ![2048, 8192]⟩ 1 8 c (V l))
    (c : Dev Cert.KernelIdeal.nD) :
    XV m 3 c = Layout.block ⟨2, ![64, 1024]⟩ ⟨2, ![64, 8192]⟩ 1 8 c
      (refLayer (refLayer (refLayer X (W 0) (V 0)) (W 1) (V 1)) (W 2) (V 2)) := by
  rw [refLayer_eq, refLayer_eq, refLayer_eq]
  have h0 : ∀ c : Dev Cert.KernelIdeal.nD, XV m 0 c = Layout.block ⟨2, ![64, 1024]⟩ ⟨2, ![64, 8192]⟩ 1 8 c X :=
    fun c => (pay1_eq (xin m c)).trans ((xin_eq m c).trans (hX c))
  have h1 := layF_block m 0 (XV m 0) X _ _ h0 (hW 0) (hV 0)
  have h2 := layF_block m 1 (XV m 1) _ _ _ h1 (hW 1) (hV 1)
  exact layF_block m 2 (XV m 2) _ _ _ h2 (hW 2) (hV 2) c

/-- From memories in which every device's arguments are its blocks of the reference's, the kernel's result on every device is
its block of the reference's. -/
theorem algebraic : Cert.algebraic_KernelIdeal_ReferenceIdeal := by
  intro m ρ m' ρ' _ hm
  have key := result_block m (m' (((0 : Dev Cert.ReferenceIdeal.nD).tc : Thread Cert.ReferenceIdeal.nD Cert.ReferenceIdeal.τ).loc Cert.ReferenceIdeal.main_arg0))
    (fun
      | 0 => m' (((0 : Dev Cert.ReferenceIdeal.nD).tc : Thread Cert.ReferenceIdeal.nD Cert.ReferenceIdeal.τ).loc Cert.ReferenceIdeal.main_arg1)
      | 1 => m' (((0 : Dev Cert.ReferenceIdeal.nD).tc : Thread Cert.ReferenceIdeal.nD Cert.ReferenceIdeal.τ).loc Cert.ReferenceIdeal.main_arg2)
      | 2 => m' (((0 : Dev Cert.ReferenceIdeal.nD).tc : Thread Cert.ReferenceIdeal.nD Cert.ReferenceIdeal.τ).loc Cert.ReferenceIdeal.main_arg3))
    (fun
      | 0 => m' (((0 : Dev Cert.ReferenceIdeal.nD).tc : Thread Cert.ReferenceIdeal.nD Cert.ReferenceIdeal.τ).loc Cert.ReferenceIdeal.main_arg4)
      | 1 => m' (((0 : Dev Cert.ReferenceIdeal.nD).tc : Thread Cert.ReferenceIdeal.nD Cert.ReferenceIdeal.τ).loc Cert.ReferenceIdeal.main_arg5)
      | 2 => m' (((0 : Dev Cert.ReferenceIdeal.nD).tc : Thread Cert.ReferenceIdeal.nD Cert.ReferenceIdeal.τ).loc Cert.ReferenceIdeal.main_arg6))
    (fun c => (hm c).1)
    (fun
      | 0 => fun c => (hm c).2.1
      | 1 => fun c => (hm c).2.2.1
      | 2 => fun c => (hm c).2.2.2.1)
    (fun
      | 0 => fun c => (hm c).2.2.2.2.1
      | 1 => fun c => (hm c).2.2.2.2.2.1
      | 2 => fun c => (hm c).2.2.2.2.2.2)
  have hr := Cert.ReferenceIdeal.Value.run (F := Ideal) m' ρ'
  refine ⟨refLayer (refLayer (refLayer (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg4)))
    (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg5)))
    (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun r h c => ?_) (run_main (F := Ideal) m ρ)
    refine ⟨((h.1 c).1).trans (key c), (h.1 c).2⟩
  · refine (θ_run Cert.ReferenceIdeal.defs _ _).mono (fun r h => ?_) hr
    refine ⟨(h 0).1.trans ?_, (h 0).2⟩
    unfold refLayer
    rfl

end Cert.KernelIdealProof

end
-- ==== Proof.lean ====
/-
# The claims

The three programs' frames, that the idealization rewrites nothing, and that the kernel computes the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KI.Frames
public import proofs.«01_k».proof.Proof.KI.Algebraic

@[expose] public section

noncomputable section

namespace Cert.Proof

open Cert.KernelIdealProof

theorem claim : Cert.Claim := ⟨Cert.Kernel.Gen.facts, Cert.KernelIdeal.Gen.facts, Cert.ReferenceIdeal.Gen.facts,
  frame_bits, frame_ideal, frame_reference, trivial, algebraic⟩

end Cert.Proof

end
